-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S960x1024 : Shape := ⟨2, ![960, 1024]⟩
abbrev S48 : Shape := ⟨1, ![48]⟩
abbrev S84 : Shape := ⟨1, ![84]⟩
abbrev S_ : Shape := ⟨0, ![]⟩
abbrev S192x512 : Shape := ⟨2, ![192, 512]⟩
abbrev S512x256 : Shape := ⟨2, ![512, 256]⟩
abbrev S192x256 : Shape := ⟨2, ![192, 256]⟩
abbrev S1 : Shape := ⟨1, ![1]⟩
abbrev S128x512 : Shape := ⟨2, ![128, 512]⟩
abbrev S128x256 : Shape := ⟨2, ![128, 256]⟩
abbrev S192x1024 : Shape := ⟨2, ![192, 1024]⟩
abbrev S128x1024 : Shape := ⟨2, ![128, 1024]⟩
abbrev S96x256 : Shape := ⟨2, ![96, 256]⟩
abbrev S64x256 : Shape := ⟨2, ![64, 256]⟩
abbrev S48x256 : Shape := ⟨2, ![48, 256]⟩
abbrev S32x256 : Shape := ⟨2, ![32, 256]⟩
abbrev S24x256 : Shape := ⟨2, ![24, 256]⟩
abbrev S16x256 : Shape := ⟨2, ![16, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S960x1024, .f32⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 267 → Bool
  | ⟨i, _⟩ => dmaSemScopedAt i

abbrev sig : RefSig :=
  (ofTc nBuf bufTy 1 267 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_17 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_16 : BitVec 32 := 1#32
  let v26 : BitVec 32 := Scalar.muli v15 c1_i32_16
  let v27 : BitVec 32 := Scalar.addi c0_i32_17 v26
  v27.toNat
def k0_dev2 (d0 : Dev nD) : Nat :=
  let c0_i32_20 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_19 : BitVec 32 := 1#32
  let v28 : BitVec 32 := Scalar.muli v18 c1_i32_19
  let v29 : BitVec 32 := Scalar.addi c0_i32_20 v28
  v29.toNat
def k0_dev3 (d0 : Dev nD) : Nat :=
  let c0_i32_23 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_22 : BitVec 32 := 1#32
  let v30 : BitVec 32 := Scalar.muli v21 c1_i32_22
  let v31 : BitVec 32 := Scalar.addi c0_i32_23 v30
  v31.toNat
def k0_dev4 (d0 : Dev nD) : Nat :=
  let c0_i32_26 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_25 : BitVec 32 := 1#32
  let v32 : BitVec 32 := Scalar.muli v24 c1_i32_25
  let v33 : BitVec 32 := Scalar.addi c0_i32_26 v32
  v33.toNat
def k0_off1 (d0 : Dev nD) : Fin 2 → Nat :=
  let c0_i32_29 : BitVec 32 := 0#32
  let c1_i32_28 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v34 : BitVec 32 := Scalar.subi c1_i32_28 v8
  let c192_i32 : BitVec 32 := 192#32
  let v35 : BitVec 32 := Scalar.muli v34 c192_i32
  let v36 : BitVec 32 := Scalar.addi c0_i32_29 v35
  let v37 : Index := Scalar.indexCast v36
  let c0 : Index := 0#32
  ![v37.toNat, 0]
def k0_off2 (d0 : Dev nD) : Fin 2 → Nat :=
  let c0_i32_29 : BitVec 32 := 0#32
  let c1_i32_28 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v34 : BitVec 32 := Scalar.subi c1_i32_28 v8
  let c192_i32 : BitVec 32 := 192#32
  let v35 : BitVec 32 := Scalar.muli v34 c192_i32
  let v36 : BitVec 32 := Scalar.addi c0_i32_29 v35
  let v43 : Index := Scalar.indexCast v36
  let c0_32 : Index := 0#32
  ![v43.toNat, 0]
def k0_off3 (d0 : Dev nD) : Fin 2 → Nat :=
  let c0_i32_35 : BitVec 32 := 0#32
  let c1_i32_33 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v47 : BitVec 32 := Scalar.subi c1_i32_33 v8
  let c192_i32_34 : BitVec 32 := 192#32
  let v48 : BitVec 32 := Scalar.muli v47 c192_i32_34
  let v49 : BitVec 32 := Scalar.addi c0_i32_35 v48
  let c0_i32_42 : BitVec 32 := 0#32
  ![v49.toNat, 0]
def k0_dev5 (d0 : Dev nD) : Nat :=
  let c0_i32_39 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_38 : BitVec 32 := 1#32
  let v50 : BitVec 32 := Scalar.muli v15 c1_i32_38
  let v51 : BitVec 32 := Scalar.addi c0_i32_39 v50
  v51.toNat
def k0_off4 (d0 : Dev nD) : Fin 2 → Nat :=
  let c384_i32 : BitVec 32 := 384#32
  let c1_i32_43 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v58 : BitVec 32 := Scalar.subi c1_i32_43 v10
  let c192_i32_44 : BitVec 32 := 192#32
  let v59 : BitVec 32 := Scalar.muli v58 c192_i32_44
  let v60 : BitVec 32 := Scalar.addi c384_i32 v59
  let v61 : Index := Scalar.indexCast v60
  let c0_45 : Index := 0#32
  ![v61.toNat, 0]
def k0_off5 (d0 : Dev nD) : Fin 2 → Nat :=
  let c384_i32 : BitVec 32 := 384#32
  let c1_i32_43 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v58 : BitVec 32 := Scalar.subi c1_i32_43 v10
  let c192_i32_44 : BitVec 32 := 192#32
  let v59 : BitVec 32 := Scalar.muli v58 c192_i32_44
  let v60 : BitVec 32 := Scalar.addi c384_i32 v59
  let v67 : Index := Scalar.indexCast v60
  let c0_49 : Index := 0#32
  ![v67.toNat, 0]
def k0_off6 (d0 : Dev nD) : Fin 2 → Nat :=
  let c384_i32_52 : BitVec 32 := 384#32
  let c1_i32_50 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v71 : BitVec 32 := Scalar.subi c1_i32_50 v10
  let c192_i32_51 : BitVec 32 := 192#32
  let v72 : BitVec 32 := Scalar.muli v71 c192_i32_51
  let v73 : BitVec 32 := Scalar.addi c384_i32_52 v72
  let c0_i32_58 : BitVec 32 := 0#32
  ![v73.toNat, 0]
def k0_dev6 (d0 : Dev nD) : Nat :=
  let c0_i32_56 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_55 : BitVec 32 := 1#32
  let v74 : BitVec 32 := Scalar.muli v18 c1_i32_55
  let v75 : BitVec 32 := Scalar.addi c0_i32_56 v74
  v75.toNat
def k0_off7 (d0 : Dev nD) : Fin 2 → Nat :=
  let c768_i32 : BitVec 32 := 768#32
  let c1_i32_59 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v82 : BitVec 32 := Scalar.subi c1_i32_59 v11
  let c128_i32 : BitVec 32 := 128#32
  let v83 : BitVec 32 := Scalar.muli v82 c128_i32
  let v84 : BitVec 32 := Scalar.addi c768_i32 v83
  let v85 : Index := Scalar.indexCast v84
  let c0_60 : Index := 0#32
  ![v85.toNat, 0]
def k0_off8 (d0 : Dev nD) : Fin 2 → Nat :=
  let c768_i32 : BitVec 32 := 768#32
  let c1_i32_59 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v82 : BitVec 32 := Scalar.subi c1_i32_59 v11
  let c128_i32 : BitVec 32 := 128#32
  let v83 : BitVec 32 := Scalar.muli v82 c128_i32
  let v84 : BitVec 32 := Scalar.addi c768_i32 v83
  let v91 : Index := Scalar.indexCast v84
  let c0_64 : Index := 0#32
  ![v91.toNat, 0]
def k0_off9 (d0 : Dev nD) : Fin 2 → Nat :=
  let c768_i32_67 : BitVec 32 := 768#32
  let c1_i32_65 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v95 : BitVec 32 := Scalar.subi c1_i32_65 v11
  let c128_i32_66 : BitVec 32 := 128#32
  let v96 : BitVec 32 := Scalar.muli v95 c128_i32_66
  let v97 : BitVec 32 := Scalar.addi c768_i32_67 v96
  let c0_i32_73 : BitVec 32 := 0#32
  ![v97.toNat, 0]
def k0_dev7 (d0 : Dev nD) : Nat :=
  let c0_i32_71 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_70 : BitVec 32 := 1#32
  let v98 : BitVec 32 := Scalar.muli v21 c1_i32_70
  let v99 : BitVec 32 := Scalar.addi c0_i32_71 v98
  v99.toNat
def k0_off10 (d0 : Dev nD) : Fin 2 → Nat :=
  let c0_i32_76 : BitVec 32 := 0#32
  let c1_i32_74 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v106 : BitVec 32 := Scalar.subi c1_i32_74 v8
  let c192_i32_75 : BitVec 32 := 192#32
  let v107 : BitVec 32 := Scalar.muli v106 c192_i32_75
  let v108 : BitVec 32 := Scalar.addi c0_i32_76 v107
  let v115 : Index := Scalar.indexCast v108
  let c256_80 : Index := 256#32
  ![v115.toNat, 256]
def k0_off11 (d0 : Dev nD) : Fin 2 → Nat :=
  let c0_i32_83 : BitVec 32 := 0#32
  let c1_i32_81 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v119 : BitVec 32 := Scalar.subi c1_i32_81 v8
  let c192_i32_82 : BitVec 32 := 192#32
  let v120 : BitVec 32 := Scalar.muli v119 c192_i32_82
  let v121 : BitVec 32 := Scalar.addi c0_i32_83 v120
  let c256_i32_89 : BitVec 32 := 256#32
  ![v121.toNat, 256]
def k0_dev8 (d0 : Dev nD) : Nat :=
  let c0_i32_87 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_86 : BitVec 32 := 1#32
  let v122 : BitVec 32 := Scalar.muli v15 c1_i32_86
  let v123 : BitVec 32 := Scalar.addi c0_i32_87 v122
  v123.toNat
def k0_off12 (d0 : Dev nD) : Fin 2 → Nat :=
  let c384_i32_92 : BitVec 32 := 384#32
  let c1_i32_90 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v130 : BitVec 32 := Scalar.subi c1_i32_90 v10
  let c192_i32_91 : BitVec 32 := 192#32
  let v131 : BitVec 32 := Scalar.muli v130 c192_i32_91
  let v132 : BitVec 32 := Scalar.addi c384_i32_92 v131
  let v139 : Index := Scalar.indexCast v132
  let c256_97 : Index := 256#32
  ![v139.toNat, 256]
def k0_off13 (d0 : Dev nD) : Fin 2 → Nat :=
  let c384_i32_100 : BitVec 32 := 384#32
  let c1_i32_98 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v143 : BitVec 32 := Scalar.subi c1_i32_98 v10
  let c192_i32_99 : BitVec 32 := 192#32
  let v144 : BitVec 32 := Scalar.muli v143 c192_i32_99
  let v145 : BitVec 32 := Scalar.addi c384_i32_100 v144
  let c256_i32_107 : BitVec 32 := 256#32
  ![v145.toNat, 256]
def k0_dev9 (d0 : Dev nD) : Nat :=
  let c0_i32_104 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_103 : BitVec 32 := 1#32
  let v146 : BitVec 32 := Scalar.muli v18 c1_i32_103
  let v147 : BitVec 32 := Scalar.addi c0_i32_104 v146
  v147.toNat
def k0_off14 (d0 : Dev nD) : Fin 2 → Nat :=
  let c768_i32_110 : BitVec 32 := 768#32
  let c1_i32_108 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v154 : BitVec 32 := Scalar.subi c1_i32_108 v11
  let c128_i32_109 : BitVec 32 := 128#32
  let v155 : BitVec 32 := Scalar.muli v154 c128_i32_109
  let v156 : BitVec 32 := Scalar.addi c768_i32_110 v155
  let v163 : Index := Scalar.indexCast v156
  let c256_115 : Index := 256#32
  ![v163.toNat, 256]
def k0_off15 (d0 : Dev nD) : Fin 2 → Nat :=
  let c768_i32_118 : BitVec 32 := 768#32
  let c1_i32_116 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v167 : BitVec 32 := Scalar.subi c1_i32_116 v11
  let c128_i32_117 : BitVec 32 := 128#32
  let v168 : BitVec 32 := Scalar.muli v167 c128_i32_117
  let v169 : BitVec 32 := Scalar.addi c768_i32_118 v168
  let c256_i32_124 : BitVec 32 := 256#32
  ![v169.toNat, 256]
def k0_dev10 (d0 : Dev nD) : Nat :=
  let c0_i32_121 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_120 : BitVec 32 := 1#32
  let v170 : BitVec 32 := Scalar.muli v21 c1_i32_120
  let v171 : BitVec 32 := Scalar.addi c0_i32_121 v170
  v171.toNat
def k0_off16 (d0 : Dev nD) : Fin 2 → Nat :=
  let c0_i32_127 : BitVec 32 := 0#32
  let c1_i32_125 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v178 : BitVec 32 := Scalar.subi c1_i32_125 v8
  let c192_i32_126 : BitVec 32 := 192#32
  let v179 : BitVec 32 := Scalar.muli v178 c192_i32_126
  let v180 : BitVec 32 := Scalar.addi c0_i32_127 v179
  let v187 : Index := Scalar.indexCast v180
  let c512_131 : Index := 512#32
  ![v187.toNat, 512]
def k0_off17 (d0 : Dev nD) : Fin 2 → Nat :=
  let c0_i32_134 : BitVec 32 := 0#32
  let c1_i32_132 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v191 : BitVec 32 := Scalar.subi c1_i32_132 v8
  let c192_i32_133 : BitVec 32 := 192#32
  let v192 : BitVec 32 := Scalar.muli v191 c192_i32_133
  let v193 : BitVec 32 := Scalar.addi c0_i32_134 v192
  let c512_i32_139 : BitVec 32 := 512#32
  ![v193.toNat, 512]
def k0_dev11 (d0 : Dev nD) : Nat :=
  let c0_i32_137 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_136 : BitVec 32 := 1#32
  let v194 : BitVec 32 := Scalar.muli v15 c1_i32_136
  let v195 : BitVec 32 := Scalar.addi c0_i32_137 v194
  v195.toNat
def k0_off18 (d0 : Dev nD) : Fin 2 → Nat :=
  let c384_i32_142 : BitVec 32 := 384#32
  let c1_i32_140 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v202 : BitVec 32 := Scalar.subi c1_i32_140 v10
  let c192_i32_141 : BitVec 32 := 192#32
  let v203 : BitVec 32 := Scalar.muli v202 c192_i32_141
  let v204 : BitVec 32 := Scalar.addi c384_i32_142 v203
  let v211 : Index := Scalar.indexCast v204
  let c512_147 : Index := 512#32
  ![v211.toNat, 512]
def k0_off19 (d0 : Dev nD) : Fin 2 → Nat :=
  let c384_i32_150 : BitVec 32 := 384#32
  let c1_i32_148 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v215 : BitVec 32 := Scalar.subi c1_i32_148 v10
  let c192_i32_149 : BitVec 32 := 192#32
  let v216 : BitVec 32 := Scalar.muli v215 c192_i32_149
  let v217 : BitVec 32 := Scalar.addi c384_i32_150 v216
  let c512_i32_156 : BitVec 32 := 512#32
  ![v217.toNat, 512]
def k0_dev12 (d0 : Dev nD) : Nat :=
  let c0_i32_153 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_152 : BitVec 32 := 1#32
  let v218 : BitVec 32 := Scalar.muli v18 c1_i32_152
  let v219 : BitVec 32 := Scalar.addi c0_i32_153 v218
  v219.toNat
def k0_off20 (d0 : Dev nD) : Fin 2 → Nat :=
  let c768_i32_159 : BitVec 32 := 768#32
  let c1_i32_157 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v226 : BitVec 32 := Scalar.subi c1_i32_157 v11
  let c128_i32_158 : BitVec 32 := 128#32
  let v227 : BitVec 32 := Scalar.muli v226 c128_i32_158
  let v228 : BitVec 32 := Scalar.addi c768_i32_159 v227
  let v235 : Index := Scalar.indexCast v228
  let c512_164 : Index := 512#32
  ![v235.toNat, 512]
def k0_off21 (d0 : Dev nD) : Fin 2 → Nat :=
  let c768_i32_167 : BitVec 32 := 768#32
  let c1_i32_165 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v239 : BitVec 32 := Scalar.subi c1_i32_165 v11
  let c128_i32_166 : BitVec 32 := 128#32
  let v240 : BitVec 32 := Scalar.muli v239 c128_i32_166
  let v241 : BitVec 32 := Scalar.addi c768_i32_167 v240
  let c512_i32_173 : BitVec 32 := 512#32
  ![v241.toNat, 512]
def k0_dev13 (d0 : Dev nD) : Nat :=
  let c0_i32_170 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_169 : BitVec 32 := 1#32
  let v242 : BitVec 32 := Scalar.muli v21 c1_i32_169
  let v243 : BitVec 32 := Scalar.addi c0_i32_170 v242
  v243.toNat
def k0_off22 (d0 : Dev nD) : Fin 2 → Nat :=
  let c0_i32_176 : BitVec 32 := 0#32
  let c1_i32_174 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v250 : BitVec 32 := Scalar.subi c1_i32_174 v8
  let c192_i32_175 : BitVec 32 := 192#32
  let v251 : BitVec 32 := Scalar.muli v250 c192_i32_175
  let v252 : BitVec 32 := Scalar.addi c0_i32_176 v251
  let v259 : Index := Scalar.indexCast v252
  let c768_180 : Index := 768#32
  ![v259.toNat, 768]
def k0_off23 (d0 : Dev nD) : Fin 2 → Nat :=
  let c0_i32_183 : BitVec 32 := 0#32
  let c1_i32_181 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v263 : BitVec 32 := Scalar.subi c1_i32_181 v8
  let c192_i32_182 : BitVec 32 := 192#32
  let v264 : BitVec 32 := Scalar.muli v263 c192_i32_182
  let v265 : BitVec 32 := Scalar.addi c0_i32_183 v264
  let c768_i32_189 : BitVec 32 := 768#32
  ![v265.toNat, 768]
def k0_dev14 (d0 : Dev nD) : Nat :=
  let c0_i32_186 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_185 : BitVec 32 := 1#32
  let v266 : BitVec 32 := Scalar.muli v15 c1_i32_185
  let v267 : BitVec 32 := Scalar.addi c0_i32_186 v266
  v267.toNat
def k0_off24 (d0 : Dev nD) : Fin 2 → Nat :=
  let c384_i32_192 : BitVec 32 := 384#32
  let c1_i32_190 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v274 : BitVec 32 := Scalar.subi c1_i32_190 v10
  let c192_i32_191 : BitVec 32 := 192#32
  let v275 : BitVec 32 := Scalar.muli v274 c192_i32_191
  let v276 : BitVec 32 := Scalar.addi c384_i32_192 v275
  let v283 : Index := Scalar.indexCast v276
  let c768_197 : Index := 768#32
  ![v283.toNat, 768]
def k0_off25 (d0 : Dev nD) : Fin 2 → Nat :=
  let c384_i32_200 : BitVec 32 := 384#32
  let c1_i32_198 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v287 : BitVec 32 := Scalar.subi c1_i32_198 v10
  let c192_i32_199 : BitVec 32 := 192#32
  let v288 : BitVec 32 := Scalar.muli v287 c192_i32_199
  let v289 : BitVec 32 := Scalar.addi c384_i32_200 v288
  let c768_i32_206 : BitVec 32 := 768#32
  ![v289.toNat, 768]
def k0_dev15 (d0 : Dev nD) : Nat :=
  let c0_i32_203 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_202 : BitVec 32 := 1#32
  let v290 : BitVec 32 := Scalar.muli v18 c1_i32_202
  let v291 : BitVec 32 := Scalar.addi c0_i32_203 v290
  v291.toNat
def k0_off26 (d0 : Dev nD) : Fin 2 → Nat :=
  let c768_i32_209 : BitVec 32 := 768#32
  let c1_i32_207 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v298 : BitVec 32 := Scalar.subi c1_i32_207 v11
  let c128_i32_208 : BitVec 32 := 128#32
  let v299 : BitVec 32 := Scalar.muli v298 c128_i32_208
  let v300 : BitVec 32 := Scalar.addi c768_i32_209 v299
  let v307 : Index := Scalar.indexCast v300
  let c768_214 : Index := 768#32
  ![v307.toNat, 768]
def k0_off27 (d0 : Dev nD) : Fin 2 → Nat :=
  let c768_i32_217 : BitVec 32 := 768#32
  let c1_i32_215 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v311 : BitVec 32 := Scalar.subi c1_i32_215 v11
  let c128_i32_216 : BitVec 32 := 128#32
  let v312 : BitVec 32 := Scalar.muli v311 c128_i32_216
  let v313 : BitVec 32 := Scalar.addi c768_i32_217 v312
  let c768_i32_223 : BitVec 32 := 768#32
  ![v313.toNat, 768]
def k0_dev16 (d0 : Dev nD) : Nat :=
  let c0_i32_220 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_219 : BitVec 32 := 1#32
  let v314 : BitVec 32 := Scalar.muli v21 c1_i32_219
  let v315 : BitVec 32 := Scalar.addi c0_i32_220 v314
  v315.toNat
def k0_off28 (d0 : Dev nD) : Fin 2 → Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_224 : BitVec 32 := 192#32
  let v322 : BitVec 32 := Scalar.muli v8 c192_i32_224
  let v323 : BitVec 32 := Scalar.addi c0_i32_225 v322
  let v324 : Index := Scalar.indexCast v323
  let c0_226 : Index := 0#32
  ![v324.toNat, 0]
def k0_off29 (d0 : Dev nD) : Fin 2 → Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_224 : BitVec 32 := 192#32
  let v322 : BitVec 32 := Scalar.muli v8 c192_i32_224
  let v323 : BitVec 32 := Scalar.addi c0_i32_225 v322
  let v330 : Index := Scalar.indexCast v323
  let c0_230 : Index := 0#32
  ![v330.toNat, 0]
def k0_off30 (d0 : Dev nD) : Fin 2 → Nat :=
  let c384_i32_232 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_231 : BitVec 32 := 192#32
  let v334 : BitVec 32 := Scalar.muli v10 c192_i32_231
  let v335 : BitVec 32 := Scalar.addi c384_i32_232 v334
  let v336 : Index := Scalar.indexCast v335
  let c0_233 : Index := 0#32
  ![v336.toNat, 0]
def k0_off31 (d0 : Dev nD) : Fin 2 → Nat :=
  let c384_i32_232 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_231 : BitVec 32 := 192#32
  let v334 : BitVec 32 := Scalar.muli v10 c192_i32_231
  let v335 : BitVec 32 := Scalar.addi c384_i32_232 v334
  let v342 : Index := Scalar.indexCast v335
  let c0_237 : Index := 0#32
  ![v342.toNat, 0]
def k0_off32 (d0 : Dev nD) : Fin 2 → Nat :=
  let c768_i32_239 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_238 : BitVec 32 := 128#32
  let v346 : BitVec 32 := Scalar.muli v11 c128_i32_238
  let v347 : BitVec 32 := Scalar.addi c768_i32_239 v346
  let v348 : Index := Scalar.indexCast v347
  let c0_240 : Index := 0#32
  ![v348.toNat, 0]
def k0_off33 (d0 : Dev nD) : Fin 2 → Nat :=
  let c768_i32_239 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_238 : BitVec 32 := 128#32
  let v346 : BitVec 32 := Scalar.muli v11 c128_i32_238
  let v347 : BitVec 32 := Scalar.addi c768_i32_239 v346
  let v354 : Index := Scalar.indexCast v347
  let c0_244 : Index := 0#32
  ![v354.toNat, 0]
def k0_off34 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let v366 : Index := Scalar.indexCast v365
  let c0_254 : Index := 0#32
  ![v366.toNat, 0]
def k0_off35 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c1_i32_258 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v374 : BitVec 32 := Scalar.subi c1_i32_258 v10
  let c96_i32 : BitVec 32 := 96#32
  let v375 : BitVec 32 := Scalar.muli v374 c96_i32
  let v376 : BitVec 32 := Scalar.addi v365 v375
  let c0_i32_264 : BitVec 32 := 0#32
  ![v376.toNat, 0]
def k0_dev17 (d0 : Dev nD) : Nat :=
  let c0_i32_261 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_260 : BitVec 32 := 1#32
  let v377 : BitVec 32 := Scalar.muli v18 c1_i32_260
  let v378 : BitVec 32 := Scalar.addi c0_i32_261 v377
  v378.toNat
def k0_off36 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let v393 : Index := Scalar.indexCast v392
  let c0_274 : Index := 0#32
  ![v393.toNat, 0]
def k0_off37 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_277 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v401 : BitVec 32 := Scalar.subi c1_i32_277 v8
  let c96_i32_278 : BitVec 32 := 96#32
  let v402 : BitVec 32 := Scalar.muli v401 c96_i32_278
  let v403 : BitVec 32 := Scalar.addi v392 v402
  let c0_i32_283 : BitVec 32 := 0#32
  ![v403.toNat, 0]
def k0_dev18 (d0 : Dev nD) : Nat :=
  let c0_i32_281 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_280 : BitVec 32 := 1#32
  let v404 : BitVec 32 := Scalar.muli v15 c1_i32_280
  let v405 : BitVec 32 := Scalar.addi c0_i32_281 v404
  v405.toNat
def k0_off38 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let v420 : Index := Scalar.indexCast v419
  let c0_293 : Index := 0#32
  ![v420.toNat, 0]
def k0_off39 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c1_i32_296 : BitVec 32 := 1#32
  let c2_i32_7 : BitVec 32 := 2#32
  let v12 : BitVec 32 := Scalar.divsi v4 c2_i32_7
  let v428 : BitVec 32 := Scalar.subi c1_i32_296 v12
  let c64_i32 : BitVec 32 := 64#32
  let v429 : BitVec 32 := Scalar.muli v428 c64_i32
  let v430 : BitVec 32 := Scalar.addi v419 v429
  let c0_i32_301 : BitVec 32 := 0#32
  ![v430.toNat, 0]
def k0_dev19 (d0 : Dev nD) : Nat :=
  let c0_i32_299 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_298 : BitVec 32 := 1#32
  let v431 : BitVec 32 := Scalar.muli v24 c1_i32_298
  let v432 : BitVec 32 := Scalar.addi c0_i32_299 v431
  v432.toNat
def k0_off40 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let v447 : Index := Scalar.indexCast v446
  let c256_311 : Index := 256#32
  ![v447.toNat, 256]
def k0_off41 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c1_i32_315 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v455 : BitVec 32 := Scalar.subi c1_i32_315 v10
  let c96_i32_316 : BitVec 32 := 96#32
  let v456 : BitVec 32 := Scalar.muli v455 c96_i32_316
  let v457 : BitVec 32 := Scalar.addi v446 v456
  let c256_i32_322 : BitVec 32 := 256#32
  ![v457.toNat, 256]
def k0_dev20 (d0 : Dev nD) : Nat :=
  let c0_i32_319 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_318 : BitVec 32 := 1#32
  let v458 : BitVec 32 := Scalar.muli v18 c1_i32_318
  let v459 : BitVec 32 := Scalar.addi c0_i32_319 v458
  v459.toNat
def k0_off42 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let v474 : Index := Scalar.indexCast v473
  let c256_332 : Index := 256#32
  ![v474.toNat, 256]
def k0_off43 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_336 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v482 : BitVec 32 := Scalar.subi c1_i32_336 v8
  let c96_i32_337 : BitVec 32 := 96#32
  let v483 : BitVec 32 := Scalar.muli v482 c96_i32_337
  let v484 : BitVec 32 := Scalar.addi v473 v483
  let c256_i32_344 : BitVec 32 := 256#32
  ![v484.toNat, 256]
def k0_dev21 (d0 : Dev nD) : Nat :=
  let c0_i32_341 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_340 : BitVec 32 := 1#32
  let v485 : BitVec 32 := Scalar.muli v15 c1_i32_340
  let v486 : BitVec 32 := Scalar.addi c0_i32_341 v485
  v486.toNat
def k0_off44 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let v501 : Index := Scalar.indexCast v500
  let c256_354 : Index := 256#32
  ![v501.toNat, 256]
def k0_off45 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c1_i32_358 : BitVec 32 := 1#32
  let c2_i32_7 : BitVec 32 := 2#32
  let v12 : BitVec 32 := Scalar.divsi v4 c2_i32_7
  let v509 : BitVec 32 := Scalar.subi c1_i32_358 v12
  let c64_i32_359 : BitVec 32 := 64#32
  let v510 : BitVec 32 := Scalar.muli v509 c64_i32_359
  let v511 : BitVec 32 := Scalar.addi v500 v510
  let c256_i32_365 : BitVec 32 := 256#32
  ![v511.toNat, 256]
def k0_dev22 (d0 : Dev nD) : Nat :=
  let c0_i32_362 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_361 : BitVec 32 := 1#32
  let v512 : BitVec 32 := Scalar.muli v24 c1_i32_361
  let v513 : BitVec 32 := Scalar.addi c0_i32_362 v512
  v513.toNat
def k0_off46 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let v528 : Index := Scalar.indexCast v527
  let c512_375 : Index := 512#32
  ![v528.toNat, 512]
def k0_off47 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c1_i32_379 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v536 : BitVec 32 := Scalar.subi c1_i32_379 v10
  let c96_i32_380 : BitVec 32 := 96#32
  let v537 : BitVec 32 := Scalar.muli v536 c96_i32_380
  let v538 : BitVec 32 := Scalar.addi v527 v537
  let c512_i32_386 : BitVec 32 := 512#32
  ![v538.toNat, 512]
def k0_dev23 (d0 : Dev nD) : Nat :=
  let c0_i32_383 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_382 : BitVec 32 := 1#32
  let v539 : BitVec 32 := Scalar.muli v18 c1_i32_382
  let v540 : BitVec 32 := Scalar.addi c0_i32_383 v539
  v540.toNat
def k0_off48 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let v555 : Index := Scalar.indexCast v554
  let c512_396 : Index := 512#32
  ![v555.toNat, 512]
def k0_off49 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_400 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v563 : BitVec 32 := Scalar.subi c1_i32_400 v8
  let c96_i32_401 : BitVec 32 := 96#32
  let v564 : BitVec 32 := Scalar.muli v563 c96_i32_401
  let v565 : BitVec 32 := Scalar.addi v554 v564
  let c512_i32_407 : BitVec 32 := 512#32
  ![v565.toNat, 512]
def k0_dev24 (d0 : Dev nD) : Nat :=
  let c0_i32_404 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_403 : BitVec 32 := 1#32
  let v566 : BitVec 32 := Scalar.muli v15 c1_i32_403
  let v567 : BitVec 32 := Scalar.addi c0_i32_404 v566
  v567.toNat
def k0_off50 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let v582 : Index := Scalar.indexCast v581
  let c512_417 : Index := 512#32
  ![v582.toNat, 512]
def k0_off51 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c1_i32_421 : BitVec 32 := 1#32
  let c2_i32_7 : BitVec 32 := 2#32
  let v12 : BitVec 32 := Scalar.divsi v4 c2_i32_7
  let v590 : BitVec 32 := Scalar.subi c1_i32_421 v12
  let c64_i32_422 : BitVec 32 := 64#32
  let v591 : BitVec 32 := Scalar.muli v590 c64_i32_422
  let v592 : BitVec 32 := Scalar.addi v581 v591
  let c512_i32_428 : BitVec 32 := 512#32
  ![v592.toNat, 512]
def k0_dev25 (d0 : Dev nD) : Nat :=
  let c0_i32_425 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_424 : BitVec 32 := 1#32
  let v593 : BitVec 32 := Scalar.muli v24 c1_i32_424
  let v594 : BitVec 32 := Scalar.addi c0_i32_425 v593
  v594.toNat
def k0_off52 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let v609 : Index := Scalar.indexCast v608
  let c768_438 : Index := 768#32
  ![v609.toNat, 768]
def k0_off53 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c1_i32_442 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v617 : BitVec 32 := Scalar.subi c1_i32_442 v10
  let c96_i32_443 : BitVec 32 := 96#32
  let v618 : BitVec 32 := Scalar.muli v617 c96_i32_443
  let v619 : BitVec 32 := Scalar.addi v608 v618
  let c768_i32_449 : BitVec 32 := 768#32
  ![v619.toNat, 768]
def k0_dev26 (d0 : Dev nD) : Nat :=
  let c0_i32_446 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_445 : BitVec 32 := 1#32
  let v620 : BitVec 32 := Scalar.muli v18 c1_i32_445
  let v621 : BitVec 32 := Scalar.addi c0_i32_446 v620
  v621.toNat
def k0_off54 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let v636 : Index := Scalar.indexCast v635
  let c768_459 : Index := 768#32
  ![v636.toNat, 768]
def k0_off55 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_463 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v644 : BitVec 32 := Scalar.subi c1_i32_463 v8
  let c96_i32_464 : BitVec 32 := 96#32
  let v645 : BitVec 32 := Scalar.muli v644 c96_i32_464
  let v646 : BitVec 32 := Scalar.addi v635 v645
  let c768_i32_470 : BitVec 32 := 768#32
  ![v646.toNat, 768]
def k0_dev27 (d0 : Dev nD) : Nat :=
  let c0_i32_467 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_466 : BitVec 32 := 1#32
  let v647 : BitVec 32 := Scalar.muli v15 c1_i32_466
  let v648 : BitVec 32 := Scalar.addi c0_i32_467 v647
  v648.toNat
def k0_off56 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let v663 : Index := Scalar.indexCast v662
  let c768_480 : Index := 768#32
  ![v663.toNat, 768]
def k0_off57 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c1_i32_484 : BitVec 32 := 1#32
  let c2_i32_7 : BitVec 32 := 2#32
  let v12 : BitVec 32 := Scalar.divsi v4 c2_i32_7
  let v671 : BitVec 32 := Scalar.subi c1_i32_484 v12
  let c64_i32_485 : BitVec 32 := 64#32
  let v672 : BitVec 32 := Scalar.muli v671 c64_i32_485
  let v673 : BitVec 32 := Scalar.addi v662 v672
  let c768_i32_491 : BitVec 32 := 768#32
  ![v673.toNat, 768]
def k0_dev28 (d0 : Dev nD) : Nat :=
  let c0_i32_488 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_487 : BitVec 32 := 1#32
  let v674 : BitVec 32 := Scalar.muli v24 c1_i32_487
  let v675 : BitVec 32 := Scalar.addi c0_i32_488 v674
  v675.toNat
def k0_off58 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let v690 : Index := Scalar.indexCast v689
  let c0_500 : Index := 0#32
  ![v690.toNat, 0]
def k0_off59 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c1_i32_503 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v698 : BitVec 32 := Scalar.subi c1_i32_503 v11
  let c48_i32 : BitVec 32 := 48#32
  let v699 : BitVec 32 := Scalar.muli v698 c48_i32
  let v700 : BitVec 32 := Scalar.addi v689 v699
  let c0_i32_508 : BitVec 32 := 0#32
  ![v700.toNat, 0]
def k0_dev29 (d0 : Dev nD) : Nat :=
  let c0_i32_506 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_505 : BitVec 32 := 1#32
  let v701 : BitVec 32 := Scalar.muli v21 c1_i32_505
  let v702 : BitVec 32 := Scalar.addi c0_i32_506 v701
  v702.toNat
def k0_off60 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let v717 : Index := Scalar.indexCast v716
  let c0_517 : Index := 0#32
  ![v717.toNat, 0]
def k0_off61 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c1_i32_520 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v725 : BitVec 32 := Scalar.subi c1_i32_520 v11
  let c48_i32_521 : BitVec 32 := 48#32
  let v726 : BitVec 32 := Scalar.muli v725 c48_i32_521
  let v727 : BitVec 32 := Scalar.addi v716 v726
  let c0_i32_526 : BitVec 32 := 0#32
  ![v727.toNat, 0]
def k0_dev30 (d0 : Dev nD) : Nat :=
  let c0_i32_524 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_523 : BitVec 32 := 1#32
  let v728 : BitVec 32 := Scalar.muli v21 c1_i32_523
  let v729 : BitVec 32 := Scalar.addi c0_i32_524 v728
  v729.toNat
def k0_off62 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let v744 : Index := Scalar.indexCast v743
  let c0_535 : Index := 0#32
  ![v744.toNat, 0]
def k0_off63 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c1_i32_538 : BitVec 32 := 1#32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v752 : BitVec 32 := Scalar.subi c1_i32_538 v8
  let c32_i32 : BitVec 32 := 32#32
  let v753 : BitVec 32 := Scalar.muli v752 c32_i32
  let v754 : BitVec 32 := Scalar.addi v743 v753
  let c0_i32_543 : BitVec 32 := 0#32
  ![v754.toNat, 0]
def k0_dev31 (d0 : Dev nD) : Nat :=
  let c0_i32_541 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_540 : BitVec 32 := 1#32
  let v755 : BitVec 32 := Scalar.muli v15 c1_i32_540
  let v756 : BitVec 32 := Scalar.addi c0_i32_541 v755
  v756.toNat
def k0_off64 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let v771 : Index := Scalar.indexCast v770
  let c256_552 : Index := 256#32
  ![v771.toNat, 256]
def k0_off65 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c1_i32_556 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v779 : BitVec 32 := Scalar.subi c1_i32_556 v11
  let c48_i32_557 : BitVec 32 := 48#32
  let v780 : BitVec 32 := Scalar.muli v779 c48_i32_557
  let v781 : BitVec 32 := Scalar.addi v770 v780
  let c256_i32_563 : BitVec 32 := 256#32
  ![v781.toNat, 256]
def k0_dev32 (d0 : Dev nD) : Nat :=
  let c0_i32_560 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_559 : BitVec 32 := 1#32
  let v782 : BitVec 32 := Scalar.muli v21 c1_i32_559
  let v783 : BitVec 32 := Scalar.addi c0_i32_560 v782
  v783.toNat
def k0_off66 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let v798 : Index := Scalar.indexCast v797
  let c256_572 : Index := 256#32
  ![v798.toNat, 256]
def k0_off67 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c1_i32_576 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v806 : BitVec 32 := Scalar.subi c1_i32_576 v11
  let c48_i32_577 : BitVec 32 := 48#32
  let v807 : BitVec 32 := Scalar.muli v806 c48_i32_577
  let v808 : BitVec 32 := Scalar.addi v797 v807
  let c256_i32_583 : BitVec 32 := 256#32
  ![v808.toNat, 256]
def k0_dev33 (d0 : Dev nD) : Nat :=
  let c0_i32_580 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_579 : BitVec 32 := 1#32
  let v809 : BitVec 32 := Scalar.muli v21 c1_i32_579
  let v810 : BitVec 32 := Scalar.addi c0_i32_580 v809
  v810.toNat
def k0_off68 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let v825 : Index := Scalar.indexCast v824
  let c256_592 : Index := 256#32
  ![v825.toNat, 256]
def k0_off69 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c1_i32_596 : BitVec 32 := 1#32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v833 : BitVec 32 := Scalar.subi c1_i32_596 v8
  let c32_i32_597 : BitVec 32 := 32#32
  let v834 : BitVec 32 := Scalar.muli v833 c32_i32_597
  let v835 : BitVec 32 := Scalar.addi v824 v834
  let c256_i32_603 : BitVec 32 := 256#32
  ![v835.toNat, 256]
def k0_dev34 (d0 : Dev nD) : Nat :=
  let c0_i32_600 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_599 : BitVec 32 := 1#32
  let v836 : BitVec 32 := Scalar.muli v15 c1_i32_599
  let v837 : BitVec 32 := Scalar.addi c0_i32_600 v836
  v837.toNat
def k0_off70 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let v852 : Index := Scalar.indexCast v851
  let c512_612 : Index := 512#32
  ![v852.toNat, 512]
def k0_off71 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c1_i32_616 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v860 : BitVec 32 := Scalar.subi c1_i32_616 v11
  let c48_i32_617 : BitVec 32 := 48#32
  let v861 : BitVec 32 := Scalar.muli v860 c48_i32_617
  let v862 : BitVec 32 := Scalar.addi v851 v861
  let c512_i32_623 : BitVec 32 := 512#32
  ![v862.toNat, 512]
def k0_dev35 (d0 : Dev nD) : Nat :=
  let c0_i32_620 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_619 : BitVec 32 := 1#32
  let v863 : BitVec 32 := Scalar.muli v21 c1_i32_619
  let v864 : BitVec 32 := Scalar.addi c0_i32_620 v863
  v864.toNat
def k0_off72 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let v879 : Index := Scalar.indexCast v878
  let c512_632 : Index := 512#32
  ![v879.toNat, 512]
def k0_off73 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c1_i32_636 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v887 : BitVec 32 := Scalar.subi c1_i32_636 v11
  let c48_i32_637 : BitVec 32 := 48#32
  let v888 : BitVec 32 := Scalar.muli v887 c48_i32_637
  let v889 : BitVec 32 := Scalar.addi v878 v888
  let c512_i32_643 : BitVec 32 := 512#32
  ![v889.toNat, 512]
def k0_dev36 (d0 : Dev nD) : Nat :=
  let c0_i32_640 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_639 : BitVec 32 := 1#32
  let v890 : BitVec 32 := Scalar.muli v21 c1_i32_639
  let v891 : BitVec 32 := Scalar.addi c0_i32_640 v890
  v891.toNat
def k0_off74 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let v906 : Index := Scalar.indexCast v905
  let c512_652 : Index := 512#32
  ![v906.toNat, 512]
def k0_off75 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c1_i32_656 : BitVec 32 := 1#32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v914 : BitVec 32 := Scalar.subi c1_i32_656 v8
  let c32_i32_657 : BitVec 32 := 32#32
  let v915 : BitVec 32 := Scalar.muli v914 c32_i32_657
  let v916 : BitVec 32 := Scalar.addi v905 v915
  let c512_i32_664 : BitVec 32 := 512#32
  ![v916.toNat, 512]
def k0_dev37 (d0 : Dev nD) : Nat :=
  let c0_i32_661 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_660 : BitVec 32 := 1#32
  let v917 : BitVec 32 := Scalar.muli v15 c1_i32_660
  let v918 : BitVec 32 := Scalar.addi c0_i32_661 v917
  v918.toNat
def k0_off76 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let v933 : Index := Scalar.indexCast v932
  let c768_673 : Index := 768#32
  ![v933.toNat, 768]
def k0_off77 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c1_i32_677 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v941 : BitVec 32 := Scalar.subi c1_i32_677 v11
  let c48_i32_678 : BitVec 32 := 48#32
  let v942 : BitVec 32 := Scalar.muli v941 c48_i32_678
  let v943 : BitVec 32 := Scalar.addi v932 v942
  let c768_i32_684 : BitVec 32 := 768#32
  ![v943.toNat, 768]
def k0_dev38 (d0 : Dev nD) : Nat :=
  let c0_i32_681 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_680 : BitVec 32 := 1#32
  let v944 : BitVec 32 := Scalar.muli v21 c1_i32_680
  let v945 : BitVec 32 := Scalar.addi c0_i32_681 v944
  v945.toNat
def k0_off78 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let v960 : Index := Scalar.indexCast v959
  let c768_693 : Index := 768#32
  ![v960.toNat, 768]
def k0_off79 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c1_i32_697 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v968 : BitVec 32 := Scalar.subi c1_i32_697 v11
  let c48_i32_698 : BitVec 32 := 48#32
  let v969 : BitVec 32 := Scalar.muli v968 c48_i32_698
  let v970 : BitVec 32 := Scalar.addi v959 v969
  let c768_i32_704 : BitVec 32 := 768#32
  ![v970.toNat, 768]
def k0_dev39 (d0 : Dev nD) : Nat :=
  let c0_i32_701 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_700 : BitVec 32 := 1#32
  let v971 : BitVec 32 := Scalar.muli v21 c1_i32_700
  let v972 : BitVec 32 := Scalar.addi c0_i32_701 v971
  v972.toNat
def k0_off80 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let v987 : Index := Scalar.indexCast v986
  let c768_713 : Index := 768#32
  ![v987.toNat, 768]
def k0_off81 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c1_i32_717 : BitVec 32 := 1#32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v995 : BitVec 32 := Scalar.subi c1_i32_717 v8
  let c32_i32_718 : BitVec 32 := 32#32
  let v996 : BitVec 32 := Scalar.muli v995 c32_i32_718
  let v997 : BitVec 32 := Scalar.addi v986 v996
  let c768_i32_724 : BitVec 32 := 768#32
  ![v997.toNat, 768]
def k0_dev40 (d0 : Dev nD) : Nat :=
  let c0_i32_721 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_720 : BitVec 32 := 1#32
  let v998 : BitVec 32 := Scalar.muli v15 c1_i32_720
  let v999 : BitVec 32 := Scalar.addi c0_i32_721 v998
  v999.toNat
def k0_off82 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let v1014 : Index := Scalar.indexCast v1013
  let c0_733 : Index := 0#32
  ![v1014.toNat, 0]
def k0_off83 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let c1_i32_736 : BitVec 32 := 1#32
  let c2_i32_7 : BitVec 32 := 2#32
  let v12 : BitVec 32 := Scalar.divsi v4 c2_i32_7
  let v1022 : BitVec 32 := Scalar.subi c1_i32_736 v12
  let c24_i32_737 : BitVec 32 := 24#32
  let v1023 : BitVec 32 := Scalar.muli v1022 c24_i32_737
  let v1024 : BitVec 32 := Scalar.addi v1013 v1023
  let c0_i32_742 : BitVec 32 := 0#32
  ![v1024.toNat, 0]
def k0_dev41 (d0 : Dev nD) : Nat :=
  let c0_i32_740 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_739 : BitVec 32 := 1#32
  let v1025 : BitVec 32 := Scalar.muli v24 c1_i32_739
  let v1026 : BitVec 32 := Scalar.addi c0_i32_740 v1025
  v1026.toNat
def k0_off84 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let v1041 : Index := Scalar.indexCast v1040
  let c0_751 : Index := 0#32
  ![v1041.toNat, 0]
def k0_off85 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let c1_i32_754 : BitVec 32 := 1#32
  let c2_i32_7 : BitVec 32 := 2#32
  let v12 : BitVec 32 := Scalar.divsi v4 c2_i32_7
  let v1049 : BitVec 32 := Scalar.subi c1_i32_754 v12
  let c24_i32_755 : BitVec 32 := 24#32
  let v1050 : BitVec 32 := Scalar.muli v1049 c24_i32_755
  let v1051 : BitVec 32 := Scalar.addi v1040 v1050
  let c0_i32_760 : BitVec 32 := 0#32
  ![v1051.toNat, 0]
def k0_dev42 (d0 : Dev nD) : Nat :=
  let c0_i32_758 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_757 : BitVec 32 := 1#32
  let v1052 : BitVec 32 := Scalar.muli v24 c1_i32_757
  let v1053 : BitVec 32 := Scalar.addi c0_i32_758 v1052
  v1053.toNat
def k0_off86 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let v1068 : Index := Scalar.indexCast v1067
  let c0_769 : Index := 0#32
  ![v1068.toNat, 0]
def k0_off87 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let c1_i32_772 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v1076 : BitVec 32 := Scalar.subi c1_i32_772 v10
  let c16_i32_773 : BitVec 32 := 16#32
  let v1077 : BitVec 32 := Scalar.muli v1076 c16_i32_773
  let v1078 : BitVec 32 := Scalar.addi v1067 v1077
  let c0_i32_778 : BitVec 32 := 0#32
  ![v1078.toNat, 0]
def k0_dev43 (d0 : Dev nD) : Nat :=
  let c0_i32_776 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_775 : BitVec 32 := 1#32
  let v1079 : BitVec 32 := Scalar.muli v18 c1_i32_775
  let v1080 : BitVec 32 := Scalar.addi c0_i32_776 v1079
  v1080.toNat
def k0_off88 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let v1095 : Index := Scalar.indexCast v1094
  let c256_787 : Index := 256#32
  ![v1095.toNat, 256]
def k0_off89 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let c1_i32_791 : BitVec 32 := 1#32
  let c2_i32_7 : BitVec 32 := 2#32
  let v12 : BitVec 32 := Scalar.divsi v4 c2_i32_7
  let v1103 : BitVec 32 := Scalar.subi c1_i32_791 v12
  let c24_i32_792 : BitVec 32 := 24#32
  let v1104 : BitVec 32 := Scalar.muli v1103 c24_i32_792
  let v1105 : BitVec 32 := Scalar.addi v1094 v1104
  let c256_i32_798 : BitVec 32 := 256#32
  ![v1105.toNat, 256]
def k0_dev44 (d0 : Dev nD) : Nat :=
  let c0_i32_795 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_794 : BitVec 32 := 1#32
  let v1106 : BitVec 32 := Scalar.muli v24 c1_i32_794
  let v1107 : BitVec 32 := Scalar.addi c0_i32_795 v1106
  v1107.toNat
def k0_off90 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let v1122 : Index := Scalar.indexCast v1121
  let c256_807 : Index := 256#32
  ![v1122.toNat, 256]
def k0_off91 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let c1_i32_811 : BitVec 32 := 1#32
  let c2_i32_7 : BitVec 32 := 2#32
  let v12 : BitVec 32 := Scalar.divsi v4 c2_i32_7
  let v1130 : BitVec 32 := Scalar.subi c1_i32_811 v12
  let c24_i32_812 : BitVec 32 := 24#32
  let v1131 : BitVec 32 := Scalar.muli v1130 c24_i32_812
  let v1132 : BitVec 32 := Scalar.addi v1121 v1131
  let c256_i32_818 : BitVec 32 := 256#32
  ![v1132.toNat, 256]
def k0_dev45 (d0 : Dev nD) : Nat :=
  let c0_i32_815 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_814 : BitVec 32 := 1#32
  let v1133 : BitVec 32 := Scalar.muli v24 c1_i32_814
  let v1134 : BitVec 32 := Scalar.addi c0_i32_815 v1133
  v1134.toNat
def k0_off92 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let v1149 : Index := Scalar.indexCast v1148
  let c256_827 : Index := 256#32
  ![v1149.toNat, 256]
def k0_off93 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let c1_i32_831 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v1157 : BitVec 32 := Scalar.subi c1_i32_831 v10
  let c16_i32_832 : BitVec 32 := 16#32
  let v1158 : BitVec 32 := Scalar.muli v1157 c16_i32_832
  let v1159 : BitVec 32 := Scalar.addi v1148 v1158
  let c256_i32_838 : BitVec 32 := 256#32
  ![v1159.toNat, 256]
def k0_dev46 (d0 : Dev nD) : Nat :=
  let c0_i32_835 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_834 : BitVec 32 := 1#32
  let v1160 : BitVec 32 := Scalar.muli v18 c1_i32_834
  let v1161 : BitVec 32 := Scalar.addi c0_i32_835 v1160
  v1161.toNat
def k0_off94 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let v1176 : Index := Scalar.indexCast v1175
  let c512_847 : Index := 512#32
  ![v1176.toNat, 512]
def k0_off95 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let c1_i32_851 : BitVec 32 := 1#32
  let c2_i32_7 : BitVec 32 := 2#32
  let v12 : BitVec 32 := Scalar.divsi v4 c2_i32_7
  let v1184 : BitVec 32 := Scalar.subi c1_i32_851 v12
  let c24_i32_852 : BitVec 32 := 24#32
  let v1185 : BitVec 32 := Scalar.muli v1184 c24_i32_852
  let v1186 : BitVec 32 := Scalar.addi v1175 v1185
  let c512_i32_858 : BitVec 32 := 512#32
  ![v1186.toNat, 512]
def k0_dev47 (d0 : Dev nD) : Nat :=
  let c0_i32_855 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_854 : BitVec 32 := 1#32
  let v1187 : BitVec 32 := Scalar.muli v24 c1_i32_854
  let v1188 : BitVec 32 := Scalar.addi c0_i32_855 v1187
  v1188.toNat
def k0_off96 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let v1203 : Index := Scalar.indexCast v1202
  let c512_867 : Index := 512#32
  ![v1203.toNat, 512]
def k0_off97 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let c1_i32_871 : BitVec 32 := 1#32
  let c2_i32_7 : BitVec 32 := 2#32
  let v12 : BitVec 32 := Scalar.divsi v4 c2_i32_7
  let v1211 : BitVec 32 := Scalar.subi c1_i32_871 v12
  let c24_i32_872 : BitVec 32 := 24#32
  let v1212 : BitVec 32 := Scalar.muli v1211 c24_i32_872
  let v1213 : BitVec 32 := Scalar.addi v1202 v1212
  let c512_i32_878 : BitVec 32 := 512#32
  ![v1213.toNat, 512]
def k0_dev48 (d0 : Dev nD) : Nat :=
  let c0_i32_875 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_874 : BitVec 32 := 1#32
  let v1214 : BitVec 32 := Scalar.muli v24 c1_i32_874
  let v1215 : BitVec 32 := Scalar.addi c0_i32_875 v1214
  v1215.toNat
def k0_off98 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let v1230 : Index := Scalar.indexCast v1229
  let c512_887 : Index := 512#32
  ![v1230.toNat, 512]
def k0_off99 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let c1_i32_891 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v1238 : BitVec 32 := Scalar.subi c1_i32_891 v10
  let c16_i32_892 : BitVec 32 := 16#32
  let v1239 : BitVec 32 := Scalar.muli v1238 c16_i32_892
  let v1240 : BitVec 32 := Scalar.addi v1229 v1239
  let c512_i32_898 : BitVec 32 := 512#32
  ![v1240.toNat, 512]
def k0_dev49 (d0 : Dev nD) : Nat :=
  let c0_i32_895 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_894 : BitVec 32 := 1#32
  let v1241 : BitVec 32 := Scalar.muli v18 c1_i32_894
  let v1242 : BitVec 32 := Scalar.addi c0_i32_895 v1241
  v1242.toNat
def k0_off100 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let v1257 : Index := Scalar.indexCast v1256
  let c768_907 : Index := 768#32
  ![v1257.toNat, 768]
def k0_off101 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let c1_i32_911 : BitVec 32 := 1#32
  let c2_i32_7 : BitVec 32 := 2#32
  let v12 : BitVec 32 := Scalar.divsi v4 c2_i32_7
  let v1265 : BitVec 32 := Scalar.subi c1_i32_911 v12
  let c24_i32_912 : BitVec 32 := 24#32
  let v1266 : BitVec 32 := Scalar.muli v1265 c24_i32_912
  let v1267 : BitVec 32 := Scalar.addi v1256 v1266
  let c768_i32_918 : BitVec 32 := 768#32
  ![v1267.toNat, 768]
def k0_dev50 (d0 : Dev nD) : Nat :=
  let c0_i32_915 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_914 : BitVec 32 := 1#32
  let v1268 : BitVec 32 := Scalar.muli v24 c1_i32_914
  let v1269 : BitVec 32 := Scalar.addi c0_i32_915 v1268
  v1269.toNat
def k0_off102 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let v1284 : Index := Scalar.indexCast v1283
  let c768_927 : Index := 768#32
  ![v1284.toNat, 768]
def k0_off103 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let c1_i32_931 : BitVec 32 := 1#32
  let c2_i32_7 : BitVec 32 := 2#32
  let v12 : BitVec 32 := Scalar.divsi v4 c2_i32_7
  let v1292 : BitVec 32 := Scalar.subi c1_i32_931 v12
  let c24_i32_932 : BitVec 32 := 24#32
  let v1293 : BitVec 32 := Scalar.muli v1292 c24_i32_932
  let v1294 : BitVec 32 := Scalar.addi v1283 v1293
  let c768_i32_938 : BitVec 32 := 768#32
  ![v1294.toNat, 768]
def k0_dev51 (d0 : Dev nD) : Nat :=
  let c0_i32_935 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_934 : BitVec 32 := 1#32
  let v1295 : BitVec 32 := Scalar.muli v24 c1_i32_934
  let v1296 : BitVec 32 := Scalar.addi c0_i32_935 v1295
  v1296.toNat
def k0_off104 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let v1311 : Index := Scalar.indexCast v1310
  let c768_947 : Index := 768#32
  ![v1311.toNat, 768]
def k0_off105 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let c1_i32_951 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v1319 : BitVec 32 := Scalar.subi c1_i32_951 v10
  let c16_i32_952 : BitVec 32 := 16#32
  let v1320 : BitVec 32 := Scalar.muli v1319 c16_i32_952
  let v1321 : BitVec 32 := Scalar.addi v1310 v1320
  let c768_i32_958 : BitVec 32 := 768#32
  ![v1321.toNat, 768]
def k0_dev52 (d0 : Dev nD) : Nat :=
  let c0_i32_955 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_954 : BitVec 32 := 1#32
  let v1322 : BitVec 32 := Scalar.muli v18 c1_i32_954
  let v1323 : BitVec 32 := Scalar.addi c0_i32_955 v1322
  v1323.toNat
def k0_off106 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let c2_i32_7 : BitVec 32 := 2#32
  let v12 : BitVec 32 := Scalar.divsi v4 c2_i32_7
  let c24_i32_966 : BitVec 32 := 24#32
  let v1336 : BitVec 32 := Scalar.muli v12 c24_i32_966
  let v1337 : BitVec 32 := Scalar.addi v1013 v1336
  let v1338 : Index := Scalar.indexCast v1337
  let c0_967 : Index := 0#32
  ![v1338.toNat, 0]
def k0_off107 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let c2_i32_7 : BitVec 32 := 2#32
  let v12 : BitVec 32 := Scalar.divsi v4 c2_i32_7
  let c24_i32_966 : BitVec 32 := 24#32
  let v1336 : BitVec 32 := Scalar.muli v12 c24_i32_966
  let v1337 : BitVec 32 := Scalar.addi v1013 v1336
  let c0_i32_980 : BitVec 32 := 0#32
  ![v1337.toNat, 0]
def k0_dev53 (d0 : Dev nD) : Nat :=
  let c0_i32_979 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_978 : BitVec 32 := 1#32
  let v1363 : BitVec 32 := Scalar.muli v24 c1_i32_978
  let v1364 : BitVec 32 := Scalar.addi c0_i32_979 v1363
  v1364.toNat
def k0_dev54 (d0 : Dev nD) : Nat :=
  let c0_i32_985 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_984 : BitVec 32 := 1#32
  let v1371 : BitVec 32 := Scalar.muli v21 c1_i32_984
  let v1372 : BitVec 32 := Scalar.addi c0_i32_985 v1371
  v1372.toNat
def k0_off108 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let c2_i32_7 : BitVec 32 := 2#32
  let v12 : BitVec 32 := Scalar.divsi v4 c2_i32_7
  let c24_i32_995 : BitVec 32 := 24#32
  let v1385 : BitVec 32 := Scalar.muli v12 c24_i32_995
  let v1386 : BitVec 32 := Scalar.addi v1040 v1385
  let v1387 : Index := Scalar.indexCast v1386
  let c0_996 : Index := 0#32
  ![v1387.toNat, 0]
def k0_off109 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let c2_i32_7 : BitVec 32 := 2#32
  let v12 : BitVec 32 := Scalar.divsi v4 c2_i32_7
  let c24_i32_995 : BitVec 32 := 24#32
  let v1385 : BitVec 32 := Scalar.muli v12 c24_i32_995
  let v1386 : BitVec 32 := Scalar.addi v1040 v1385
  let c0_i32_1009 : BitVec 32 := 0#32
  ![v1386.toNat, 0]
def k0_dev55 (d0 : Dev nD) : Nat :=
  let c0_i32_1008 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1007 : BitVec 32 := 1#32
  let v1412 : BitVec 32 := Scalar.muli v24 c1_i32_1007
  let v1413 : BitVec 32 := Scalar.addi c0_i32_1008 v1412
  v1413.toNat
def k0_dev56 (d0 : Dev nD) : Nat :=
  let c0_i32_1014 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1013 : BitVec 32 := 1#32
  let v1420 : BitVec 32 := Scalar.muli v21 c1_i32_1013
  let v1421 : BitVec 32 := Scalar.addi c0_i32_1014 v1420
  v1421.toNat
def k0_off110 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1024 : BitVec 32 := 16#32
  let v1434 : BitVec 32 := Scalar.muli v10 c16_i32_1024
  let v1435 : BitVec 32 := Scalar.addi v1067 v1434
  let v1436 : Index := Scalar.indexCast v1435
  let c0_1025 : Index := 0#32
  ![v1436.toNat, 0]
def k0_off111 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1024 : BitVec 32 := 16#32
  let v1434 : BitVec 32 := Scalar.muli v10 c16_i32_1024
  let v1435 : BitVec 32 := Scalar.addi v1067 v1434
  let c0_i32_1038 : BitVec 32 := 0#32
  ![v1435.toNat, 0]
def k0_dev57 (d0 : Dev nD) : Nat :=
  let c0_i32_1037 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1036 : BitVec 32 := 1#32
  let v1461 : BitVec 32 := Scalar.muli v18 c1_i32_1036
  let v1462 : BitVec 32 := Scalar.addi c0_i32_1037 v1461
  v1462.toNat
def k0_dev58 (d0 : Dev nD) : Nat :=
  let c0_i32_1043 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1042 : BitVec 32 := 1#32
  let v1469 : BitVec 32 := Scalar.muli v15 c1_i32_1042
  let v1470 : BitVec 32 := Scalar.addi c0_i32_1043 v1469
  v1470.toNat
def k0_off112 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let c2_i32_7 : BitVec 32 := 2#32
  let v12 : BitVec 32 := Scalar.divsi v4 c2_i32_7
  let c24_i32_1053 : BitVec 32 := 24#32
  let v1483 : BitVec 32 := Scalar.muli v12 c24_i32_1053
  let v1484 : BitVec 32 := Scalar.addi v1094 v1483
  let v1485 : Index := Scalar.indexCast v1484
  let c256_1054 : Index := 256#32
  ![v1485.toNat, 256]
def k0_off113 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let c2_i32_7 : BitVec 32 := 2#32
  let v12 : BitVec 32 := Scalar.divsi v4 c2_i32_7
  let c24_i32_1053 : BitVec 32 := 24#32
  let v1483 : BitVec 32 := Scalar.muli v12 c24_i32_1053
  let v1484 : BitVec 32 := Scalar.addi v1094 v1483
  let c256_i32_1068 : BitVec 32 := 256#32
  ![v1484.toNat, 256]
def k0_dev59 (d0 : Dev nD) : Nat :=
  let c0_i32_1067 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1066 : BitVec 32 := 1#32
  let v1510 : BitVec 32 := Scalar.muli v24 c1_i32_1066
  let v1511 : BitVec 32 := Scalar.addi c0_i32_1067 v1510
  v1511.toNat
def k0_dev60 (d0 : Dev nD) : Nat :=
  let c0_i32_1073 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1072 : BitVec 32 := 1#32
  let v1518 : BitVec 32 := Scalar.muli v21 c1_i32_1072
  let v1519 : BitVec 32 := Scalar.addi c0_i32_1073 v1518
  v1519.toNat
def k0_off114 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let c2_i32_7 : BitVec 32 := 2#32
  let v12 : BitVec 32 := Scalar.divsi v4 c2_i32_7
  let c24_i32_1083 : BitVec 32 := 24#32
  let v1532 : BitVec 32 := Scalar.muli v12 c24_i32_1083
  let v1533 : BitVec 32 := Scalar.addi v1121 v1532
  let v1534 : Index := Scalar.indexCast v1533
  let c256_1084 : Index := 256#32
  ![v1534.toNat, 256]
def k0_off115 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let c2_i32_7 : BitVec 32 := 2#32
  let v12 : BitVec 32 := Scalar.divsi v4 c2_i32_7
  let c24_i32_1083 : BitVec 32 := 24#32
  let v1532 : BitVec 32 := Scalar.muli v12 c24_i32_1083
  let v1533 : BitVec 32 := Scalar.addi v1121 v1532
  let c256_i32_1098 : BitVec 32 := 256#32
  ![v1533.toNat, 256]
def k0_dev61 (d0 : Dev nD) : Nat :=
  let c0_i32_1097 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1096 : BitVec 32 := 1#32
  let v1559 : BitVec 32 := Scalar.muli v24 c1_i32_1096
  let v1560 : BitVec 32 := Scalar.addi c0_i32_1097 v1559
  v1560.toNat
def k0_dev62 (d0 : Dev nD) : Nat :=
  let c0_i32_1103 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1102 : BitVec 32 := 1#32
  let v1567 : BitVec 32 := Scalar.muli v21 c1_i32_1102
  let v1568 : BitVec 32 := Scalar.addi c0_i32_1103 v1567
  v1568.toNat
def k0_off116 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1113 : BitVec 32 := 16#32
  let v1581 : BitVec 32 := Scalar.muli v10 c16_i32_1113
  let v1582 : BitVec 32 := Scalar.addi v1148 v1581
  let v1583 : Index := Scalar.indexCast v1582
  let c256_1114 : Index := 256#32
  ![v1583.toNat, 256]
def k0_off117 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1113 : BitVec 32 := 16#32
  let v1581 : BitVec 32 := Scalar.muli v10 c16_i32_1113
  let v1582 : BitVec 32 := Scalar.addi v1148 v1581
  let c256_i32_1128 : BitVec 32 := 256#32
  ![v1582.toNat, 256]
def k0_dev63 (d0 : Dev nD) : Nat :=
  let c0_i32_1127 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1126 : BitVec 32 := 1#32
  let v1608 : BitVec 32 := Scalar.muli v18 c1_i32_1126
  let v1609 : BitVec 32 := Scalar.addi c0_i32_1127 v1608
  v1609.toNat
def k0_dev64 (d0 : Dev nD) : Nat :=
  let c0_i32_1133 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1132 : BitVec 32 := 1#32
  let v1616 : BitVec 32 := Scalar.muli v15 c1_i32_1132
  let v1617 : BitVec 32 := Scalar.addi c0_i32_1133 v1616
  v1617.toNat
def k0_off118 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let c2_i32_7 : BitVec 32 := 2#32
  let v12 : BitVec 32 := Scalar.divsi v4 c2_i32_7
  let c24_i32_1143 : BitVec 32 := 24#32
  let v1630 : BitVec 32 := Scalar.muli v12 c24_i32_1143
  let v1631 : BitVec 32 := Scalar.addi v1175 v1630
  let v1632 : Index := Scalar.indexCast v1631
  let c512_1144 : Index := 512#32
  ![v1632.toNat, 512]
def k0_off119 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let c2_i32_7 : BitVec 32 := 2#32
  let v12 : BitVec 32 := Scalar.divsi v4 c2_i32_7
  let c24_i32_1143 : BitVec 32 := 24#32
  let v1630 : BitVec 32 := Scalar.muli v12 c24_i32_1143
  let v1631 : BitVec 32 := Scalar.addi v1175 v1630
  let c512_i32_1158 : BitVec 32 := 512#32
  ![v1631.toNat, 512]
def k0_dev65 (d0 : Dev nD) : Nat :=
  let c0_i32_1157 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1156 : BitVec 32 := 1#32
  let v1657 : BitVec 32 := Scalar.muli v24 c1_i32_1156
  let v1658 : BitVec 32 := Scalar.addi c0_i32_1157 v1657
  v1658.toNat
def k0_dev66 (d0 : Dev nD) : Nat :=
  let c0_i32_1163 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1162 : BitVec 32 := 1#32
  let v1665 : BitVec 32 := Scalar.muli v21 c1_i32_1162
  let v1666 : BitVec 32 := Scalar.addi c0_i32_1163 v1665
  v1666.toNat
def k0_off120 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let c2_i32_7 : BitVec 32 := 2#32
  let v12 : BitVec 32 := Scalar.divsi v4 c2_i32_7
  let c24_i32_1173 : BitVec 32 := 24#32
  let v1679 : BitVec 32 := Scalar.muli v12 c24_i32_1173
  let v1680 : BitVec 32 := Scalar.addi v1202 v1679
  let v1681 : Index := Scalar.indexCast v1680
  let c512_1174 : Index := 512#32
  ![v1681.toNat, 512]
def k0_off121 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let c2_i32_7 : BitVec 32 := 2#32
  let v12 : BitVec 32 := Scalar.divsi v4 c2_i32_7
  let c24_i32_1173 : BitVec 32 := 24#32
  let v1679 : BitVec 32 := Scalar.muli v12 c24_i32_1173
  let v1680 : BitVec 32 := Scalar.addi v1202 v1679
  let c512_i32_1188 : BitVec 32 := 512#32
  ![v1680.toNat, 512]
def k0_dev67 (d0 : Dev nD) : Nat :=
  let c0_i32_1187 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1186 : BitVec 32 := 1#32
  let v1706 : BitVec 32 := Scalar.muli v24 c1_i32_1186
  let v1707 : BitVec 32 := Scalar.addi c0_i32_1187 v1706
  v1707.toNat
def k0_dev68 (d0 : Dev nD) : Nat :=
  let c0_i32_1193 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1192 : BitVec 32 := 1#32
  let v1714 : BitVec 32 := Scalar.muli v21 c1_i32_1192
  let v1715 : BitVec 32 := Scalar.addi c0_i32_1193 v1714
  v1715.toNat
def k0_off122 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1203 : BitVec 32 := 16#32
  let v1728 : BitVec 32 := Scalar.muli v10 c16_i32_1203
  let v1729 : BitVec 32 := Scalar.addi v1229 v1728
  let v1730 : Index := Scalar.indexCast v1729
  let c512_1204 : Index := 512#32
  ![v1730.toNat, 512]
def k0_off123 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1203 : BitVec 32 := 16#32
  let v1728 : BitVec 32 := Scalar.muli v10 c16_i32_1203
  let v1729 : BitVec 32 := Scalar.addi v1229 v1728
  let c512_i32_1218 : BitVec 32 := 512#32
  ![v1729.toNat, 512]
def k0_dev69 (d0 : Dev nD) : Nat :=
  let c0_i32_1217 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1216 : BitVec 32 := 1#32
  let v1755 : BitVec 32 := Scalar.muli v18 c1_i32_1216
  let v1756 : BitVec 32 := Scalar.addi c0_i32_1217 v1755
  v1756.toNat
def k0_dev70 (d0 : Dev nD) : Nat :=
  let c0_i32_1223 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1222 : BitVec 32 := 1#32
  let v1763 : BitVec 32 := Scalar.muli v15 c1_i32_1222
  let v1764 : BitVec 32 := Scalar.addi c0_i32_1223 v1763
  v1764.toNat
def k0_off124 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let c2_i32_7 : BitVec 32 := 2#32
  let v12 : BitVec 32 := Scalar.divsi v4 c2_i32_7
  let c24_i32_1233 : BitVec 32 := 24#32
  let v1777 : BitVec 32 := Scalar.muli v12 c24_i32_1233
  let v1778 : BitVec 32 := Scalar.addi v1256 v1777
  let v1779 : Index := Scalar.indexCast v1778
  let c768_1234 : Index := 768#32
  ![v1779.toNat, 768]
def k0_off125 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let c2_i32_7 : BitVec 32 := 2#32
  let v12 : BitVec 32 := Scalar.divsi v4 c2_i32_7
  let c24_i32_1233 : BitVec 32 := 24#32
  let v1777 : BitVec 32 := Scalar.muli v12 c24_i32_1233
  let v1778 : BitVec 32 := Scalar.addi v1256 v1777
  let c768_i32_1248 : BitVec 32 := 768#32
  ![v1778.toNat, 768]
def k0_dev71 (d0 : Dev nD) : Nat :=
  let c0_i32_1247 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1246 : BitVec 32 := 1#32
  let v1804 : BitVec 32 := Scalar.muli v24 c1_i32_1246
  let v1805 : BitVec 32 := Scalar.addi c0_i32_1247 v1804
  v1805.toNat
def k0_dev72 (d0 : Dev nD) : Nat :=
  let c0_i32_1253 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1252 : BitVec 32 := 1#32
  let v1812 : BitVec 32 := Scalar.muli v21 c1_i32_1252
  let v1813 : BitVec 32 := Scalar.addi c0_i32_1253 v1812
  v1813.toNat
def k0_off126 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let c2_i32_7 : BitVec 32 := 2#32
  let v12 : BitVec 32 := Scalar.divsi v4 c2_i32_7
  let c24_i32_1263 : BitVec 32 := 24#32
  let v1826 : BitVec 32 := Scalar.muli v12 c24_i32_1263
  let v1827 : BitVec 32 := Scalar.addi v1283 v1826
  let v1828 : Index := Scalar.indexCast v1827
  let c768_1264 : Index := 768#32
  ![v1828.toNat, 768]
def k0_off127 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let c2_i32_7 : BitVec 32 := 2#32
  let v12 : BitVec 32 := Scalar.divsi v4 c2_i32_7
  let c24_i32_1263 : BitVec 32 := 24#32
  let v1826 : BitVec 32 := Scalar.muli v12 c24_i32_1263
  let v1827 : BitVec 32 := Scalar.addi v1283 v1826
  let c768_i32_1278 : BitVec 32 := 768#32
  ![v1827.toNat, 768]
def k0_dev73 (d0 : Dev nD) : Nat :=
  let c0_i32_1277 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1276 : BitVec 32 := 1#32
  let v1853 : BitVec 32 := Scalar.muli v24 c1_i32_1276
  let v1854 : BitVec 32 := Scalar.addi c0_i32_1277 v1853
  v1854.toNat
def k0_dev74 (d0 : Dev nD) : Nat :=
  let c0_i32_1283 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1282 : BitVec 32 := 1#32
  let v1861 : BitVec 32 := Scalar.muli v21 c1_i32_1282
  let v1862 : BitVec 32 := Scalar.addi c0_i32_1283 v1861
  v1862.toNat
def k0_off128 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1293 : BitVec 32 := 16#32
  let v1875 : BitVec 32 := Scalar.muli v10 c16_i32_1293
  let v1876 : BitVec 32 := Scalar.addi v1310 v1875
  let v1877 : Index := Scalar.indexCast v1876
  let c768_1294 : Index := 768#32
  ![v1877.toNat, 768]
def k0_off129 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1293 : BitVec 32 := 16#32
  let v1875 : BitVec 32 := Scalar.muli v10 c16_i32_1293
  let v1876 : BitVec 32 := Scalar.addi v1310 v1875
  let c768_i32_1308 : BitVec 32 := 768#32
  ![v1876.toNat, 768]
def k0_dev75 (d0 : Dev nD) : Nat :=
  let c0_i32_1307 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1306 : BitVec 32 := 1#32
  let v1902 : BitVec 32 := Scalar.muli v18 c1_i32_1306
  let v1903 : BitVec 32 := Scalar.addi c0_i32_1307 v1902
  v1903.toNat
def k0_dev76 (d0 : Dev nD) : Nat :=
  let c0_i32_1313 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1312 : BitVec 32 := 1#32
  let v1910 : BitVec 32 := Scalar.muli v15 c1_i32_1312
  let v1911 : BitVec 32 := Scalar.addi c0_i32_1313 v1910
  v1911.toNat
def k0_off130 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let c2_i32_7 : BitVec 32 := 2#32
  let v12 : BitVec 32 := Scalar.divsi v4 c2_i32_7
  let c24_i32_966 : BitVec 32 := 24#32
  let v1336 : BitVec 32 := Scalar.muli v12 c24_i32_966
  let v1337 : BitVec 32 := Scalar.addi v1013 v1336
  let c24_i32_1322 : BitVec 32 := 24#32
  let v1924 : BitVec 32 := Scalar.muli v12 c24_i32_1322
  let v1925 : BitVec 32 := Scalar.subi v1337 v1924
  let c1_i32_1323 : BitVec 32 := 1#32
  let v1926 : BitVec 32 := Scalar.subi c1_i32_1323 v12
  let c24_i32_1324 : BitVec 32 := 24#32
  let v1927 : BitVec 32 := Scalar.muli v1926 c24_i32_1324
  let v1928 : BitVec 32 := Scalar.addi v1925 v1927
  let c0_i32_1329 : BitVec 32 := 0#32
  ![v1928.toNat, 0]
def k0_dev77 (d0 : Dev nD) : Nat :=
  let c0_i32_1328 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1327 : BitVec 32 := 1#32
  let v1929 : BitVec 32 := Scalar.muli v21 c1_i32_1327
  let v1930 : BitVec 32 := Scalar.addi c0_i32_1328 v1929
  v1930.toNat
def k0_off131 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let c2_i32_7 : BitVec 32 := 2#32
  let v12 : BitVec 32 := Scalar.divsi v4 c2_i32_7
  let c24_i32_966 : BitVec 32 := 24#32
  let v1336 : BitVec 32 := Scalar.muli v12 c24_i32_966
  let v1337 : BitVec 32 := Scalar.addi v1013 v1336
  let c24_i32_1322 : BitVec 32 := 24#32
  let v1924 : BitVec 32 := Scalar.muli v12 c24_i32_1322
  let v1925 : BitVec 32 := Scalar.subi v1337 v1924
  let c0_i32_1335 : BitVec 32 := 0#32
  ![v1925.toNat, 0]
def k0_dev78 (d0 : Dev nD) : Nat :=
  let c0_i32_1334 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1333 : BitVec 32 := 1#32
  let v1937 : BitVec 32 := Scalar.muli v18 c1_i32_1333
  let v1938 : BitVec 32 := Scalar.addi c0_i32_1334 v1937
  v1938.toNat
def k0_off132 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let c2_i32_7 : BitVec 32 := 2#32
  let v12 : BitVec 32 := Scalar.divsi v4 c2_i32_7
  let c24_i32_995 : BitVec 32 := 24#32
  let v1385 : BitVec 32 := Scalar.muli v12 c24_i32_995
  let v1386 : BitVec 32 := Scalar.addi v1040 v1385
  let c24_i32_1343 : BitVec 32 := 24#32
  let v1951 : BitVec 32 := Scalar.muli v12 c24_i32_1343
  let v1952 : BitVec 32 := Scalar.subi v1386 v1951
  let c1_i32_1344 : BitVec 32 := 1#32
  let v1953 : BitVec 32 := Scalar.subi c1_i32_1344 v12
  let c24_i32_1345 : BitVec 32 := 24#32
  let v1954 : BitVec 32 := Scalar.muli v1953 c24_i32_1345
  let v1955 : BitVec 32 := Scalar.addi v1952 v1954
  let c0_i32_1350 : BitVec 32 := 0#32
  ![v1955.toNat, 0]
def k0_dev79 (d0 : Dev nD) : Nat :=
  let c0_i32_1349 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1348 : BitVec 32 := 1#32
  let v1956 : BitVec 32 := Scalar.muli v21 c1_i32_1348
  let v1957 : BitVec 32 := Scalar.addi c0_i32_1349 v1956
  v1957.toNat
def k0_off133 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let c2_i32_7 : BitVec 32 := 2#32
  let v12 : BitVec 32 := Scalar.divsi v4 c2_i32_7
  let c24_i32_995 : BitVec 32 := 24#32
  let v1385 : BitVec 32 := Scalar.muli v12 c24_i32_995
  let v1386 : BitVec 32 := Scalar.addi v1040 v1385
  let c24_i32_1343 : BitVec 32 := 24#32
  let v1951 : BitVec 32 := Scalar.muli v12 c24_i32_1343
  let v1952 : BitVec 32 := Scalar.subi v1386 v1951
  let c0_i32_1356 : BitVec 32 := 0#32
  ![v1952.toNat, 0]
def k0_dev80 (d0 : Dev nD) : Nat :=
  let c0_i32_1355 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1354 : BitVec 32 := 1#32
  let v1964 : BitVec 32 := Scalar.muli v15 c1_i32_1354
  let v1965 : BitVec 32 := Scalar.addi c0_i32_1355 v1964
  v1965.toNat
def k0_off134 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1024 : BitVec 32 := 16#32
  let v1434 : BitVec 32 := Scalar.muli v10 c16_i32_1024
  let v1435 : BitVec 32 := Scalar.addi v1067 v1434
  let c16_i32_1364 : BitVec 32 := 16#32
  let v1978 : BitVec 32 := Scalar.muli v10 c16_i32_1364
  let v1979 : BitVec 32 := Scalar.subi v1435 v1978
  let c1_i32_1365 : BitVec 32 := 1#32
  let v1980 : BitVec 32 := Scalar.subi c1_i32_1365 v10
  let c16_i32_1366 : BitVec 32 := 16#32
  let v1981 : BitVec 32 := Scalar.muli v1980 c16_i32_1366
  let v1982 : BitVec 32 := Scalar.addi v1979 v1981
  let c0_i32_1371 : BitVec 32 := 0#32
  ![v1982.toNat, 0]
def k0_dev81 (d0 : Dev nD) : Nat :=
  let c0_i32_1370 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1369 : BitVec 32 := 1#32
  let v1983 : BitVec 32 := Scalar.muli v15 c1_i32_1369
  let v1984 : BitVec 32 := Scalar.addi c0_i32_1370 v1983
  v1984.toNat
def k0_off135 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1024 : BitVec 32 := 16#32
  let v1434 : BitVec 32 := Scalar.muli v10 c16_i32_1024
  let v1435 : BitVec 32 := Scalar.addi v1067 v1434
  let c16_i32_1364 : BitVec 32 := 16#32
  let v1978 : BitVec 32 := Scalar.muli v10 c16_i32_1364
  let v1979 : BitVec 32 := Scalar.subi v1435 v1978
  let c0_i32_1377 : BitVec 32 := 0#32
  ![v1979.toNat, 0]
def k0_dev82 (d0 : Dev nD) : Nat :=
  let c0_i32_1376 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1375 : BitVec 32 := 1#32
  let v1991 : BitVec 32 := Scalar.muli v24 c1_i32_1375
  let v1992 : BitVec 32 := Scalar.addi c0_i32_1376 v1991
  v1992.toNat
def k0_off136 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let c2_i32_7 : BitVec 32 := 2#32
  let v12 : BitVec 32 := Scalar.divsi v4 c2_i32_7
  let c24_i32_1053 : BitVec 32 := 24#32
  let v1483 : BitVec 32 := Scalar.muli v12 c24_i32_1053
  let v1484 : BitVec 32 := Scalar.addi v1094 v1483
  let c24_i32_1385 : BitVec 32 := 24#32
  let v2005 : BitVec 32 := Scalar.muli v12 c24_i32_1385
  let v2006 : BitVec 32 := Scalar.subi v1484 v2005
  let c1_i32_1386 : BitVec 32 := 1#32
  let v2007 : BitVec 32 := Scalar.subi c1_i32_1386 v12
  let c24_i32_1387 : BitVec 32 := 24#32
  let v2008 : BitVec 32 := Scalar.muli v2007 c24_i32_1387
  let v2009 : BitVec 32 := Scalar.addi v2006 v2008
  let c256_i32_1392 : BitVec 32 := 256#32
  ![v2009.toNat, 256]
def k0_dev83 (d0 : Dev nD) : Nat :=
  let c0_i32_1391 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1390 : BitVec 32 := 1#32
  let v2010 : BitVec 32 := Scalar.muli v21 c1_i32_1390
  let v2011 : BitVec 32 := Scalar.addi c0_i32_1391 v2010
  v2011.toNat
def k0_off137 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let c2_i32_7 : BitVec 32 := 2#32
  let v12 : BitVec 32 := Scalar.divsi v4 c2_i32_7
  let c24_i32_1053 : BitVec 32 := 24#32
  let v1483 : BitVec 32 := Scalar.muli v12 c24_i32_1053
  let v1484 : BitVec 32 := Scalar.addi v1094 v1483
  let c24_i32_1385 : BitVec 32 := 24#32
  let v2005 : BitVec 32 := Scalar.muli v12 c24_i32_1385
  let v2006 : BitVec 32 := Scalar.subi v1484 v2005
  let c256_i32_1398 : BitVec 32 := 256#32
  ![v2006.toNat, 256]
def k0_dev84 (d0 : Dev nD) : Nat :=
  let c0_i32_1397 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1396 : BitVec 32 := 1#32
  let v2018 : BitVec 32 := Scalar.muli v18 c1_i32_1396
  let v2019 : BitVec 32 := Scalar.addi c0_i32_1397 v2018
  v2019.toNat
def k0_off138 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let c2_i32_7 : BitVec 32 := 2#32
  let v12 : BitVec 32 := Scalar.divsi v4 c2_i32_7
  let c24_i32_1083 : BitVec 32 := 24#32
  let v1532 : BitVec 32 := Scalar.muli v12 c24_i32_1083
  let v1533 : BitVec 32 := Scalar.addi v1121 v1532
  let c24_i32_1406 : BitVec 32 := 24#32
  let v2032 : BitVec 32 := Scalar.muli v12 c24_i32_1406
  let v2033 : BitVec 32 := Scalar.subi v1533 v2032
  let c1_i32_1407 : BitVec 32 := 1#32
  let v2034 : BitVec 32 := Scalar.subi c1_i32_1407 v12
  let c24_i32_1408 : BitVec 32 := 24#32
  let v2035 : BitVec 32 := Scalar.muli v2034 c24_i32_1408
  let v2036 : BitVec 32 := Scalar.addi v2033 v2035
  let c256_i32_1413 : BitVec 32 := 256#32
  ![v2036.toNat, 256]
def k0_dev85 (d0 : Dev nD) : Nat :=
  let c0_i32_1412 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1411 : BitVec 32 := 1#32
  let v2037 : BitVec 32 := Scalar.muli v21 c1_i32_1411
  let v2038 : BitVec 32 := Scalar.addi c0_i32_1412 v2037
  v2038.toNat
def k0_off139 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let c2_i32_7 : BitVec 32 := 2#32
  let v12 : BitVec 32 := Scalar.divsi v4 c2_i32_7
  let c24_i32_1083 : BitVec 32 := 24#32
  let v1532 : BitVec 32 := Scalar.muli v12 c24_i32_1083
  let v1533 : BitVec 32 := Scalar.addi v1121 v1532
  let c24_i32_1406 : BitVec 32 := 24#32
  let v2032 : BitVec 32 := Scalar.muli v12 c24_i32_1406
  let v2033 : BitVec 32 := Scalar.subi v1533 v2032
  let c256_i32_1419 : BitVec 32 := 256#32
  ![v2033.toNat, 256]
def k0_dev86 (d0 : Dev nD) : Nat :=
  let c0_i32_1418 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1417 : BitVec 32 := 1#32
  let v2045 : BitVec 32 := Scalar.muli v15 c1_i32_1417
  let v2046 : BitVec 32 := Scalar.addi c0_i32_1418 v2045
  v2046.toNat
def k0_off140 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1113 : BitVec 32 := 16#32
  let v1581 : BitVec 32 := Scalar.muli v10 c16_i32_1113
  let v1582 : BitVec 32 := Scalar.addi v1148 v1581
  let c16_i32_1427 : BitVec 32 := 16#32
  let v2059 : BitVec 32 := Scalar.muli v10 c16_i32_1427
  let v2060 : BitVec 32 := Scalar.subi v1582 v2059
  let c1_i32_1428 : BitVec 32 := 1#32
  let v2061 : BitVec 32 := Scalar.subi c1_i32_1428 v10
  let c16_i32_1429 : BitVec 32 := 16#32
  let v2062 : BitVec 32 := Scalar.muli v2061 c16_i32_1429
  let v2063 : BitVec 32 := Scalar.addi v2060 v2062
  let c256_i32_1434 : BitVec 32 := 256#32
  ![v2063.toNat, 256]
def k0_dev87 (d0 : Dev nD) : Nat :=
  let c0_i32_1433 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1432 : BitVec 32 := 1#32
  let v2064 : BitVec 32 := Scalar.muli v15 c1_i32_1432
  let v2065 : BitVec 32 := Scalar.addi c0_i32_1433 v2064
  v2065.toNat
def k0_off141 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1113 : BitVec 32 := 16#32
  let v1581 : BitVec 32 := Scalar.muli v10 c16_i32_1113
  let v1582 : BitVec 32 := Scalar.addi v1148 v1581
  let c16_i32_1427 : BitVec 32 := 16#32
  let v2059 : BitVec 32 := Scalar.muli v10 c16_i32_1427
  let v2060 : BitVec 32 := Scalar.subi v1582 v2059
  let c256_i32_1440 : BitVec 32 := 256#32
  ![v2060.toNat, 256]
def k0_dev88 (d0 : Dev nD) : Nat :=
  let c0_i32_1439 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1438 : BitVec 32 := 1#32
  let v2072 : BitVec 32 := Scalar.muli v24 c1_i32_1438
  let v2073 : BitVec 32 := Scalar.addi c0_i32_1439 v2072
  v2073.toNat
def k0_off142 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let c2_i32_7 : BitVec 32 := 2#32
  let v12 : BitVec 32 := Scalar.divsi v4 c2_i32_7
  let c24_i32_1143 : BitVec 32 := 24#32
  let v1630 : BitVec 32 := Scalar.muli v12 c24_i32_1143
  let v1631 : BitVec 32 := Scalar.addi v1175 v1630
  let c24_i32_1448 : BitVec 32 := 24#32
  let v2086 : BitVec 32 := Scalar.muli v12 c24_i32_1448
  let v2087 : BitVec 32 := Scalar.subi v1631 v2086
  let c1_i32_1449 : BitVec 32 := 1#32
  let v2088 : BitVec 32 := Scalar.subi c1_i32_1449 v12
  let c24_i32_1450 : BitVec 32 := 24#32
  let v2089 : BitVec 32 := Scalar.muli v2088 c24_i32_1450
  let v2090 : BitVec 32 := Scalar.addi v2087 v2089
  let c512_i32_1455 : BitVec 32 := 512#32
  ![v2090.toNat, 512]
def k0_dev89 (d0 : Dev nD) : Nat :=
  let c0_i32_1454 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1453 : BitVec 32 := 1#32
  let v2091 : BitVec 32 := Scalar.muli v21 c1_i32_1453
  let v2092 : BitVec 32 := Scalar.addi c0_i32_1454 v2091
  v2092.toNat
def k0_off143 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let c2_i32_7 : BitVec 32 := 2#32
  let v12 : BitVec 32 := Scalar.divsi v4 c2_i32_7
  let c24_i32_1143 : BitVec 32 := 24#32
  let v1630 : BitVec 32 := Scalar.muli v12 c24_i32_1143
  let v1631 : BitVec 32 := Scalar.addi v1175 v1630
  let c24_i32_1448 : BitVec 32 := 24#32
  let v2086 : BitVec 32 := Scalar.muli v12 c24_i32_1448
  let v2087 : BitVec 32 := Scalar.subi v1631 v2086
  let c512_i32_1461 : BitVec 32 := 512#32
  ![v2087.toNat, 512]
def k0_dev90 (d0 : Dev nD) : Nat :=
  let c0_i32_1460 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1459 : BitVec 32 := 1#32
  let v2099 : BitVec 32 := Scalar.muli v18 c1_i32_1459
  let v2100 : BitVec 32 := Scalar.addi c0_i32_1460 v2099
  v2100.toNat
def k0_off144 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let c2_i32_7 : BitVec 32 := 2#32
  let v12 : BitVec 32 := Scalar.divsi v4 c2_i32_7
  let c24_i32_1173 : BitVec 32 := 24#32
  let v1679 : BitVec 32 := Scalar.muli v12 c24_i32_1173
  let v1680 : BitVec 32 := Scalar.addi v1202 v1679
  let c24_i32_1469 : BitVec 32 := 24#32
  let v2113 : BitVec 32 := Scalar.muli v12 c24_i32_1469
  let v2114 : BitVec 32 := Scalar.subi v1680 v2113
  let c1_i32_1470 : BitVec 32 := 1#32
  let v2115 : BitVec 32 := Scalar.subi c1_i32_1470 v12
  let c24_i32_1471 : BitVec 32 := 24#32
  let v2116 : BitVec 32 := Scalar.muli v2115 c24_i32_1471
  let v2117 : BitVec 32 := Scalar.addi v2114 v2116
  let c512_i32_1476 : BitVec 32 := 512#32
  ![v2117.toNat, 512]
def k0_dev91 (d0 : Dev nD) : Nat :=
  let c0_i32_1475 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1474 : BitVec 32 := 1#32
  let v2118 : BitVec 32 := Scalar.muli v21 c1_i32_1474
  let v2119 : BitVec 32 := Scalar.addi c0_i32_1475 v2118
  v2119.toNat
def k0_off145 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let c2_i32_7 : BitVec 32 := 2#32
  let v12 : BitVec 32 := Scalar.divsi v4 c2_i32_7
  let c24_i32_1173 : BitVec 32 := 24#32
  let v1679 : BitVec 32 := Scalar.muli v12 c24_i32_1173
  let v1680 : BitVec 32 := Scalar.addi v1202 v1679
  let c24_i32_1469 : BitVec 32 := 24#32
  let v2113 : BitVec 32 := Scalar.muli v12 c24_i32_1469
  let v2114 : BitVec 32 := Scalar.subi v1680 v2113
  let c512_i32_1482 : BitVec 32 := 512#32
  ![v2114.toNat, 512]
def k0_dev92 (d0 : Dev nD) : Nat :=
  let c0_i32_1481 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1480 : BitVec 32 := 1#32
  let v2126 : BitVec 32 := Scalar.muli v15 c1_i32_1480
  let v2127 : BitVec 32 := Scalar.addi c0_i32_1481 v2126
  v2127.toNat
def k0_off146 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1203 : BitVec 32 := 16#32
  let v1728 : BitVec 32 := Scalar.muli v10 c16_i32_1203
  let v1729 : BitVec 32 := Scalar.addi v1229 v1728
  let c16_i32_1490 : BitVec 32 := 16#32
  let v2140 : BitVec 32 := Scalar.muli v10 c16_i32_1490
  let v2141 : BitVec 32 := Scalar.subi v1729 v2140
  let c1_i32_1491 : BitVec 32 := 1#32
  let v2142 : BitVec 32 := Scalar.subi c1_i32_1491 v10
  let c16_i32_1492 : BitVec 32 := 16#32
  let v2143 : BitVec 32 := Scalar.muli v2142 c16_i32_1492
  let v2144 : BitVec 32 := Scalar.addi v2141 v2143
  let c512_i32_1497 : BitVec 32 := 512#32
  ![v2144.toNat, 512]
def k0_dev93 (d0 : Dev nD) : Nat :=
  let c0_i32_1496 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1495 : BitVec 32 := 1#32
  let v2145 : BitVec 32 := Scalar.muli v15 c1_i32_1495
  let v2146 : BitVec 32 := Scalar.addi c0_i32_1496 v2145
  v2146.toNat
def k0_off147 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1203 : BitVec 32 := 16#32
  let v1728 : BitVec 32 := Scalar.muli v10 c16_i32_1203
  let v1729 : BitVec 32 := Scalar.addi v1229 v1728
  let c16_i32_1490 : BitVec 32 := 16#32
  let v2140 : BitVec 32 := Scalar.muli v10 c16_i32_1490
  let v2141 : BitVec 32 := Scalar.subi v1729 v2140
  let c512_i32_1503 : BitVec 32 := 512#32
  ![v2141.toNat, 512]
def k0_dev94 (d0 : Dev nD) : Nat :=
  let c0_i32_1502 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1501 : BitVec 32 := 1#32
  let v2153 : BitVec 32 := Scalar.muli v24 c1_i32_1501
  let v2154 : BitVec 32 := Scalar.addi c0_i32_1502 v2153
  v2154.toNat
def k0_off148 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let c2_i32_7 : BitVec 32 := 2#32
  let v12 : BitVec 32 := Scalar.divsi v4 c2_i32_7
  let c24_i32_1233 : BitVec 32 := 24#32
  let v1777 : BitVec 32 := Scalar.muli v12 c24_i32_1233
  let v1778 : BitVec 32 := Scalar.addi v1256 v1777
  let c24_i32_1511 : BitVec 32 := 24#32
  let v2167 : BitVec 32 := Scalar.muli v12 c24_i32_1511
  let v2168 : BitVec 32 := Scalar.subi v1778 v2167
  let c1_i32_1512 : BitVec 32 := 1#32
  let v2169 : BitVec 32 := Scalar.subi c1_i32_1512 v12
  let c24_i32_1513 : BitVec 32 := 24#32
  let v2170 : BitVec 32 := Scalar.muli v2169 c24_i32_1513
  let v2171 : BitVec 32 := Scalar.addi v2168 v2170
  let c768_i32_1518 : BitVec 32 := 768#32
  ![v2171.toNat, 768]
def k0_dev95 (d0 : Dev nD) : Nat :=
  let c0_i32_1517 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1516 : BitVec 32 := 1#32
  let v2172 : BitVec 32 := Scalar.muli v21 c1_i32_1516
  let v2173 : BitVec 32 := Scalar.addi c0_i32_1517 v2172
  v2173.toNat
def k0_off149 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let c2_i32_7 : BitVec 32 := 2#32
  let v12 : BitVec 32 := Scalar.divsi v4 c2_i32_7
  let c24_i32_1233 : BitVec 32 := 24#32
  let v1777 : BitVec 32 := Scalar.muli v12 c24_i32_1233
  let v1778 : BitVec 32 := Scalar.addi v1256 v1777
  let c24_i32_1511 : BitVec 32 := 24#32
  let v2167 : BitVec 32 := Scalar.muli v12 c24_i32_1511
  let v2168 : BitVec 32 := Scalar.subi v1778 v2167
  let c768_i32_1524 : BitVec 32 := 768#32
  ![v2168.toNat, 768]
def k0_dev96 (d0 : Dev nD) : Nat :=
  let c0_i32_1523 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1522 : BitVec 32 := 1#32
  let v2180 : BitVec 32 := Scalar.muli v18 c1_i32_1522
  let v2181 : BitVec 32 := Scalar.addi c0_i32_1523 v2180
  v2181.toNat
def k0_off150 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let c2_i32_7 : BitVec 32 := 2#32
  let v12 : BitVec 32 := Scalar.divsi v4 c2_i32_7
  let c24_i32_1263 : BitVec 32 := 24#32
  let v1826 : BitVec 32 := Scalar.muli v12 c24_i32_1263
  let v1827 : BitVec 32 := Scalar.addi v1283 v1826
  let c24_i32_1532 : BitVec 32 := 24#32
  let v2194 : BitVec 32 := Scalar.muli v12 c24_i32_1532
  let v2195 : BitVec 32 := Scalar.subi v1827 v2194
  let c1_i32_1533 : BitVec 32 := 1#32
  let v2196 : BitVec 32 := Scalar.subi c1_i32_1533 v12
  let c24_i32_1534 : BitVec 32 := 24#32
  let v2197 : BitVec 32 := Scalar.muli v2196 c24_i32_1534
  let v2198 : BitVec 32 := Scalar.addi v2195 v2197
  let c768_i32_1539 : BitVec 32 := 768#32
  ![v2198.toNat, 768]
def k0_dev97 (d0 : Dev nD) : Nat :=
  let c0_i32_1538 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1537 : BitVec 32 := 1#32
  let v2199 : BitVec 32 := Scalar.muli v21 c1_i32_1537
  let v2200 : BitVec 32 := Scalar.addi c0_i32_1538 v2199
  v2200.toNat
def k0_off151 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let c2_i32_7 : BitVec 32 := 2#32
  let v12 : BitVec 32 := Scalar.divsi v4 c2_i32_7
  let c24_i32_1263 : BitVec 32 := 24#32
  let v1826 : BitVec 32 := Scalar.muli v12 c24_i32_1263
  let v1827 : BitVec 32 := Scalar.addi v1283 v1826
  let c24_i32_1532 : BitVec 32 := 24#32
  let v2194 : BitVec 32 := Scalar.muli v12 c24_i32_1532
  let v2195 : BitVec 32 := Scalar.subi v1827 v2194
  let c768_i32_1545 : BitVec 32 := 768#32
  ![v2195.toNat, 768]
def k0_dev98 (d0 : Dev nD) : Nat :=
  let c0_i32_1544 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1543 : BitVec 32 := 1#32
  let v2207 : BitVec 32 := Scalar.muli v15 c1_i32_1543
  let v2208 : BitVec 32 := Scalar.addi c0_i32_1544 v2207
  v2208.toNat
def k0_off152 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1293 : BitVec 32 := 16#32
  let v1875 : BitVec 32 := Scalar.muli v10 c16_i32_1293
  let v1876 : BitVec 32 := Scalar.addi v1310 v1875
  let c16_i32_1553 : BitVec 32 := 16#32
  let v2221 : BitVec 32 := Scalar.muli v10 c16_i32_1553
  let v2222 : BitVec 32 := Scalar.subi v1876 v2221
  let c1_i32_1554 : BitVec 32 := 1#32
  let v2223 : BitVec 32 := Scalar.subi c1_i32_1554 v10
  let c16_i32_1555 : BitVec 32 := 16#32
  let v2224 : BitVec 32 := Scalar.muli v2223 c16_i32_1555
  let v2225 : BitVec 32 := Scalar.addi v2222 v2224
  let c768_i32_1560 : BitVec 32 := 768#32
  ![v2225.toNat, 768]
def k0_dev99 (d0 : Dev nD) : Nat :=
  let c0_i32_1559 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1558 : BitVec 32 := 1#32
  let v2226 : BitVec 32 := Scalar.muli v15 c1_i32_1558
  let v2227 : BitVec 32 := Scalar.addi c0_i32_1559 v2226
  v2227.toNat
def k0_off153 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1293 : BitVec 32 := 16#32
  let v1875 : BitVec 32 := Scalar.muli v10 c16_i32_1293
  let v1876 : BitVec 32 := Scalar.addi v1310 v1875
  let c16_i32_1553 : BitVec 32 := 16#32
  let v2221 : BitVec 32 := Scalar.muli v10 c16_i32_1553
  let v2222 : BitVec 32 := Scalar.subi v1876 v2221
  let c768_i32_1566 : BitVec 32 := 768#32
  ![v2222.toNat, 768]
def k0_dev100 (d0 : Dev nD) : Nat :=
  let c0_i32_1565 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1564 : BitVec 32 := 1#32
  let v2234 : BitVec 32 := Scalar.muli v24 c1_i32_1564
  let v2235 : BitVec 32 := Scalar.addi c0_i32_1565 v2234
  v2235.toNat
def k0_off154 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let c2_i32_7 : BitVec 32 := 2#32
  let v12 : BitVec 32 := Scalar.divsi v4 c2_i32_7
  let c24_i32_966 : BitVec 32 := 24#32
  let v1336 : BitVec 32 := Scalar.muli v12 c24_i32_966
  let v1337 : BitVec 32 := Scalar.addi v1013 v1336
  let c24_i32_1322 : BitVec 32 := 24#32
  let v1924 : BitVec 32 := Scalar.muli v12 c24_i32_1322
  let v1925 : BitVec 32 := Scalar.subi v1337 v1924
  let c48_i32_1580 : BitVec 32 := 48#32
  let v2254 : BitVec 32 := Scalar.muli v11 c48_i32_1580
  let v2255 : BitVec 32 := Scalar.subi v1925 v2254
  let c1_i32_1581 : BitVec 32 := 1#32
  let v2256 : BitVec 32 := Scalar.subi c1_i32_1581 v11
  let c48_i32_1582 : BitVec 32 := 48#32
  let v2257 : BitVec 32 := Scalar.muli v2256 c48_i32_1582
  let v2258 : BitVec 32 := Scalar.addi v2255 v2257
  let c0_i32_1587 : BitVec 32 := 0#32
  ![v2258.toNat, 0]
def k0_dev101 (d0 : Dev nD) : Nat :=
  let c0_i32_1586 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1585 : BitVec 32 := 1#32
  let v2259 : BitVec 32 := Scalar.muli v18 c1_i32_1585
  let v2260 : BitVec 32 := Scalar.addi c0_i32_1586 v2259
  v2260.toNat
def k0_off155 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let c2_i32_7 : BitVec 32 := 2#32
  let v12 : BitVec 32 := Scalar.divsi v4 c2_i32_7
  let c24_i32_966 : BitVec 32 := 24#32
  let v1336 : BitVec 32 := Scalar.muli v12 c24_i32_966
  let v1337 : BitVec 32 := Scalar.addi v1013 v1336
  let c24_i32_1322 : BitVec 32 := 24#32
  let v1924 : BitVec 32 := Scalar.muli v12 c24_i32_1322
  let v1925 : BitVec 32 := Scalar.subi v1337 v1924
  let c48_i32_1580 : BitVec 32 := 48#32
  let v2254 : BitVec 32 := Scalar.muli v11 c48_i32_1580
  let v2255 : BitVec 32 := Scalar.subi v1925 v2254
  let c0_i32_1592 : BitVec 32 := 0#32
  ![v2255.toNat, 0]
def k0_dev102 (d0 : Dev nD) : Nat :=
  let c0_i32_1591 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1590 : BitVec 32 := 1#32
  let v2267 : BitVec 32 := Scalar.muli v15 c1_i32_1590
  let v2268 : BitVec 32 := Scalar.addi c0_i32_1591 v2267
  v2268.toNat
def k0_off156 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let c2_i32_7 : BitVec 32 := 2#32
  let v12 : BitVec 32 := Scalar.divsi v4 c2_i32_7
  let c24_i32_995 : BitVec 32 := 24#32
  let v1385 : BitVec 32 := Scalar.muli v12 c24_i32_995
  let v1386 : BitVec 32 := Scalar.addi v1040 v1385
  let c24_i32_1343 : BitVec 32 := 24#32
  let v1951 : BitVec 32 := Scalar.muli v12 c24_i32_1343
  let v1952 : BitVec 32 := Scalar.subi v1386 v1951
  let c48_i32_1606 : BitVec 32 := 48#32
  let v2287 : BitVec 32 := Scalar.muli v11 c48_i32_1606
  let v2288 : BitVec 32 := Scalar.subi v1952 v2287
  let c1_i32_1607 : BitVec 32 := 1#32
  let v2289 : BitVec 32 := Scalar.subi c1_i32_1607 v11
  let c48_i32_1608 : BitVec 32 := 48#32
  let v2290 : BitVec 32 := Scalar.muli v2289 c48_i32_1608
  let v2291 : BitVec 32 := Scalar.addi v2288 v2290
  let c0_i32_1612 : BitVec 32 := 0#32
  ![v2291.toNat, 0]
def k0_dev103 (d0 : Dev nD) : Nat :=
  let c0_i32_1611 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1610 : BitVec 32 := 1#32
  let v2292 : BitVec 32 := Scalar.muli v15 c1_i32_1610
  let v2293 : BitVec 32 := Scalar.addi c0_i32_1611 v2292
  v2293.toNat
def k0_off157 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let c2_i32_7 : BitVec 32 := 2#32
  let v12 : BitVec 32 := Scalar.divsi v4 c2_i32_7
  let c24_i32_995 : BitVec 32 := 24#32
  let v1385 : BitVec 32 := Scalar.muli v12 c24_i32_995
  let v1386 : BitVec 32 := Scalar.addi v1040 v1385
  let c24_i32_1343 : BitVec 32 := 24#32
  let v1951 : BitVec 32 := Scalar.muli v12 c24_i32_1343
  let v1952 : BitVec 32 := Scalar.subi v1386 v1951
  let c48_i32_1606 : BitVec 32 := 48#32
  let v2287 : BitVec 32 := Scalar.muli v11 c48_i32_1606
  let v2288 : BitVec 32 := Scalar.subi v1952 v2287
  let c0_i32_1617 : BitVec 32 := 0#32
  ![v2288.toNat, 0]
def k0_dev104 (d0 : Dev nD) : Nat :=
  let c0_i32_1616 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1615 : BitVec 32 := 1#32
  let v2300 : BitVec 32 := Scalar.muli v18 c1_i32_1615
  let v2301 : BitVec 32 := Scalar.addi c0_i32_1616 v2300
  v2301.toNat
def k0_off158 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1024 : BitVec 32 := 16#32
  let v1434 : BitVec 32 := Scalar.muli v10 c16_i32_1024
  let v1435 : BitVec 32 := Scalar.addi v1067 v1434
  let c16_i32_1364 : BitVec 32 := 16#32
  let v1978 : BitVec 32 := Scalar.muli v10 c16_i32_1364
  let v1979 : BitVec 32 := Scalar.subi v1435 v1978
  let c32_i32_1631 : BitVec 32 := 32#32
  let v2320 : BitVec 32 := Scalar.muli v8 c32_i32_1631
  let v2321 : BitVec 32 := Scalar.subi v1979 v2320
  let c1_i32_1632 : BitVec 32 := 1#32
  let v2322 : BitVec 32 := Scalar.subi c1_i32_1632 v8
  let c32_i32_1633 : BitVec 32 := 32#32
  let v2323 : BitVec 32 := Scalar.muli v2322 c32_i32_1633
  let v2324 : BitVec 32 := Scalar.addi v2321 v2323
  let c0_i32_1637 : BitVec 32 := 0#32
  ![v2324.toNat, 0]
def k0_dev105 (d0 : Dev nD) : Nat :=
  let c0_i32_1636 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1635 : BitVec 32 := 1#32
  let v2325 : BitVec 32 := Scalar.muli v24 c1_i32_1635
  let v2326 : BitVec 32 := Scalar.addi c0_i32_1636 v2325
  v2326.toNat
def k0_off159 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1024 : BitVec 32 := 16#32
  let v1434 : BitVec 32 := Scalar.muli v10 c16_i32_1024
  let v1435 : BitVec 32 := Scalar.addi v1067 v1434
  let c16_i32_1364 : BitVec 32 := 16#32
  let v1978 : BitVec 32 := Scalar.muli v10 c16_i32_1364
  let v1979 : BitVec 32 := Scalar.subi v1435 v1978
  let c32_i32_1631 : BitVec 32 := 32#32
  let v2320 : BitVec 32 := Scalar.muli v8 c32_i32_1631
  let v2321 : BitVec 32 := Scalar.subi v1979 v2320
  let c0_i32_1642 : BitVec 32 := 0#32
  ![v2321.toNat, 0]
def k0_dev106 (d0 : Dev nD) : Nat :=
  let c0_i32_1641 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1640 : BitVec 32 := 1#32
  let v2333 : BitVec 32 := Scalar.muli v21 c1_i32_1640
  let v2334 : BitVec 32 := Scalar.addi c0_i32_1641 v2333
  v2334.toNat
def k0_off160 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let c2_i32_7 : BitVec 32 := 2#32
  let v12 : BitVec 32 := Scalar.divsi v4 c2_i32_7
  let c24_i32_1053 : BitVec 32 := 24#32
  let v1483 : BitVec 32 := Scalar.muli v12 c24_i32_1053
  let v1484 : BitVec 32 := Scalar.addi v1094 v1483
  let c24_i32_1385 : BitVec 32 := 24#32
  let v2005 : BitVec 32 := Scalar.muli v12 c24_i32_1385
  let v2006 : BitVec 32 := Scalar.subi v1484 v2005
  let c48_i32_1656 : BitVec 32 := 48#32
  let v2353 : BitVec 32 := Scalar.muli v11 c48_i32_1656
  let v2354 : BitVec 32 := Scalar.subi v2006 v2353
  let c1_i32_1657 : BitVec 32 := 1#32
  let v2355 : BitVec 32 := Scalar.subi c1_i32_1657 v11
  let c48_i32_1658 : BitVec 32 := 48#32
  let v2356 : BitVec 32 := Scalar.muli v2355 c48_i32_1658
  let v2357 : BitVec 32 := Scalar.addi v2354 v2356
  let c256_i32_1662 : BitVec 32 := 256#32
  ![v2357.toNat, 256]
def k0_dev107 (d0 : Dev nD) : Nat :=
  let c0_i32_1661 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1660 : BitVec 32 := 1#32
  let v2358 : BitVec 32 := Scalar.muli v18 c1_i32_1660
  let v2359 : BitVec 32 := Scalar.addi c0_i32_1661 v2358
  v2359.toNat
def k0_off161 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let c2_i32_7 : BitVec 32 := 2#32
  let v12 : BitVec 32 := Scalar.divsi v4 c2_i32_7
  let c24_i32_1053 : BitVec 32 := 24#32
  let v1483 : BitVec 32 := Scalar.muli v12 c24_i32_1053
  let v1484 : BitVec 32 := Scalar.addi v1094 v1483
  let c24_i32_1385 : BitVec 32 := 24#32
  let v2005 : BitVec 32 := Scalar.muli v12 c24_i32_1385
  let v2006 : BitVec 32 := Scalar.subi v1484 v2005
  let c48_i32_1656 : BitVec 32 := 48#32
  let v2353 : BitVec 32 := Scalar.muli v11 c48_i32_1656
  let v2354 : BitVec 32 := Scalar.subi v2006 v2353
  let c256_i32_1667 : BitVec 32 := 256#32
  ![v2354.toNat, 256]
def k0_dev108 (d0 : Dev nD) : Nat :=
  let c0_i32_1666 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1665 : BitVec 32 := 1#32
  let v2366 : BitVec 32 := Scalar.muli v15 c1_i32_1665
  let v2367 : BitVec 32 := Scalar.addi c0_i32_1666 v2366
  v2367.toNat
def k0_off162 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let c2_i32_7 : BitVec 32 := 2#32
  let v12 : BitVec 32 := Scalar.divsi v4 c2_i32_7
  let c24_i32_1083 : BitVec 32 := 24#32
  let v1532 : BitVec 32 := Scalar.muli v12 c24_i32_1083
  let v1533 : BitVec 32 := Scalar.addi v1121 v1532
  let c24_i32_1406 : BitVec 32 := 24#32
  let v2032 : BitVec 32 := Scalar.muli v12 c24_i32_1406
  let v2033 : BitVec 32 := Scalar.subi v1533 v2032
  let c48_i32_1681 : BitVec 32 := 48#32
  let v2386 : BitVec 32 := Scalar.muli v11 c48_i32_1681
  let v2387 : BitVec 32 := Scalar.subi v2033 v2386
  let c1_i32_1682 : BitVec 32 := 1#32
  let v2388 : BitVec 32 := Scalar.subi c1_i32_1682 v11
  let c48_i32_1683 : BitVec 32 := 48#32
  let v2389 : BitVec 32 := Scalar.muli v2388 c48_i32_1683
  let v2390 : BitVec 32 := Scalar.addi v2387 v2389
  let c256_i32_1687 : BitVec 32 := 256#32
  ![v2390.toNat, 256]
def k0_dev109 (d0 : Dev nD) : Nat :=
  let c0_i32_1686 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1685 : BitVec 32 := 1#32
  let v2391 : BitVec 32 := Scalar.muli v15 c1_i32_1685
  let v2392 : BitVec 32 := Scalar.addi c0_i32_1686 v2391
  v2392.toNat
def k0_off163 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let c2_i32_7 : BitVec 32 := 2#32
  let v12 : BitVec 32 := Scalar.divsi v4 c2_i32_7
  let c24_i32_1083 : BitVec 32 := 24#32
  let v1532 : BitVec 32 := Scalar.muli v12 c24_i32_1083
  let v1533 : BitVec 32 := Scalar.addi v1121 v1532
  let c24_i32_1406 : BitVec 32 := 24#32
  let v2032 : BitVec 32 := Scalar.muli v12 c24_i32_1406
  let v2033 : BitVec 32 := Scalar.subi v1533 v2032
  let c48_i32_1681 : BitVec 32 := 48#32
  let v2386 : BitVec 32 := Scalar.muli v11 c48_i32_1681
  let v2387 : BitVec 32 := Scalar.subi v2033 v2386
  let c256_i32_1693 : BitVec 32 := 256#32
  ![v2387.toNat, 256]
def k0_dev110 (d0 : Dev nD) : Nat :=
  let c0_i32_1692 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1691 : BitVec 32 := 1#32
  let v2399 : BitVec 32 := Scalar.muli v18 c1_i32_1691
  let v2400 : BitVec 32 := Scalar.addi c0_i32_1692 v2399
  v2400.toNat
def k0_off164 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1113 : BitVec 32 := 16#32
  let v1581 : BitVec 32 := Scalar.muli v10 c16_i32_1113
  let v1582 : BitVec 32 := Scalar.addi v1148 v1581
  let c16_i32_1427 : BitVec 32 := 16#32
  let v2059 : BitVec 32 := Scalar.muli v10 c16_i32_1427
  let v2060 : BitVec 32 := Scalar.subi v1582 v2059
  let c32_i32_1707 : BitVec 32 := 32#32
  let v2419 : BitVec 32 := Scalar.muli v8 c32_i32_1707
  let v2420 : BitVec 32 := Scalar.subi v2060 v2419
  let c1_i32_1708 : BitVec 32 := 1#32
  let v2421 : BitVec 32 := Scalar.subi c1_i32_1708 v8
  let c32_i32_1709 : BitVec 32 := 32#32
  let v2422 : BitVec 32 := Scalar.muli v2421 c32_i32_1709
  let v2423 : BitVec 32 := Scalar.addi v2420 v2422
  let c256_i32_1713 : BitVec 32 := 256#32
  ![v2423.toNat, 256]
def k0_dev111 (d0 : Dev nD) : Nat :=
  let c0_i32_1712 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1711 : BitVec 32 := 1#32
  let v2424 : BitVec 32 := Scalar.muli v24 c1_i32_1711
  let v2425 : BitVec 32 := Scalar.addi c0_i32_1712 v2424
  v2425.toNat
def k0_off165 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1113 : BitVec 32 := 16#32
  let v1581 : BitVec 32 := Scalar.muli v10 c16_i32_1113
  let v1582 : BitVec 32 := Scalar.addi v1148 v1581
  let c16_i32_1427 : BitVec 32 := 16#32
  let v2059 : BitVec 32 := Scalar.muli v10 c16_i32_1427
  let v2060 : BitVec 32 := Scalar.subi v1582 v2059
  let c32_i32_1707 : BitVec 32 := 32#32
  let v2419 : BitVec 32 := Scalar.muli v8 c32_i32_1707
  let v2420 : BitVec 32 := Scalar.subi v2060 v2419
  let c256_i32_1718 : BitVec 32 := 256#32
  ![v2420.toNat, 256]
def k0_dev112 (d0 : Dev nD) : Nat :=
  let c0_i32_1717 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1716 : BitVec 32 := 1#32
  let v2432 : BitVec 32 := Scalar.muli v21 c1_i32_1716
  let v2433 : BitVec 32 := Scalar.addi c0_i32_1717 v2432
  v2433.toNat
def k0_off166 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let c2_i32_7 : BitVec 32 := 2#32
  let v12 : BitVec 32 := Scalar.divsi v4 c2_i32_7
  let c24_i32_1143 : BitVec 32 := 24#32
  let v1630 : BitVec 32 := Scalar.muli v12 c24_i32_1143
  let v1631 : BitVec 32 := Scalar.addi v1175 v1630
  let c24_i32_1448 : BitVec 32 := 24#32
  let v2086 : BitVec 32 := Scalar.muli v12 c24_i32_1448
  let v2087 : BitVec 32 := Scalar.subi v1631 v2086
  let c48_i32_1732 : BitVec 32 := 48#32
  let v2452 : BitVec 32 := Scalar.muli v11 c48_i32_1732
  let v2453 : BitVec 32 := Scalar.subi v2087 v2452
  let c1_i32_1733 : BitVec 32 := 1#32
  let v2454 : BitVec 32 := Scalar.subi c1_i32_1733 v11
  let c48_i32_1734 : BitVec 32 := 48#32
  let v2455 : BitVec 32 := Scalar.muli v2454 c48_i32_1734
  let v2456 : BitVec 32 := Scalar.addi v2453 v2455
  let c512_i32_1738 : BitVec 32 := 512#32
  ![v2456.toNat, 512]
def k0_dev113 (d0 : Dev nD) : Nat :=
  let c0_i32_1737 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1736 : BitVec 32 := 1#32
  let v2457 : BitVec 32 := Scalar.muli v18 c1_i32_1736
  let v2458 : BitVec 32 := Scalar.addi c0_i32_1737 v2457
  v2458.toNat
def k0_off167 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let c2_i32_7 : BitVec 32 := 2#32
  let v12 : BitVec 32 := Scalar.divsi v4 c2_i32_7
  let c24_i32_1143 : BitVec 32 := 24#32
  let v1630 : BitVec 32 := Scalar.muli v12 c24_i32_1143
  let v1631 : BitVec 32 := Scalar.addi v1175 v1630
  let c24_i32_1448 : BitVec 32 := 24#32
  let v2086 : BitVec 32 := Scalar.muli v12 c24_i32_1448
  let v2087 : BitVec 32 := Scalar.subi v1631 v2086
  let c48_i32_1732 : BitVec 32 := 48#32
  let v2452 : BitVec 32 := Scalar.muli v11 c48_i32_1732
  let v2453 : BitVec 32 := Scalar.subi v2087 v2452
  let c512_i32_1743 : BitVec 32 := 512#32
  ![v2453.toNat, 512]
def k0_dev114 (d0 : Dev nD) : Nat :=
  let c0_i32_1742 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1741 : BitVec 32 := 1#32
  let v2465 : BitVec 32 := Scalar.muli v15 c1_i32_1741
  let v2466 : BitVec 32 := Scalar.addi c0_i32_1742 v2465
  v2466.toNat
def k0_off168 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let c2_i32_7 : BitVec 32 := 2#32
  let v12 : BitVec 32 := Scalar.divsi v4 c2_i32_7
  let c24_i32_1173 : BitVec 32 := 24#32
  let v1679 : BitVec 32 := Scalar.muli v12 c24_i32_1173
  let v1680 : BitVec 32 := Scalar.addi v1202 v1679
  let c24_i32_1469 : BitVec 32 := 24#32
  let v2113 : BitVec 32 := Scalar.muli v12 c24_i32_1469
  let v2114 : BitVec 32 := Scalar.subi v1680 v2113
  let c48_i32_1757 : BitVec 32 := 48#32
  let v2485 : BitVec 32 := Scalar.muli v11 c48_i32_1757
  let v2486 : BitVec 32 := Scalar.subi v2114 v2485
  let c1_i32_1758 : BitVec 32 := 1#32
  let v2487 : BitVec 32 := Scalar.subi c1_i32_1758 v11
  let c48_i32_1759 : BitVec 32 := 48#32
  let v2488 : BitVec 32 := Scalar.muli v2487 c48_i32_1759
  let v2489 : BitVec 32 := Scalar.addi v2486 v2488
  let c512_i32_1763 : BitVec 32 := 512#32
  ![v2489.toNat, 512]
def k0_dev115 (d0 : Dev nD) : Nat :=
  let c0_i32_1762 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1761 : BitVec 32 := 1#32
  let v2490 : BitVec 32 := Scalar.muli v15 c1_i32_1761
  let v2491 : BitVec 32 := Scalar.addi c0_i32_1762 v2490
  v2491.toNat
def k0_off169 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let c2_i32_7 : BitVec 32 := 2#32
  let v12 : BitVec 32 := Scalar.divsi v4 c2_i32_7
  let c24_i32_1173 : BitVec 32 := 24#32
  let v1679 : BitVec 32 := Scalar.muli v12 c24_i32_1173
  let v1680 : BitVec 32 := Scalar.addi v1202 v1679
  let c24_i32_1469 : BitVec 32 := 24#32
  let v2113 : BitVec 32 := Scalar.muli v12 c24_i32_1469
  let v2114 : BitVec 32 := Scalar.subi v1680 v2113
  let c48_i32_1757 : BitVec 32 := 48#32
  let v2485 : BitVec 32 := Scalar.muli v11 c48_i32_1757
  let v2486 : BitVec 32 := Scalar.subi v2114 v2485
  let c512_i32_1768 : BitVec 32 := 512#32
  ![v2486.toNat, 512]
def k0_dev116 (d0 : Dev nD) : Nat :=
  let c0_i32_1767 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1766 : BitVec 32 := 1#32
  let v2498 : BitVec 32 := Scalar.muli v18 c1_i32_1766
  let v2499 : BitVec 32 := Scalar.addi c0_i32_1767 v2498
  v2499.toNat
def k0_off170 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1203 : BitVec 32 := 16#32
  let v1728 : BitVec 32 := Scalar.muli v10 c16_i32_1203
  let v1729 : BitVec 32 := Scalar.addi v1229 v1728
  let c16_i32_1490 : BitVec 32 := 16#32
  let v2140 : BitVec 32 := Scalar.muli v10 c16_i32_1490
  let v2141 : BitVec 32 := Scalar.subi v1729 v2140
  let c32_i32_1782 : BitVec 32 := 32#32
  let v2518 : BitVec 32 := Scalar.muli v8 c32_i32_1782
  let v2519 : BitVec 32 := Scalar.subi v2141 v2518
  let c1_i32_1783 : BitVec 32 := 1#32
  let v2520 : BitVec 32 := Scalar.subi c1_i32_1783 v8
  let c32_i32_1784 : BitVec 32 := 32#32
  let v2521 : BitVec 32 := Scalar.muli v2520 c32_i32_1784
  let v2522 : BitVec 32 := Scalar.addi v2519 v2521
  let c512_i32_1788 : BitVec 32 := 512#32
  ![v2522.toNat, 512]
def k0_dev117 (d0 : Dev nD) : Nat :=
  let c0_i32_1787 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1786 : BitVec 32 := 1#32
  let v2523 : BitVec 32 := Scalar.muli v24 c1_i32_1786
  let v2524 : BitVec 32 := Scalar.addi c0_i32_1787 v2523
  v2524.toNat
def k0_off171 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1203 : BitVec 32 := 16#32
  let v1728 : BitVec 32 := Scalar.muli v10 c16_i32_1203
  let v1729 : BitVec 32 := Scalar.addi v1229 v1728
  let c16_i32_1490 : BitVec 32 := 16#32
  let v2140 : BitVec 32 := Scalar.muli v10 c16_i32_1490
  let v2141 : BitVec 32 := Scalar.subi v1729 v2140
  let c32_i32_1782 : BitVec 32 := 32#32
  let v2518 : BitVec 32 := Scalar.muli v8 c32_i32_1782
  let v2519 : BitVec 32 := Scalar.subi v2141 v2518
  let c512_i32_1793 : BitVec 32 := 512#32
  ![v2519.toNat, 512]
def k0_dev118 (d0 : Dev nD) : Nat :=
  let c0_i32_1792 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1791 : BitVec 32 := 1#32
  let v2531 : BitVec 32 := Scalar.muli v21 c1_i32_1791
  let v2532 : BitVec 32 := Scalar.addi c0_i32_1792 v2531
  v2532.toNat
def k0_off172 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let c2_i32_7 : BitVec 32 := 2#32
  let v12 : BitVec 32 := Scalar.divsi v4 c2_i32_7
  let c24_i32_1233 : BitVec 32 := 24#32
  let v1777 : BitVec 32 := Scalar.muli v12 c24_i32_1233
  let v1778 : BitVec 32 := Scalar.addi v1256 v1777
  let c24_i32_1511 : BitVec 32 := 24#32
  let v2167 : BitVec 32 := Scalar.muli v12 c24_i32_1511
  let v2168 : BitVec 32 := Scalar.subi v1778 v2167
  let c48_i32_1807 : BitVec 32 := 48#32
  let v2551 : BitVec 32 := Scalar.muli v11 c48_i32_1807
  let v2552 : BitVec 32 := Scalar.subi v2168 v2551
  let c1_i32_1808 : BitVec 32 := 1#32
  let v2553 : BitVec 32 := Scalar.subi c1_i32_1808 v11
  let c48_i32_1809 : BitVec 32 := 48#32
  let v2554 : BitVec 32 := Scalar.muli v2553 c48_i32_1809
  let v2555 : BitVec 32 := Scalar.addi v2552 v2554
  let c768_i32_1813 : BitVec 32 := 768#32
  ![v2555.toNat, 768]
def k0_dev119 (d0 : Dev nD) : Nat :=
  let c0_i32_1812 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1811 : BitVec 32 := 1#32
  let v2556 : BitVec 32 := Scalar.muli v18 c1_i32_1811
  let v2557 : BitVec 32 := Scalar.addi c0_i32_1812 v2556
  v2557.toNat
def k0_off173 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let c2_i32_7 : BitVec 32 := 2#32
  let v12 : BitVec 32 := Scalar.divsi v4 c2_i32_7
  let c24_i32_1233 : BitVec 32 := 24#32
  let v1777 : BitVec 32 := Scalar.muli v12 c24_i32_1233
  let v1778 : BitVec 32 := Scalar.addi v1256 v1777
  let c24_i32_1511 : BitVec 32 := 24#32
  let v2167 : BitVec 32 := Scalar.muli v12 c24_i32_1511
  let v2168 : BitVec 32 := Scalar.subi v1778 v2167
  let c48_i32_1807 : BitVec 32 := 48#32
  let v2551 : BitVec 32 := Scalar.muli v11 c48_i32_1807
  let v2552 : BitVec 32 := Scalar.subi v2168 v2551
  let c768_i32_1818 : BitVec 32 := 768#32
  ![v2552.toNat, 768]
def k0_dev120 (d0 : Dev nD) : Nat :=
  let c0_i32_1817 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1816 : BitVec 32 := 1#32
  let v2564 : BitVec 32 := Scalar.muli v15 c1_i32_1816
  let v2565 : BitVec 32 := Scalar.addi c0_i32_1817 v2564
  v2565.toNat
def k0_off174 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let c2_i32_7 : BitVec 32 := 2#32
  let v12 : BitVec 32 := Scalar.divsi v4 c2_i32_7
  let c24_i32_1263 : BitVec 32 := 24#32
  let v1826 : BitVec 32 := Scalar.muli v12 c24_i32_1263
  let v1827 : BitVec 32 := Scalar.addi v1283 v1826
  let c24_i32_1532 : BitVec 32 := 24#32
  let v2194 : BitVec 32 := Scalar.muli v12 c24_i32_1532
  let v2195 : BitVec 32 := Scalar.subi v1827 v2194
  let c48_i32_1832 : BitVec 32 := 48#32
  let v2584 : BitVec 32 := Scalar.muli v11 c48_i32_1832
  let v2585 : BitVec 32 := Scalar.subi v2195 v2584
  let c1_i32_1833 : BitVec 32 := 1#32
  let v2586 : BitVec 32 := Scalar.subi c1_i32_1833 v11
  let c48_i32_1834 : BitVec 32 := 48#32
  let v2587 : BitVec 32 := Scalar.muli v2586 c48_i32_1834
  let v2588 : BitVec 32 := Scalar.addi v2585 v2587
  let c768_i32_1838 : BitVec 32 := 768#32
  ![v2588.toNat, 768]
def k0_dev121 (d0 : Dev nD) : Nat :=
  let c0_i32_1837 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1836 : BitVec 32 := 1#32
  let v2589 : BitVec 32 := Scalar.muli v15 c1_i32_1836
  let v2590 : BitVec 32 := Scalar.addi c0_i32_1837 v2589
  v2590.toNat
def k0_off175 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let c2_i32_7 : BitVec 32 := 2#32
  let v12 : BitVec 32 := Scalar.divsi v4 c2_i32_7
  let c24_i32_1263 : BitVec 32 := 24#32
  let v1826 : BitVec 32 := Scalar.muli v12 c24_i32_1263
  let v1827 : BitVec 32 := Scalar.addi v1283 v1826
  let c24_i32_1532 : BitVec 32 := 24#32
  let v2194 : BitVec 32 := Scalar.muli v12 c24_i32_1532
  let v2195 : BitVec 32 := Scalar.subi v1827 v2194
  let c48_i32_1832 : BitVec 32 := 48#32
  let v2584 : BitVec 32 := Scalar.muli v11 c48_i32_1832
  let v2585 : BitVec 32 := Scalar.subi v2195 v2584
  let c768_i32_1843 : BitVec 32 := 768#32
  ![v2585.toNat, 768]
def k0_dev122 (d0 : Dev nD) : Nat :=
  let c0_i32_1842 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1841 : BitVec 32 := 1#32
  let v2597 : BitVec 32 := Scalar.muli v18 c1_i32_1841
  let v2598 : BitVec 32 := Scalar.addi c0_i32_1842 v2597
  v2598.toNat
def k0_off176 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1293 : BitVec 32 := 16#32
  let v1875 : BitVec 32 := Scalar.muli v10 c16_i32_1293
  let v1876 : BitVec 32 := Scalar.addi v1310 v1875
  let c16_i32_1553 : BitVec 32 := 16#32
  let v2221 : BitVec 32 := Scalar.muli v10 c16_i32_1553
  let v2222 : BitVec 32 := Scalar.subi v1876 v2221
  let c32_i32_1857 : BitVec 32 := 32#32
  let v2617 : BitVec 32 := Scalar.muli v8 c32_i32_1857
  let v2618 : BitVec 32 := Scalar.subi v2222 v2617
  let c1_i32_1858 : BitVec 32 := 1#32
  let v2619 : BitVec 32 := Scalar.subi c1_i32_1858 v8
  let c32_i32_1859 : BitVec 32 := 32#32
  let v2620 : BitVec 32 := Scalar.muli v2619 c32_i32_1859
  let v2621 : BitVec 32 := Scalar.addi v2618 v2620
  let c768_i32_1863 : BitVec 32 := 768#32
  ![v2621.toNat, 768]
def k0_dev123 (d0 : Dev nD) : Nat :=
  let c0_i32_1862 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_13 : BitVec 32 := 2#32
  let v22 : BitVec 32 := Scalar.xori v4 c2_i32_13
  let v23 : BitVec 32 := Scalar.muli c4_i32_14 v22
  let c4_i32 : BitVec 32 := 4#32
  let v3 : BitVec 32 := Scalar.remsi v2 c4_i32
  let v24 : BitVec 32 := Scalar.addi v23 v3
  let c1_i32_1861 : BitVec 32 := 1#32
  let v2622 : BitVec 32 := Scalar.muli v24 c1_i32_1861
  let v2623 : BitVec 32 := Scalar.addi c0_i32_1862 v2622
  v2623.toNat
def k0_off177 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1293 : BitVec 32 := 16#32
  let v1875 : BitVec 32 := Scalar.muli v10 c16_i32_1293
  let v1876 : BitVec 32 := Scalar.addi v1310 v1875
  let c16_i32_1553 : BitVec 32 := 16#32
  let v2221 : BitVec 32 := Scalar.muli v10 c16_i32_1553
  let v2222 : BitVec 32 := Scalar.subi v1876 v2221
  let c32_i32_1857 : BitVec 32 := 32#32
  let v2617 : BitVec 32 := Scalar.muli v8 c32_i32_1857
  let v2618 : BitVec 32 := Scalar.subi v2222 v2617
  let c768_i32_1868 : BitVec 32 := 768#32
  ![v2618.toNat, 768]
def k0_dev124 (d0 : Dev nD) : Nat :=
  let c0_i32_1867 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1866 : BitVec 32 := 1#32
  let v2630 : BitVec 32 := Scalar.muli v21 c1_i32_1866
  let v2631 : BitVec 32 := Scalar.addi c0_i32_1867 v2630
  v2631.toNat
def k0_off178 (d0 : Dev nD) : Fin 2 → Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_252 : BitVec 32 := 192#32
  let v364 : BitVec 32 := Scalar.muli v8 c192_i32_252
  let v365 : BitVec 32 := Scalar.addi c0_i32_253 v364
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_499 : BitVec 32 := 96#32
  let v688 : BitVec 32 := Scalar.muli v10 c96_i32_499
  let v689 : BitVec 32 := Scalar.addi v365 v688
  let c4_i32_0 : BitVec 32 := 4#32
  let v4 : BitVec 32 := Scalar.divsi v2 c4_i32_0
  let c2_i32_6 : BitVec 32 := 2#32
  let v11 : BitVec 32 := Scalar.remsi v4 c2_i32_6
  let c48_i32_732 : BitVec 32 := 48#32
  let v1012 : BitVec 32 := Scalar.muli v11 c48_i32_732
  let v1013 : BitVec 32 := Scalar.addi v689 v1012
  let c2_i32_7 : BitVec 32 := 2#32
  let v12 : BitVec 32 := Scalar.divsi v4 c2_i32_7
  let c24_i32_966 : BitVec 32 := 24#32
  let v1336 : BitVec 32 := Scalar.muli v12 c24_i32_966
  let v1337 : BitVec 32 := Scalar.addi v1013 v1336
  let c24_i32_1322 : BitVec 32 := 24#32
  let v1924 : BitVec 32 := Scalar.muli v12 c24_i32_1322
  let v1925 : BitVec 32 := Scalar.subi v1337 v1924
  let c48_i32_1580 : BitVec 32 := 48#32
  let v2254 : BitVec 32 := Scalar.muli v11 c48_i32_1580
  let v2255 : BitVec 32 := Scalar.subi v1925 v2254
  let c96_i32_1882 : BitVec 32 := 96#32
  let v2650 : BitVec 32 := Scalar.muli v10 c96_i32_1882
  let v2651 : BitVec 32 := Scalar.subi v2255 v2650
  let c1_i32_1883 : BitVec 32 := 1#32
  let v2652 : BitVec 32 := Scalar.subi c1_i32_1883 v10
  let c96_i32_1884 : BitVec 32 := 96#32
  let v2653 : BitVec 32 := Scalar.muli v2652 c96_i32_1884
  let v2654 : BitVec 32 := Scalar.addi v2651 v2653
  let c0_i32_1888 : BitVec 32 := 0#32
  ![v2654.toNat, 0]
def k0_dev125 (d0 : Dev nD) : Nat :=
  let c0_i32_1887 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1886 : BitVec 32 := 1#32
  let v2655 : BitVec 32 := Scalar.muli v15 c1_i32_1886
  let v2656 : BitVec 32 := Scalar.addi c0_i32_1887 v2655
  v2656.toNat
def k0_off179 (d0 : Dev nD) : Fin 2 → Nat :=
  let c384_i32_273 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_272 : BitVec 32 := 192#32
  let v391 : BitVec 32 := Scalar.muli v10 c192_i32_272
  let v392 : BitVec 32 := Scalar.addi c384_i32_273 v391
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_516 : BitVec 32 := 96#32
  let v715 : BitVec 32 := Scalar.muli v8 c96_i32_516
  let v716 : BitVec 32 := Scalar.addi v392 v715
  let c4_i32_0 : BitVec 32 := 4#32
  let v4 : BitVec 32 := Scalar.divsi v2 c4_i32_0
  let c2_i32_6 : BitVec 32 := 2#32
  let v11 : BitVec 32 := Scalar.remsi v4 c2_i32_6
  let c48_i32_750 : BitVec 32 := 48#32
  let v1039 : BitVec 32 := Scalar.muli v11 c48_i32_750
  let v1040 : BitVec 32 := Scalar.addi v716 v1039
  let c2_i32_7 : BitVec 32 := 2#32
  let v12 : BitVec 32 := Scalar.divsi v4 c2_i32_7
  let c24_i32_995 : BitVec 32 := 24#32
  let v1385 : BitVec 32 := Scalar.muli v12 c24_i32_995
  let v1386 : BitVec 32 := Scalar.addi v1040 v1385
  let c24_i32_1343 : BitVec 32 := 24#32
  let v1951 : BitVec 32 := Scalar.muli v12 c24_i32_1343
  let v1952 : BitVec 32 := Scalar.subi v1386 v1951
  let c48_i32_1606 : BitVec 32 := 48#32
  let v2287 : BitVec 32 := Scalar.muli v11 c48_i32_1606
  let v2288 : BitVec 32 := Scalar.subi v1952 v2287
  let c96_i32_1902 : BitVec 32 := 96#32
  let v2675 : BitVec 32 := Scalar.muli v8 c96_i32_1902
  let v2676 : BitVec 32 := Scalar.subi v2288 v2675
  let c1_i32_1903 : BitVec 32 := 1#32
  let v2677 : BitVec 32 := Scalar.subi c1_i32_1903 v8
  let c96_i32_1904 : BitVec 32 := 96#32
  let v2678 : BitVec 32 := Scalar.muli v2677 c96_i32_1904
  let v2679 : BitVec 32 := Scalar.addi v2676 v2678
  let c0_i32_1908 : BitVec 32 := 0#32
  ![v2679.toNat, 0]
def k0_dev126 (d0 : Dev nD) : Nat :=
  let c0_i32_1907 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1906 : BitVec 32 := 1#32
  let v2680 : BitVec 32 := Scalar.muli v18 c1_i32_1906
  let v2681 : BitVec 32 := Scalar.addi c0_i32_1907 v2680
  v2681.toNat
def k0_off180 (d0 : Dev nD) : Fin 2 → Nat :=
  let c768_i32_292 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_291 : BitVec 32 := 128#32
  let v418 : BitVec 32 := Scalar.muli v11 c128_i32_291
  let v419 : BitVec 32 := Scalar.addi c768_i32_292 v418
  let c2_i32_7 : BitVec 32 := 2#32
  let v12 : BitVec 32 := Scalar.divsi v4 c2_i32_7
  let c64_i32_534 : BitVec 32 := 64#32
  let v742 : BitVec 32 := Scalar.muli v12 c64_i32_534
  let v743 : BitVec 32 := Scalar.addi v419 v742
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_768 : BitVec 32 := 32#32
  let v1066 : BitVec 32 := Scalar.muli v8 c32_i32_768
  let v1067 : BitVec 32 := Scalar.addi v743 v1066
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1024 : BitVec 32 := 16#32
  let v1434 : BitVec 32 := Scalar.muli v10 c16_i32_1024
  let v1435 : BitVec 32 := Scalar.addi v1067 v1434
  let c16_i32_1364 : BitVec 32 := 16#32
  let v1978 : BitVec 32 := Scalar.muli v10 c16_i32_1364
  let v1979 : BitVec 32 := Scalar.subi v1435 v1978
  let c32_i32_1631 : BitVec 32 := 32#32
  let v2320 : BitVec 32 := Scalar.muli v8 c32_i32_1631
  let v2321 : BitVec 32 := Scalar.subi v1979 v2320
  let c64_i32_1922 : BitVec 32 := 64#32
  let v2700 : BitVec 32 := Scalar.muli v12 c64_i32_1922
  let v2701 : BitVec 32 := Scalar.subi v2321 v2700
  let c1_i32_1923 : BitVec 32 := 1#32
  let v2702 : BitVec 32 := Scalar.subi c1_i32_1923 v12
  let c64_i32_1924 : BitVec 32 := 64#32
  let v2703 : BitVec 32 := Scalar.muli v2702 c64_i32_1924
  let v2704 : BitVec 32 := Scalar.addi v2701 v2703
  let c0_i32_1928 : BitVec 32 := 0#32
  ![v2704.toNat, 0]
def k0_dev127 (d0 : Dev nD) : Nat :=
  let c0_i32_1927 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1926 : BitVec 32 := 1#32
  let v2705 : BitVec 32 := Scalar.muli v21 c1_i32_1926
  let v2706 : BitVec 32 := Scalar.addi c0_i32_1927 v2705
  v2706.toNat
def k0_off181 (d0 : Dev nD) : Fin 2 → Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_309 : BitVec 32 := 192#32
  let v445 : BitVec 32 := Scalar.muli v8 c192_i32_309
  let v446 : BitVec 32 := Scalar.addi c0_i32_310 v445
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_551 : BitVec 32 := 96#32
  let v769 : BitVec 32 := Scalar.muli v10 c96_i32_551
  let v770 : BitVec 32 := Scalar.addi v446 v769
  let c4_i32_0 : BitVec 32 := 4#32
  let v4 : BitVec 32 := Scalar.divsi v2 c4_i32_0
  let c2_i32_6 : BitVec 32 := 2#32
  let v11 : BitVec 32 := Scalar.remsi v4 c2_i32_6
  let c48_i32_786 : BitVec 32 := 48#32
  let v1093 : BitVec 32 := Scalar.muli v11 c48_i32_786
  let v1094 : BitVec 32 := Scalar.addi v770 v1093
  let c2_i32_7 : BitVec 32 := 2#32
  let v12 : BitVec 32 := Scalar.divsi v4 c2_i32_7
  let c24_i32_1053 : BitVec 32 := 24#32
  let v1483 : BitVec 32 := Scalar.muli v12 c24_i32_1053
  let v1484 : BitVec 32 := Scalar.addi v1094 v1483
  let c24_i32_1385 : BitVec 32 := 24#32
  let v2005 : BitVec 32 := Scalar.muli v12 c24_i32_1385
  let v2006 : BitVec 32 := Scalar.subi v1484 v2005
  let c48_i32_1656 : BitVec 32 := 48#32
  let v2353 : BitVec 32 := Scalar.muli v11 c48_i32_1656
  let v2354 : BitVec 32 := Scalar.subi v2006 v2353
  let c96_i32_1942 : BitVec 32 := 96#32
  let v2725 : BitVec 32 := Scalar.muli v10 c96_i32_1942
  let v2726 : BitVec 32 := Scalar.subi v2354 v2725
  let c1_i32_1943 : BitVec 32 := 1#32
  let v2727 : BitVec 32 := Scalar.subi c1_i32_1943 v10
  let c96_i32_1944 : BitVec 32 := 96#32
  let v2728 : BitVec 32 := Scalar.muli v2727 c96_i32_1944
  let v2729 : BitVec 32 := Scalar.addi v2726 v2728
  let c256_i32_1948 : BitVec 32 := 256#32
  ![v2729.toNat, 256]
def k0_dev128 (d0 : Dev nD) : Nat :=
  let c0_i32_1947 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_1946 : BitVec 32 := 1#32
  let v2730 : BitVec 32 := Scalar.muli v15 c1_i32_1946
  let v2731 : BitVec 32 := Scalar.addi c0_i32_1947 v2730
  v2731.toNat
def k0_off182 (d0 : Dev nD) : Fin 2 → Nat :=
  let c384_i32_331 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_330 : BitVec 32 := 192#32
  let v472 : BitVec 32 := Scalar.muli v10 c192_i32_330
  let v473 : BitVec 32 := Scalar.addi c384_i32_331 v472
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_571 : BitVec 32 := 96#32
  let v796 : BitVec 32 := Scalar.muli v8 c96_i32_571
  let v797 : BitVec 32 := Scalar.addi v473 v796
  let c4_i32_0 : BitVec 32 := 4#32
  let v4 : BitVec 32 := Scalar.divsi v2 c4_i32_0
  let c2_i32_6 : BitVec 32 := 2#32
  let v11 : BitVec 32 := Scalar.remsi v4 c2_i32_6
  let c48_i32_806 : BitVec 32 := 48#32
  let v1120 : BitVec 32 := Scalar.muli v11 c48_i32_806
  let v1121 : BitVec 32 := Scalar.addi v797 v1120
  let c2_i32_7 : BitVec 32 := 2#32
  let v12 : BitVec 32 := Scalar.divsi v4 c2_i32_7
  let c24_i32_1083 : BitVec 32 := 24#32
  let v1532 : BitVec 32 := Scalar.muli v12 c24_i32_1083
  let v1533 : BitVec 32 := Scalar.addi v1121 v1532
  let c24_i32_1406 : BitVec 32 := 24#32
  let v2032 : BitVec 32 := Scalar.muli v12 c24_i32_1406
  let v2033 : BitVec 32 := Scalar.subi v1533 v2032
  let c48_i32_1681 : BitVec 32 := 48#32
  let v2386 : BitVec 32 := Scalar.muli v11 c48_i32_1681
  let v2387 : BitVec 32 := Scalar.subi v2033 v2386
  let c96_i32_1962 : BitVec 32 := 96#32
  let v2750 : BitVec 32 := Scalar.muli v8 c96_i32_1962
  let v2751 : BitVec 32 := Scalar.subi v2387 v2750
  let c1_i32_1963 : BitVec 32 := 1#32
  let v2752 : BitVec 32 := Scalar.subi c1_i32_1963 v8
  let c96_i32_1964 : BitVec 32 := 96#32
  let v2753 : BitVec 32 := Scalar.muli v2752 c96_i32_1964
  let v2754 : BitVec 32 := Scalar.addi v2751 v2753
  let c256_i32_1968 : BitVec 32 := 256#32
  ![v2754.toNat, 256]
def k0_dev129 (d0 : Dev nD) : Nat :=
  let c0_i32_1967 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_1966 : BitVec 32 := 1#32
  let v2755 : BitVec 32 := Scalar.muli v18 c1_i32_1966
  let v2756 : BitVec 32 := Scalar.addi c0_i32_1967 v2755
  v2756.toNat
def k0_off183 (d0 : Dev nD) : Fin 2 → Nat :=
  let c768_i32_353 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_352 : BitVec 32 := 128#32
  let v499 : BitVec 32 := Scalar.muli v11 c128_i32_352
  let v500 : BitVec 32 := Scalar.addi c768_i32_353 v499
  let c2_i32_7 : BitVec 32 := 2#32
  let v12 : BitVec 32 := Scalar.divsi v4 c2_i32_7
  let c64_i32_591 : BitVec 32 := 64#32
  let v823 : BitVec 32 := Scalar.muli v12 c64_i32_591
  let v824 : BitVec 32 := Scalar.addi v500 v823
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_826 : BitVec 32 := 32#32
  let v1147 : BitVec 32 := Scalar.muli v8 c32_i32_826
  let v1148 : BitVec 32 := Scalar.addi v824 v1147
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1113 : BitVec 32 := 16#32
  let v1581 : BitVec 32 := Scalar.muli v10 c16_i32_1113
  let v1582 : BitVec 32 := Scalar.addi v1148 v1581
  let c16_i32_1427 : BitVec 32 := 16#32
  let v2059 : BitVec 32 := Scalar.muli v10 c16_i32_1427
  let v2060 : BitVec 32 := Scalar.subi v1582 v2059
  let c32_i32_1707 : BitVec 32 := 32#32
  let v2419 : BitVec 32 := Scalar.muli v8 c32_i32_1707
  let v2420 : BitVec 32 := Scalar.subi v2060 v2419
  let c64_i32_1982 : BitVec 32 := 64#32
  let v2775 : BitVec 32 := Scalar.muli v12 c64_i32_1982
  let v2776 : BitVec 32 := Scalar.subi v2420 v2775
  let c1_i32_1983 : BitVec 32 := 1#32
  let v2777 : BitVec 32 := Scalar.subi c1_i32_1983 v12
  let c64_i32_1984 : BitVec 32 := 64#32
  let v2778 : BitVec 32 := Scalar.muli v2777 c64_i32_1984
  let v2779 : BitVec 32 := Scalar.addi v2776 v2778
  let c256_i32_1988 : BitVec 32 := 256#32
  ![v2779.toNat, 256]
def k0_dev130 (d0 : Dev nD) : Nat :=
  let c0_i32_1987 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_1986 : BitVec 32 := 1#32
  let v2780 : BitVec 32 := Scalar.muli v21 c1_i32_1986
  let v2781 : BitVec 32 := Scalar.addi c0_i32_1987 v2780
  v2781.toNat
def k0_off184 (d0 : Dev nD) : Fin 2 → Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_373 : BitVec 32 := 192#32
  let v526 : BitVec 32 := Scalar.muli v8 c192_i32_373
  let v527 : BitVec 32 := Scalar.addi c0_i32_374 v526
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_611 : BitVec 32 := 96#32
  let v850 : BitVec 32 := Scalar.muli v10 c96_i32_611
  let v851 : BitVec 32 := Scalar.addi v527 v850
  let c4_i32_0 : BitVec 32 := 4#32
  let v4 : BitVec 32 := Scalar.divsi v2 c4_i32_0
  let c2_i32_6 : BitVec 32 := 2#32
  let v11 : BitVec 32 := Scalar.remsi v4 c2_i32_6
  let c48_i32_846 : BitVec 32 := 48#32
  let v1174 : BitVec 32 := Scalar.muli v11 c48_i32_846
  let v1175 : BitVec 32 := Scalar.addi v851 v1174
  let c2_i32_7 : BitVec 32 := 2#32
  let v12 : BitVec 32 := Scalar.divsi v4 c2_i32_7
  let c24_i32_1143 : BitVec 32 := 24#32
  let v1630 : BitVec 32 := Scalar.muli v12 c24_i32_1143
  let v1631 : BitVec 32 := Scalar.addi v1175 v1630
  let c24_i32_1448 : BitVec 32 := 24#32
  let v2086 : BitVec 32 := Scalar.muli v12 c24_i32_1448
  let v2087 : BitVec 32 := Scalar.subi v1631 v2086
  let c48_i32_1732 : BitVec 32 := 48#32
  let v2452 : BitVec 32 := Scalar.muli v11 c48_i32_1732
  let v2453 : BitVec 32 := Scalar.subi v2087 v2452
  let c96_i32_2002 : BitVec 32 := 96#32
  let v2800 : BitVec 32 := Scalar.muli v10 c96_i32_2002
  let v2801 : BitVec 32 := Scalar.subi v2453 v2800
  let c1_i32_2003 : BitVec 32 := 1#32
  let v2802 : BitVec 32 := Scalar.subi c1_i32_2003 v10
  let c96_i32_2004 : BitVec 32 := 96#32
  let v2803 : BitVec 32 := Scalar.muli v2802 c96_i32_2004
  let v2804 : BitVec 32 := Scalar.addi v2801 v2803
  let c512_i32_2008 : BitVec 32 := 512#32
  ![v2804.toNat, 512]
def k0_dev131 (d0 : Dev nD) : Nat :=
  let c0_i32_2007 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_2006 : BitVec 32 := 1#32
  let v2805 : BitVec 32 := Scalar.muli v15 c1_i32_2006
  let v2806 : BitVec 32 := Scalar.addi c0_i32_2007 v2805
  v2806.toNat
def k0_off185 (d0 : Dev nD) : Fin 2 → Nat :=
  let c384_i32_395 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_394 : BitVec 32 := 192#32
  let v553 : BitVec 32 := Scalar.muli v10 c192_i32_394
  let v554 : BitVec 32 := Scalar.addi c384_i32_395 v553
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_631 : BitVec 32 := 96#32
  let v877 : BitVec 32 := Scalar.muli v8 c96_i32_631
  let v878 : BitVec 32 := Scalar.addi v554 v877
  let c4_i32_0 : BitVec 32 := 4#32
  let v4 : BitVec 32 := Scalar.divsi v2 c4_i32_0
  let c2_i32_6 : BitVec 32 := 2#32
  let v11 : BitVec 32 := Scalar.remsi v4 c2_i32_6
  let c48_i32_866 : BitVec 32 := 48#32
  let v1201 : BitVec 32 := Scalar.muli v11 c48_i32_866
  let v1202 : BitVec 32 := Scalar.addi v878 v1201
  let c2_i32_7 : BitVec 32 := 2#32
  let v12 : BitVec 32 := Scalar.divsi v4 c2_i32_7
  let c24_i32_1173 : BitVec 32 := 24#32
  let v1679 : BitVec 32 := Scalar.muli v12 c24_i32_1173
  let v1680 : BitVec 32 := Scalar.addi v1202 v1679
  let c24_i32_1469 : BitVec 32 := 24#32
  let v2113 : BitVec 32 := Scalar.muli v12 c24_i32_1469
  let v2114 : BitVec 32 := Scalar.subi v1680 v2113
  let c48_i32_1757 : BitVec 32 := 48#32
  let v2485 : BitVec 32 := Scalar.muli v11 c48_i32_1757
  let v2486 : BitVec 32 := Scalar.subi v2114 v2485
  let c96_i32_2022 : BitVec 32 := 96#32
  let v2825 : BitVec 32 := Scalar.muli v8 c96_i32_2022
  let v2826 : BitVec 32 := Scalar.subi v2486 v2825
  let c1_i32_2023 : BitVec 32 := 1#32
  let v2827 : BitVec 32 := Scalar.subi c1_i32_2023 v8
  let c96_i32_2024 : BitVec 32 := 96#32
  let v2828 : BitVec 32 := Scalar.muli v2827 c96_i32_2024
  let v2829 : BitVec 32 := Scalar.addi v2826 v2828
  let c512_i32_2028 : BitVec 32 := 512#32
  ![v2829.toNat, 512]
def k0_dev132 (d0 : Dev nD) : Nat :=
  let c0_i32_2027 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_2026 : BitVec 32 := 1#32
  let v2830 : BitVec 32 := Scalar.muli v18 c1_i32_2026
  let v2831 : BitVec 32 := Scalar.addi c0_i32_2027 v2830
  v2831.toNat
def k0_off186 (d0 : Dev nD) : Fin 2 → Nat :=
  let c768_i32_416 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_415 : BitVec 32 := 128#32
  let v580 : BitVec 32 := Scalar.muli v11 c128_i32_415
  let v581 : BitVec 32 := Scalar.addi c768_i32_416 v580
  let c2_i32_7 : BitVec 32 := 2#32
  let v12 : BitVec 32 := Scalar.divsi v4 c2_i32_7
  let c64_i32_651 : BitVec 32 := 64#32
  let v904 : BitVec 32 := Scalar.muli v12 c64_i32_651
  let v905 : BitVec 32 := Scalar.addi v581 v904
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_886 : BitVec 32 := 32#32
  let v1228 : BitVec 32 := Scalar.muli v8 c32_i32_886
  let v1229 : BitVec 32 := Scalar.addi v905 v1228
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1203 : BitVec 32 := 16#32
  let v1728 : BitVec 32 := Scalar.muli v10 c16_i32_1203
  let v1729 : BitVec 32 := Scalar.addi v1229 v1728
  let c16_i32_1490 : BitVec 32 := 16#32
  let v2140 : BitVec 32 := Scalar.muli v10 c16_i32_1490
  let v2141 : BitVec 32 := Scalar.subi v1729 v2140
  let c32_i32_1782 : BitVec 32 := 32#32
  let v2518 : BitVec 32 := Scalar.muli v8 c32_i32_1782
  let v2519 : BitVec 32 := Scalar.subi v2141 v2518
  let c64_i32_2042 : BitVec 32 := 64#32
  let v2850 : BitVec 32 := Scalar.muli v12 c64_i32_2042
  let v2851 : BitVec 32 := Scalar.subi v2519 v2850
  let c1_i32_2043 : BitVec 32 := 1#32
  let v2852 : BitVec 32 := Scalar.subi c1_i32_2043 v12
  let c64_i32_2044 : BitVec 32 := 64#32
  let v2853 : BitVec 32 := Scalar.muli v2852 c64_i32_2044
  let v2854 : BitVec 32 := Scalar.addi v2851 v2853
  let c512_i32_2048 : BitVec 32 := 512#32
  ![v2854.toNat, 512]
def k0_dev133 (d0 : Dev nD) : Nat :=
  let c0_i32_2047 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_2046 : BitVec 32 := 1#32
  let v2855 : BitVec 32 := Scalar.muli v21 c1_i32_2046
  let v2856 : BitVec 32 := Scalar.addi c0_i32_2047 v2855
  v2856.toNat
def k0_off187 (d0 : Dev nD) : Fin 2 → Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_436 : BitVec 32 := 192#32
  let v607 : BitVec 32 := Scalar.muli v8 c192_i32_436
  let v608 : BitVec 32 := Scalar.addi c0_i32_437 v607
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c96_i32_672 : BitVec 32 := 96#32
  let v931 : BitVec 32 := Scalar.muli v10 c96_i32_672
  let v932 : BitVec 32 := Scalar.addi v608 v931
  let c4_i32_0 : BitVec 32 := 4#32
  let v4 : BitVec 32 := Scalar.divsi v2 c4_i32_0
  let c2_i32_6 : BitVec 32 := 2#32
  let v11 : BitVec 32 := Scalar.remsi v4 c2_i32_6
  let c48_i32_906 : BitVec 32 := 48#32
  let v1255 : BitVec 32 := Scalar.muli v11 c48_i32_906
  let v1256 : BitVec 32 := Scalar.addi v932 v1255
  let c2_i32_7 : BitVec 32 := 2#32
  let v12 : BitVec 32 := Scalar.divsi v4 c2_i32_7
  let c24_i32_1233 : BitVec 32 := 24#32
  let v1777 : BitVec 32 := Scalar.muli v12 c24_i32_1233
  let v1778 : BitVec 32 := Scalar.addi v1256 v1777
  let c24_i32_1511 : BitVec 32 := 24#32
  let v2167 : BitVec 32 := Scalar.muli v12 c24_i32_1511
  let v2168 : BitVec 32 := Scalar.subi v1778 v2167
  let c48_i32_1807 : BitVec 32 := 48#32
  let v2551 : BitVec 32 := Scalar.muli v11 c48_i32_1807
  let v2552 : BitVec 32 := Scalar.subi v2168 v2551
  let c96_i32_2062 : BitVec 32 := 96#32
  let v2875 : BitVec 32 := Scalar.muli v10 c96_i32_2062
  let v2876 : BitVec 32 := Scalar.subi v2552 v2875
  let c1_i32_2063 : BitVec 32 := 1#32
  let v2877 : BitVec 32 := Scalar.subi c1_i32_2063 v10
  let c96_i32_2064 : BitVec 32 := 96#32
  let v2878 : BitVec 32 := Scalar.muli v2877 c96_i32_2064
  let v2879 : BitVec 32 := Scalar.addi v2876 v2878
  let c768_i32_2068 : BitVec 32 := 768#32
  ![v2879.toNat, 768]
def k0_dev134 (d0 : Dev nD) : Nat :=
  let c0_i32_2067 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v13 : BitVec 32 := Scalar.muli c4_i32_8 v4
  let c4_i32 : BitVec 32 := 4#32
  let v3 : BitVec 32 := Scalar.remsi v2 c4_i32
  let c1_i32_9 : BitVec 32 := 1#32
  let v14 : BitVec 32 := Scalar.xori v3 c1_i32_9
  let v15 : BitVec 32 := Scalar.addi v13 v14
  let c1_i32_2066 : BitVec 32 := 1#32
  let v2880 : BitVec 32 := Scalar.muli v15 c1_i32_2066
  let v2881 : BitVec 32 := Scalar.addi c0_i32_2067 v2880
  v2881.toNat
def k0_off188 (d0 : Dev nD) : Fin 2 → Nat :=
  let c384_i32_458 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_457 : BitVec 32 := 192#32
  let v634 : BitVec 32 := Scalar.muli v10 c192_i32_457
  let v635 : BitVec 32 := Scalar.addi c384_i32_458 v634
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c96_i32_692 : BitVec 32 := 96#32
  let v958 : BitVec 32 := Scalar.muli v8 c96_i32_692
  let v959 : BitVec 32 := Scalar.addi v635 v958
  let c4_i32_0 : BitVec 32 := 4#32
  let v4 : BitVec 32 := Scalar.divsi v2 c4_i32_0
  let c2_i32_6 : BitVec 32 := 2#32
  let v11 : BitVec 32 := Scalar.remsi v4 c2_i32_6
  let c48_i32_926 : BitVec 32 := 48#32
  let v1282 : BitVec 32 := Scalar.muli v11 c48_i32_926
  let v1283 : BitVec 32 := Scalar.addi v959 v1282
  let c2_i32_7 : BitVec 32 := 2#32
  let v12 : BitVec 32 := Scalar.divsi v4 c2_i32_7
  let c24_i32_1263 : BitVec 32 := 24#32
  let v1826 : BitVec 32 := Scalar.muli v12 c24_i32_1263
  let v1827 : BitVec 32 := Scalar.addi v1283 v1826
  let c24_i32_1532 : BitVec 32 := 24#32
  let v2194 : BitVec 32 := Scalar.muli v12 c24_i32_1532
  let v2195 : BitVec 32 := Scalar.subi v1827 v2194
  let c48_i32_1832 : BitVec 32 := 48#32
  let v2584 : BitVec 32 := Scalar.muli v11 c48_i32_1832
  let v2585 : BitVec 32 := Scalar.subi v2195 v2584
  let c96_i32_2082 : BitVec 32 := 96#32
  let v2900 : BitVec 32 := Scalar.muli v8 c96_i32_2082
  let v2901 : BitVec 32 := Scalar.subi v2585 v2900
  let c1_i32_2083 : BitVec 32 := 1#32
  let v2902 : BitVec 32 := Scalar.subi c1_i32_2083 v8
  let c96_i32_2084 : BitVec 32 := 96#32
  let v2903 : BitVec 32 := Scalar.muli v2902 c96_i32_2084
  let v2904 : BitVec 32 := Scalar.addi v2901 v2903
  let c768_i32_2088 : BitVec 32 := 768#32
  ![v2904.toNat, 768]
def k0_dev135 (d0 : Dev nD) : Nat :=
  let c0_i32_2087 : BitVec 32 := 0#32
  let c4_i32_10 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v16 : BitVec 32 := Scalar.muli c4_i32_10 v4
  let c4_i32 : BitVec 32 := 4#32
  let v3 : BitVec 32 := Scalar.remsi v2 c4_i32
  let c3_i32 : BitVec 32 := 3#32
  let v17 : BitVec 32 := Scalar.xori v3 c3_i32
  let v18 : BitVec 32 := Scalar.addi v16 v17
  let c1_i32_2086 : BitVec 32 := 1#32
  let v2905 : BitVec 32 := Scalar.muli v18 c1_i32_2086
  let v2906 : BitVec 32 := Scalar.addi c0_i32_2087 v2905
  v2906.toNat
def k0_off189 (d0 : Dev nD) : Fin 2 → Nat :=
  let c768_i32_479 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c128_i32_478 : BitVec 32 := 128#32
  let v661 : BitVec 32 := Scalar.muli v11 c128_i32_478
  let v662 : BitVec 32 := Scalar.addi c768_i32_479 v661
  let c2_i32_7 : BitVec 32 := 2#32
  let v12 : BitVec 32 := Scalar.divsi v4 c2_i32_7
  let c64_i32_712 : BitVec 32 := 64#32
  let v985 : BitVec 32 := Scalar.muli v12 c64_i32_712
  let v986 : BitVec 32 := Scalar.addi v662 v985
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c32_i32_946 : BitVec 32 := 32#32
  let v1309 : BitVec 32 := Scalar.muli v8 c32_i32_946
  let v1310 : BitVec 32 := Scalar.addi v986 v1309
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c16_i32_1293 : BitVec 32 := 16#32
  let v1875 : BitVec 32 := Scalar.muli v10 c16_i32_1293
  let v1876 : BitVec 32 := Scalar.addi v1310 v1875
  let c16_i32_1553 : BitVec 32 := 16#32
  let v2221 : BitVec 32 := Scalar.muli v10 c16_i32_1553
  let v2222 : BitVec 32 := Scalar.subi v1876 v2221
  let c32_i32_1857 : BitVec 32 := 32#32
  let v2617 : BitVec 32 := Scalar.muli v8 c32_i32_1857
  let v2618 : BitVec 32 := Scalar.subi v2222 v2617
  let c64_i32_2102 : BitVec 32 := 64#32
  let v2925 : BitVec 32 := Scalar.muli v12 c64_i32_2102
  let v2926 : BitVec 32 := Scalar.subi v2618 v2925
  let c1_i32_2103 : BitVec 32 := 1#32
  let v2927 : BitVec 32 := Scalar.subi c1_i32_2103 v12
  let c64_i32_2104 : BitVec 32 := 64#32
  let v2928 : BitVec 32 := Scalar.muli v2927 c64_i32_2104
  let v2929 : BitVec 32 := Scalar.addi v2926 v2928
  let c768_i32_2108 : BitVec 32 := 768#32
  ![v2929.toNat, 768]
def k0_dev136 (d0 : Dev nD) : Nat :=
  let c0_i32_2107 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_11 : BitVec 32 := 1#32
  let v19 : BitVec 32 := Scalar.xori v4 c1_i32_11
  let v20 : BitVec 32 := Scalar.muli c4_i32_12 v19
  let c4_i32 : BitVec 32 := 4#32
  let v3 : BitVec 32 := Scalar.remsi v2 c4_i32
  let v21 : BitVec 32 := Scalar.addi v20 v3
  let c1_i32_2106 : BitVec 32 := 1#32
  let v2930 : BitVec 32 := Scalar.muli v21 c1_i32_2106
  let v2931 : BitVec 32 := Scalar.addi c0_i32_2107 v2930
  v2931.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Plan.lean ====
/-
  The exchange as plain arithmetic: the mesh, the rows every step works on, the transfers, and the order of the steps.

  The 1024 rows are cut into three rails of 384, 384 and 256 rows, the 1024 columns into four blocks of 256. A pair of a
  rail and a column block is a stream: stream `s` is rail `s % 3`, column block `s / 3`. On each rail a device halves its
  rows four times, each time along one of the mesh's four dimensions, sends one half and keeps the other; then it sends
  the finished rows back along the same dimensions. A stream makes eleven transfers: `0 … 3` carry partial sums, `4 … 10`
  carry finished rows.
-/
module

public import proofs.«01_k».proof.Proof.Gen.KernelIdeal

@[expose] public section

namespace Cert.Exchange

open Cert.KernelIdeal Idealize.ShloMosaic

/-! ## The mesh -/

/-- The bit of device `c` along mesh dimension `x`. -/
def bit (c : Dev nD) (x : Fin 4) : ℕ :=
  match x with
  | 0 => if c.val % 4 = 1 ∨ c.val % 4 = 2 then 1 else 0
  | 1 => if 2 ≤ c.val % 4 then 1 else 0
  | 2 => c.val / 4 % 2
  | 3 => c.val / 4 / 2

/-- The device that differs from `c` along dimension `x` only, as a number. -/
def pidN (c : ℕ) (x : Fin 4) : ℕ :=
  match x with
  | 0 => 4 * (c / 4) + (c % 4 ^^^ 1)
  | 1 => 4 * (c / 4) + (c % 4 ^^^ 3)
  | 2 => 4 * (c / 4 ^^^ 1) + c % 4
  | 3 => 4 * (c / 4 ^^^ 2) + c % 4

theorem pidN_lt : ∀ (c : Dev nD) (x : Fin 4), pidN c.val x < nD := by decide +kernel

/-- The device that differs from `c` along dimension `x` only. -/
def pid (c : Dev nD) (x : Fin 4) : Dev nD := ⟨pidN c.val x, pidN_lt c x⟩

/-- A partner's partner is the device itself. -/
theorem pid_pid : ∀ (c : Dev nD) (x : Fin 4), pid (pid c x) x = c := by decide +kernel

/-- The four partners of a device differ. -/
theorem pid_inj : ∀ (c : Dev nD) (x y : Fin 4), pid c x = pid c y → x = y := by decide +kernel

/-- Partners along one dimension, as a pairing of the devices. -/
def pidEquiv (x : Fin 4) : Dev nD ≃ Dev nD := ⟨fun c => pid c x, fun c => pid c x, fun c => pid_pid c x, fun c => pid_pid c x⟩

/-! ## Rails and rows -/

/-- The dimension rail `g` halves along in round `r`. -/
def dim (g : Fin 3) (r : ℕ) : Fin 4 :=
  match g with
  | 0 => match r with | 0 => 0 | 1 => 1 | 2 => 2 | _ => 3
  | 1 => match r with | 0 => 1 | 1 => 0 | 2 => 2 | _ => 3
  | 2 => match r with | 0 => 2 | 1 => 3 | 2 => 0 | _ => 1

/-- A rail's first row. -/
def base (g : Fin 3) : ℕ := 384 * g.val
/-- A rail's number of rows. -/
def rows (g : Fin 3) : ℕ := if g = 2 then 256 else 384
/-- The rows a device sends, and keeps, in round `r`. -/
def hh (g : Fin 3) (r : ℕ) : ℕ := rows g / 2 ^ (r + 1)

/-- The first row device `c` still works on before round `r`. -/
def cur (c : Dev nD) (g : Fin 3) : ℕ → ℕ
  | 0 => base g
  | r + 1 => cur c g r + bit c (dim g r) * hh g r
/-- The first row device `c` sends in round `r`. -/
def oth (c : Dev nD) (g : Fin 3) (r : ℕ) : ℕ := cur c g r + (1 - bit c (dim g r)) * hh g r
/-- The first row of the receive buffer round `r` lands at. -/
def rrow (g : Fin 3) (r : ℕ) : ℕ := 360 * g.val + (rows g - 2 * hh g r)

/-- The partner of device `c` in round `r` of rail `g`. -/
def par (c : Dev nD) (g : Fin 3) (r : ℕ) : Dev nD := pid c (dim g r)

/-- Partners of a round have started from the same row, and what one sends the other keeps. -/
theorem par_rows : ∀ (c : Dev nD) (g : Fin 3) (r : Fin 4), cur (par c g r) g r = cur c g r
    ∧ oth (par c g r) g r = cur c g (r + 1) ∧ cur (par c g r) g (r + 1) = oth c g r := by decide +kernel

/-- The rows sent and the rows kept are the two halves of the rows worked on. -/
theorem halves : ∀ (c : Dev nD) (g : Fin 3) (r : Fin 4),
    (oth c g r = cur c g r ∧ cur c g (r + 1) = cur c g r + hh g r) ∨ (cur c g (r + 1) = cur c g r ∧ oth c g r = cur c g r + hh g r) := by
  decide +kernel

/-- Halving. -/
theorem hh_succ : ∀ (g : Fin 3) (r : Fin 3), hh g r = 2 * hh g (r + 1) := by decide +kernel

/-! ## The transfers -/

abbrev Stream : Type := Fin 12
abbrev Slot : Type := Fin 11

/-- A stream's rail and its column block. -/
def rail (s : Stream) : Fin 3 := ⟨s.val % 3, Nat.mod_lt _ (by decide)⟩
def col (s : Stream) : ℕ := 256 * (s.val / 3)

/-- The round whose partner transfer `j` goes to. -/
def rnd (j : Slot) : ℕ := ![0, 1, 2, 3, 3, 2, 2, 1, 1, 0, 0] j
/-- The round whose number of rows transfer `j` carries. -/
def szr (j : Slot) : ℕ := ![0, 1, 2, 3, 3, 3, 3, 2, 2, 1, 1] j
/-- The number of rows transfer `j` carries. -/
def ht (g : Fin 3) (j : Slot) : ℕ := hh g (szr j)
/-- The first row device `c` sends in transfer `j`. -/
def srow (c : Dev nD) (g : Fin 3) (j : Slot) : ℕ :=
  match j with
  | 0 => oth c g 0 | 1 => oth c g 1 | 2 => oth c g 2 | 3 => oth c g 3
  | 4 => cur c g 4 | 5 => cur c g 4 | 6 => oth c g 3 | 7 => cur c g 3 | 8 => oth c g 2 | 9 => cur c g 2 | 10 => oth c g 1
/-- The device transfer `j` of stream `s` goes to, and comes from. -/
def peer (c : Dev nD) (s : Stream) (j : Slot) : Dev nD := par c (rail s) (rnd j)
/-- The dimension it goes along. -/
def xdim (s : Stream) (j : Slot) : Fin 4 := dim (rail s) (rnd j)
/-- The first row of the finished rows transfer `j` brings to device `c`. -/
def lrow (c : Dev nD) (g : Fin 3) (j : Slot) : ℕ := srow (par c g (rnd j)) g j
/-- The height of a transfer's receive cell: a device waits only while what it still has to send lands on higher cells. -/
def lev (j : Slot) : ℕ := ![2, 3, 4, 5, 6, 7, 7, 8, 8, 9, 9] j

theorem peer_peer (c : Dev nD) (s : Stream) (j : Slot) : peer (peer c s j) s j = c := pid_pid c _

/-! ## The order of the steps -/

/-- One step of a stream. -/
inductive Step where
  | dot | keep | send (j : Slot) | rwait (j : Slot) | add (r : Fin 4) | gelu | swait (j : Slot) | idle
  deriving DecidableEq

/-- The steps of one stream in order: each stream makes the same forty. -/
def stepAt : ℕ → Step
  | 0 => .dot | 1 => .send 0 | 2 => .keep
  | 3 => .rwait 0 | 4 => .add 0 | 5 => .send 1
  | 6 => .rwait 1 | 7 => .add 1 | 8 => .send 2
  | 9 => .rwait 2 | 10 => .add 2 | 11 => .send 3
  | 12 => .rwait 3 | 13 => .add 3 | 14 => .gelu | 15 => .send 4 | 16 => .send 5
  | 17 => .rwait 4 | 18 => .send 6 | 19 => .send 7
  | 20 => .rwait 5 | 21 => .rwait 6 | 22 => .send 8 | 23 => .send 9
  | 24 => .rwait 7 | 25 => .rwait 8 | 26 => .send 10
  | 27 => .rwait 9 | 28 => .rwait 10
  | 29 => .swait 0 | 30 => .swait 1 | 31 => .swait 2 | 32 => .swait 3 | 33 => .swait 4 | 34 => .swait 5
  | 35 => .swait 6 | 36 => .swait 7 | 37 => .swait 8 | 38 => .swait 9 | 39 => .swait 10
  | _ => .idle

/-- When a stream starts transfer `j`, waits for the one coming in, and waits for its own to have left. -/
def sendAt (j : Slot) : ℕ := ![1, 5, 8, 11, 15, 16, 18, 19, 22, 23, 26] j
def rwaitAt (j : Slot) : ℕ := ![3, 6, 9, 12, 17, 20, 21, 24, 25, 27, 28] j
def swaitAt (j : Slot) : ℕ := 29 + j.val

theorem stepAt_send : ∀ j : Slot, stepAt (sendAt j) = .send j := by decide
theorem stepAt_rwait : ∀ j : Slot, stepAt (rwaitAt j) = .rwait j := by decide
theorem stepAt_swait : ∀ j : Slot, stepAt (swaitAt j) = .swait j := by decide

/-- How many steps stream `s` has made after the first `n` steps of the whole program. -/
def kv (n : ℕ) (s : Stream) : ℕ :=
  let t := s.val
  min 2 (n - 2 * t) + min 1 (n - 24 - t % 3)
    + min 3 (n - 27 - 3 * t) + min 3 (n - 63 - 3 * t) + min 3 (n - 99 - 3 * t)
    + min 5 (n - 135 - 5 * t)
    + min 3 (n - 195 - 3 * t) + min 4 (n - 231 - 4 * t) + min 3 (n - 279 - 3 * t) + min 2 (n - 315 - 2 * t)
    + min 1 (n - 339 - t) + min 1 (n - 351 - t) + min 1 (n - 363 - t) + min 1 (n - 375 - t) + min 1 (n - 387 - t)
    + min 2 (n - 399 - 2 * t) + min 2 (n - 423 - 2 * t) + min 2 (n - 447 - 2 * t)

/-- The number of steps of the whole program. -/
def total : ℕ := 471

/-- The stream that makes step `n` (of the three wide products, the lowest of the rail's four streams). -/
def who (n : ℕ) : Stream := Fin.ofNat 12 <|
  if n < 24 then n / 2 else if n < 27 then n - 24
  else if n < 135 then (n - 27) % 36 / 3
  else if n < 195 then (n - 135) / 5
  else if n < 231 then (n - 195) / 3
  else if n < 279 then (n - 231) / 4
  else if n < 315 then (n - 279) / 3
  else if n < 339 then (n - 315) / 2
  else if n < 399 then (n - 339) % 12
  else (n - 399) % 24 / 2

/-- What step `n` does. -/
def what (n : ℕ) : Step := stepAt (kv n (who n))

/-- Every step but a wide product advances its one stream; a wide product the four streams of its rail. -/
theorem kv_succ : ∀ n : Fin total, ∀ s : Stream,
    kv (n + 1) s = kv n s + (if (if what n = .keep then rail s = rail (who n) else s = who n) then 1 else 0) := by decide +kernel

/-- Before a wide product each stream of its rail is due for it. -/
theorem keep_due : ∀ n : Fin total, what n = .keep → ∀ s : Stream, rail s = rail (who n) → kv n s = 2 := by decide +kernel

theorem kv_zero : ∀ s : Stream, kv 0 s = 0 := by decide +kernel
theorem kv_total : ∀ s : Stream, kv total s = 40 := by decide +kernel

end Cert.Exchange

end
-- ==== Proof.Region.lean ====
/-
  Rectangles of a buffer held as a resource: splitting and joining them, and a load, a store and a transfer through one.
-/
module

public import proofs.«01_k».proof.Proof.Plan
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the windows' own copy, and the exchange's, whose duties a number up to four names. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- The buffers: the two arguments' blocks, the result, the partial sums and the landing buffer. -/
abbrev aR : Ref sig .tc := cc0_stg0_0
abbrev bR : Ref sig .tc := cc0_stg1_0
abbrev oR : Ref sig .tc := cc0_stg2_0
abbrev zR : Ref sig .tc := cc0_scratch0
abbrev rR : Ref sig .tc := cc0_scratch1

/-! ## Rectangles as sets -/

/-- The multi-indices from `off` on, `size` of them along each axis. -/
def box {s : Shape} (off size : Fin s.rank → ℕ) : Finset s.Idx :=
  Finset.univ.filter fun i => ∀ a, off a ≤ (i a : ℕ) ∧ (i a : ℕ) < off a + size a

theorem mem_box {s : Shape} {off size : Fin s.rank → ℕ} {i : s.Idx} :
    i ∈ box off size ↔ ∀ a, off a ≤ (i a : ℕ) ∧ (i a : ℕ) < off a + size a := by simp [box]

theorem set_unit {s : Shape} {off size : Fin s.rank → ℕ} (inb : ∀ a, off a + size a ≤ s.size a) :
    (Rect.unit off size inb).set = box off size := by
  ext i; rw [Rect.mem_set_unit, mem_box]

theorem mem_box₂ {d : Fin 2 → ℕ} {r c n w : ℕ} {i : (⟨2, d⟩ : Shape).Idx} :
    i ∈ box (s := ⟨2, d⟩) ![r, c] ![n, w] ↔ (r ≤ (i 0 : ℕ) ∧ (i 0 : ℕ) < r + n) ∧ (c ≤ (i 1 : ℕ) ∧ (i 1 : ℕ) < c + w) := by
  rw [mem_box, Fin.forall_fin_two]; rfl

/-- Adjacent rows. -/
theorem box_rows {d : Fin 2 → ℕ} (r n m c w : ℕ) :
    box (s := ⟨2, d⟩) ![r, c] ![n + m, w] = box ![r, c] ![n, w] ∪ box ![r + n, c] ![m, w] := by
  ext i; simp only [Finset.mem_union, mem_box₂]; omega

theorem box_rows_disj {d : Fin 2 → ℕ} (r n r' m c w : ℕ) (h : r + n ≤ r' ∨ r' + m ≤ r) :
    Disjoint (box (s := ⟨2, d⟩) ![r, c] ![n, w]) (box ![r', c] ![m, w]) := by
  rw [Finset.disjoint_left]; intro i; simp only [mem_box₂]; omega

theorem box_cols_disj {d : Fin 2 → ℕ} (r n r' m c w c' w' : ℕ) (h : c + w ≤ c' ∨ c' + w' ≤ c) :
    Disjoint (box (s := ⟨2, d⟩) ![r, c] ![n, w]) (box ![r', c'] ![m, w']) := by
  rw [Finset.disjoint_left]; intro i; simp only [mem_box₂]; omega

/-! ## Rectangles as resources -/

/-- Device `c` holds share `q` of a rectangle of its buffer `b`, which reads `f` there. -/
def pts (c : Dev nD) (b : Ref sig .tc) (off size : Fin b.ty.shape.rank → ℕ) (q : PosShare TreeShare) (f : b.ty.Contents (Elt F)) : sProp 𝕄 :=
  (((c : Thread nD τ).loc b) ↦[box off size]{q} f)

instance pts_storable (c : Dev nD) (b : Ref sig .tc) (off size : Fin b.ty.shape.rank → ℕ) (q : PosShare TreeShare) (f : b.ty.Contents (Elt F)) :
    BI.Storable (upEmb : UEmb _ 𝕄) (pts c b off size q f) := by unfold pts; infer_instance

theorem pts_congr {c : Dev nD} {b : Ref sig .tc} {off size : Fin b.ty.shape.rank → ℕ} {q : PosShare TreeShare} {f g : b.ty.Contents (Elt F)}
    (h : ∀ i ∈ box off size, f i = g i) : (pts c b off size q f : sProp 𝕄) = pts c b off size q g := pointsTo_congr h

/-- A share is its two halves. -/
theorem pts_share (c : Dev nD) (b : Ref sig .tc) (off size : Fin b.ty.shape.rank → ℕ) (q : PosShare TreeShare) (f : b.ty.Contents (Elt F)) :
    (pts c b off size q f : sProp 𝕄) = iprop(pts c b off size q.left f ∗ pts c b off size q.right f) :=
  BI.Entails.antisymm (pointsTo_share (PosShare.mem_left_op_right q)).1 (pointsTo_share (PosShare.mem_left_op_right q)).2

theorem pts_union {c : Dev nD} {b : Ref sig .tc} {off size off₁ size₁ off₂ size₂ : Fin b.ty.shape.rank → ℕ} (q : PosShare TreeShare)
    (f : b.ty.Contents (Elt F)) (h : box off size = box off₁ size₁ ∪ box off₂ size₂) (hd : Disjoint (box off₁ size₁) (box off₂ size₂)) :
    (pts c b off size q f : sProp 𝕄) = iprop(pts c b off₁ size₁ q f ∗ pts c b off₂ size₂ q f) := by
  unfold pts; rw [h]; exact BI.Entails.antisymm (pointsTo_union hd).1 (pointsTo_union hd).2

/-- Some contents. -/
def ptsAny (c : Dev nD) (b : Ref sig .tc) (off size : Fin b.ty.shape.rank → ℕ) : sProp 𝕄 := iprop(∃ f, pts c b off size fullShare f)

instance ptsAny_storable (c : Dev nD) (b : Ref sig .tc) (off size : Fin b.ty.shape.rank → ℕ) :
    BI.Storable (upEmb : UEmb _ 𝕄) (ptsAny (F := F) c b off size) := by unfold ptsAny; infer_instance

theorem pts_any (c : Dev nD) (b : Ref sig .tc) (off size : Fin b.ty.shape.rank → ℕ) (f : b.ty.Contents (Elt F)) :
    (pts c b off size fullShare f : sProp 𝕄) ⊢ ptsAny c b off size := by
  unfold ptsAny; iintro H; iexists f; iexact H

theorem ptsAny_split {c : Dev nD} {b : Ref sig .tc} {off size off₁ size₁ off₂ size₂ : Fin b.ty.shape.rank → ℕ}
    (h : box off size = box off₁ size₁ ∪ box off₂ size₂) (hd : Disjoint (box off₁ size₁) (box off₂ size₂)) :
    (ptsAny c b off size : sProp 𝕄) ⊢ iprop(ptsAny c b off₁ size₁ ∗ ptsAny c b off₂ size₂) := by
  unfold ptsAny
  iintro ⟨%f, H⟩
  ihave H := (Entails.of_eq (pts_union fullShare f h hd)) $$ H
  icases H with ⟨H1, H2⟩
  isplitl [H1]
  · iexists f; iexact H1
  · iexists f; iexact H2

theorem ptsAny_join {c : Dev nD} {b : Ref sig .tc} {off size off₁ size₁ off₂ size₂ : Fin b.ty.shape.rank → ℕ}
    (h : box off size = box off₁ size₁ ∪ box off₂ size₂) (hd : Disjoint (box off₁ size₁) (box off₂ size₂)) :
    (iprop(ptsAny c b off₁ size₁ ∗ ptsAny c b off₂ size₂) : sProp 𝕄) ⊢ ptsAny c b off size := by
  unfold ptsAny pts
  iintro ⟨⟨%f, H1⟩, ⟨%g, H2⟩⟩
  ihave H := (pointsTo_join (ℓ := (c : Thread nD τ).loc b) (I := box off₁ size₁) (J := box off₂ size₂) (q := fullShare) (f := f) (g := g) hd) $$ [H1 H2]
  · isplitl [H1] <;> iassumption
  rw [h]
  iexists _; iexact H

/-- Known contents on a family of disjoint rectangles that make up one. -/
theorem pts_biUnion {c : Dev nD} {b : Ref sig .tc} {T : Type} [Fintype T] [DecidableEq T] {off size : Fin b.ty.shape.rank → ℕ}
    (o n : T → Fin b.ty.shape.rank → ℕ) (h : box off size = Finset.univ.biUnion fun t => box (o t) (n t))
    (hd : ∀ t t', t ≠ t' → Disjoint (box (o t) (n t)) (box (o t') (n t'))) (q : PosShare TreeShare) (f : b.ty.Contents (Elt F)) :
    (pts c b off size q f : sProp 𝕄) = bigSep Finset.univ fun t => pts c b (o t) (n t) q f := by
  unfold pts; rw [h]; exact pointsTo_biUnion (ℓ := (c : Thread nD τ).loc b) (q := q) Finset.univ (fun t => box (o t) (n t)) fun t _ t' _ => hd t t'

/-- A family of disjoint rectangles that make up one: some contents on it are some contents on each. -/
theorem ptsAny_all {c : Dev nD} {b : Ref sig .tc} {T : Type} [Fintype T] [DecidableEq T] {off size : Fin b.ty.shape.rank → ℕ}
    (o n : T → Fin b.ty.shape.rank → ℕ) (h : box off size = Finset.univ.biUnion fun t => box (o t) (n t))
    (hd : ∀ t t', t ≠ t' → Disjoint (box (o t) (n t)) (box (o t') (n t'))) :
    (ptsAny c b off size : sProp 𝕄) ⊢ bigSep Finset.univ fun t => ptsAny c b (o t) (n t) := by
  have e : (ptsAny c b off size : sProp 𝕄) = iprop(∃ f, pts c b off size fullShare f) := rfl
  rw [e]
  iintro ⟨%f, H⟩
  ihave H := (Entails.of_eq (pts_biUnion o n h hd fullShare f)) $$ H
  have hm : (bigSep Finset.univ fun t => pts c b (o t) (n t) fullShare f : sProp 𝕄) ⊢ bigSep Finset.univ fun t => ptsAny c b (o t) (n t) :=
    bigSep_mono fun t _ => pts_any c b (o t) (n t) f
  iapply hm; iexact H

theorem ptsAny_ofAll {c : Dev nD} {b : Ref sig .tc} {T : Type} [Fintype T] [DecidableEq T] {off size : Fin b.ty.shape.rank → ℕ}
    (o n : T → Fin b.ty.shape.rank → ℕ) (h : box off size = Finset.univ.biUnion fun t => box (o t) (n t))
    (hd : ∀ t t', t ≠ t' → Disjoint (box (o t) (n t)) (box (o t') (n t'))) (f₀ : b.ty.Contents (Elt F)) :
    (bigSep Finset.univ fun t => ptsAny c b (o t) (n t) : sProp 𝕄) ⊢ ptsAny c b off size := by
  haveI : Nonempty (b.ty.Contents (Elt F)) := ⟨f₀⟩
  unfold ptsAny
  iintro H
  ihave H := (BI.bigSep_exists_pi Finset.univ (fun t (f : b.ty.Contents (Elt F)) => (pts c b (o t) (n t) fullShare f : sProp 𝕄))) $$ H
  icases H with ⟨%fs, H⟩
  unfold pts
  ihave H := (pointsTo_biUnion_join (ℓ := (c : Thread nD τ).loc b) (q := fullShare) Finset.univ (fun t => box (o t) (n t)) fs f₀ fun t _ t' _ => hd t t') $$ H
  icases H with ⟨%g, -, H⟩
  rw [h]; iexists g; iexact H

/-! ## Loads, stores and transfers through a rectangle -/

/-- The buffer of VMEM numbered `x`. -/
abbrev vm (x : Fin (sig.nNear .tc .vmem)) (hx : sig.names .tc .vmem x = true) : Ref sig .tc := ⟨.vmem, x, hx⟩

section Ops
variable (c : Dev nD) {α : Type} {x : Fin (sig.nNear .tc .vmem)} {hx : sig.names .tc .vmem x = true}

theorem wp_load_box {Q : α → sProp 𝕄} {off size : Fin (vm x hx).ty.shape.rank → ℕ} {inb : ∀ a, off a + size a ≤ (vm x hx).ty.shape.size a}
    {hl : (Memref.whole (vm x hx)).view.LoadsAt (Rect.unit off size inb).toLoadRect}
    {k : ((Rect.unit off size inb).shape.Idx → Elt F (vm x hx).ty.elt) → Prog (TpuEff nD τ sig (Elt F) Λ₀ .tc) α}
    {off' size' : Fin (vm x hx).ty.shape.rank → ℕ} {q : PosShare TreeShare} {f : (vm x hx).ty.Contents (Elt F)} (hS : box off size ⊆ box off' size') :
    (pts c (vm x hx) off' size' q f : sProp 𝕄)
      ⊢ iprop((pts c (vm x hx) off' size' q f -∗ wp frame (wpE (Cert.KernelIdeal.defs₀ (F := F)) 𝒱₀ (c : Thread nD τ) none) Set.univ (k fun i => f ((Rect.unit off size inb).emb i)) Q)
        -∗ wp frame (wpE (Cert.KernelIdeal.defs₀ (F := F)) 𝒱₀ (c : Thread nD τ) none) Set.univ (.op (.load (Memref.whole (vm x hx)) (Rect.unit off size inb).toLoadRect hl) k) Q) :=
  wp_load_rect (m := Memref.whole (vm x hx)) (r := Rect.unit off size inb) 𝒱₀ (c : Thread nD τ) none Set.univ (by
    rw [← set_unit inb] at hS; exact (View.set_slice_whole (vm x hx) _).le.trans hS)

/-- What a buffer reads after a rectangle of it is rewritten with `w`. -/
theorem wp_store_box {Q : α → sProp 𝕄} {off size : Fin (vm x hx).ty.shape.rank → ℕ} {inb : ∀ a, off a + size a ≤ (vm x hx).ty.shape.size a}
    {w : (Rect.unit off size inb).shape.Idx → Elt F (vm x hx).ty.elt}
    {hst : ((Memref.whole (vm x hx)).access (Rect.unit off size inb)).Stores Finset.univ} {hm : Finset.univ = Finset.univ ∨ ∀ a, (Rect.unit off size inb).stride a = 1}
    {k : PUnit → Prog (TpuEff nD τ sig (Elt F) Λ₀ .tc) α} {f g : (vm x hx).ty.Contents (Elt F)}
    (hg : ∀ i, g ((Rect.unit off size inb).emb i) = w i) :
    (pts c (vm x hx) off size fullShare f : sProp 𝕄)
      ⊢ iprop((pts c (vm x hx) off size fullShare g -∗ wp frame (wpE (Cert.KernelIdeal.defs₀ (F := F)) 𝒱₀ (c : Thread nD τ) none) Set.univ (k ⟨⟩) Q)
        -∗ wp frame (wpE (Cert.KernelIdeal.defs₀ (F := F)) 𝒱₀ (c : Thread nD τ) none) Set.univ (.op (.store (Memref.whole (vm x hx)) (Rect.unit off size inb) w Finset.univ hst hm) k) Q) := by
  have h : (pts c (vm x hx) off size fullShare g : sProp 𝕄) = (pts c (vm x hx) off size fullShare (((Memref.whole (vm x hx)).access (Rect.unit off size inb)).write (Elt F) f w Finset.univ)) := by
    refine pts_congr fun i hi => ?_
    rw [← set_unit inb, ← Rect.map_emb_univ, Finset.mem_map] at hi
    obtain ⟨j, -, rfl⟩ := hi
    exact (hg j).trans (View.write_emb_of_mem (v := (Memref.whole (vm x hx)).access (Rect.unit off size inb)) f w (Finset.mem_univ j)).symm
  rw [h]
  refine wp_store (m := Memref.whole (vm x hx)) (r := Rect.unit off size inb) 𝒱₀ (c : Thread nD τ) none Set.univ ?_
  rw [← set_unit inb]
  exact (View.set_slice_whole (vm x hx) _).le

end Ops

end Cert.Exchange

end
-- ==== Proof.Content.lean ====
/-
  What the buffers hold: the partial sums device by device and round by round, and the finished rows.
-/
module

public import proofs.«01_k».proof.Proof.Region
public import proofs.«01_k».proof.Proof.Gen.KernelIdeal.Skeleton
public import Idealize.ShloMosaic.Lib.Pipeline.Value

@[expose] public section

noncomputable section

namespace Cert.Exchange

open Cert.KernelIdeal Cert.KernelIdeal.Gen
open Idealize.ShloMosaic

variable {F : FTy → Type} [FloatOps F]

/-- The multi-index `(i, j)`, wrapped into range. -/
def ix (a b : ℕ) [NeZero a] [NeZero b] (i j : ℕ) : (⟨2, ![a, b]⟩ : Shape).Idx := fun
  | ⟨0, _⟩ => Fin.ofNat a i
  | ⟨1, _⟩ => Fin.ofNat b j

theorem ix_eq {a b : ℕ} [NeZero a] [NeZero b] {i j : ℕ} {x : (⟨2, ![a, b]⟩ : Shape).Idx} (h0 : (x 0 : ℕ) = i) (h1 : (x 1 : ℕ) = j) : ix a b i j = x := by
  funext k
  fin_cases k
  · apply Fin.ext; show i % a = (x 0 : ℕ)
    have : (x 0 : ℕ) < a := (x 0).isLt
    rw [h0] at this ⊢; exact Nat.mod_eq_of_lt this
  · apply Fin.ext; show j % b = (x 1 : ℕ)
    have : (x 1 : ℕ) < b := (x 1).isLt
    rw [h1] at this ⊢; exact Nat.mod_eq_of_lt this

theorem ix_val0 {a b : ℕ} [NeZero a] [NeZero b] {i j : ℕ} (h : i < a) : ((ix a b i j) 0 : ℕ) = i := Nat.mod_eq_of_lt h
theorem ix_val1 {a b : ℕ} [NeZero a] [NeZero b] {i j : ℕ} (h : j < b) : ((ix a b i j) 1 : ℕ) = j := Nat.mod_eq_of_lt h

/-- The rail a row lies on. -/
def rowRail (i : ℕ) : Fin 3 := if i < 384 then 0 else if i < 768 then 1 else 2

/-- The products of the rows sent in the first round, 256 columns at a time. -/
def dot0 (g : Fin 3) (a b : ℕ → ℕ → F .f32) (i j : ℕ) : F .f32 :=
  if g = 2 then k0_pay4 (k0_pay3 (fun x : S128x512.Idx => a (x 0) (x 1)) (fun x : S512x256.Idx => b (x 0) (x 1))) (ix 128 256 i j)
  else k0_pay1 (fun x : S192x512.Idx => a (x 0) (x 1)) (fun x : S512x256.Idx => b (x 0) (x 1)) (ix 192 256 i j)

/-- The products of the rows kept in the first round, all columns at once. -/
def keep0 (g : Fin 3) (a b : ℕ → ℕ → F .f32) (i j : ℕ) : F .f32 :=
  if g = 2 then k0_pay17 (k0_pay16 (fun x : S128x512.Idx => a (x 0) (x 1)) (fun x : S512x1024.Idx => b (x 0) (x 1))) (ix 128 1024 i j)
  else k0_pay14 (fun x : S192x512.Idx => a (x 0) (x 1)) (fun x : S512x1024.Idx => b (x 0) (x 1)) (ix 192 1024 i j)

/-- The activation of one element. -/
def gelu1 (x : F .f32) : F .f32 := k0_pay59 (fun _ : S24x256.Idx => x) (ix 24 256 0 0)

/-- The device that finishes row `i`. -/
def own (i : ℕ) : Dev nD :=
  ((List.finRange 16).find? fun c : Dev nD => decide (cur c (rowRail i) 4 ≤ i ∧ i < cur c (rowRail i) 4 + hh (rowRail i) 3)).getD 0

theorem rowRail_of : ∀ g : Fin 3, ∀ i, base g ≤ i → i < base g + rows g → rowRail i = g := by
  intro g i h1 h2
  fin_cases g <;> simp only [base, rows, rowRail] at * <;> simp at * <;> (repeat' split) <;> first | rfl | omega

/-- The rows a device works on stay on its rail. -/
theorem cur_bounds : ∀ (c : Dev nD) (g : Fin 3) (r : Fin 4), base g ≤ cur c g r ∧ cur c g r + 2 * hh g r ≤ base g + rows g
    ∧ base g ≤ cur c g (r + 1) ∧ cur c g (r + 1) + hh g r ≤ base g + rows g ∧ base g ≤ oth c g r ∧ oth c g r + hh g r ≤ base g + rows g := by decide +kernel

theorem own_aux : ∀ (c : Dev nD) (g : Fin 3) (d : Fin 24), d.val < hh g 3 → own (cur c g 4 + d.val) = c := by decide +kernel

theorem hh3_le : ∀ g : Fin 3, hh g 3 ≤ 24 := by decide

theorem own_eq (c : Dev nD) (g : Fin 3) {d : ℕ} (h : d < hh g 3) : own (cur c g 4 + d) = c :=
  own_aux c g ⟨d, lt_of_lt_of_le h (hh3_le g)⟩ h

section
variable (A : Dev nD → S1024x512.Idx → F .f32) (B : Dev nD → S512x1024.Idx → F .f32)

/-- The partial sum of element `(i, j)` that device `c` holds before round `r`: its own product, to which each round adds
    what the round's partner held. -/
def W : ℕ → Dev nD → ℕ → ℕ → F .f32
  | 0, c, i, j =>
    if oth c (rowRail i) 0 ≤ i ∧ i < oth c (rowRail i) 0 + hh (rowRail i) 0 then
      dot0 (rowRail i) (fun p q => A c (ix 1024 512 (oth c (rowRail i) 0 + p) q)) (fun p q => B c (ix 512 1024 p (256 * (j / 256) + q)))
        (i - oth c (rowRail i) 0) (j % 256)
    else keep0 (rowRail i) (fun p q => A c (ix 1024 512 (cur c (rowRail i) 1 + p) q)) (fun p q => B c (ix 512 1024 p q)) (i - cur c (rowRail i) 1) j
  | r + 1, c, i, j => FloatOps.addf (W r c i j) (W r (par c (rowRail i) r) i j)

/-- The partial sums as contents of the buffer of partial sums. -/
def zf (r : ℕ) (c : Dev nD) : S1024x1024.Idx → F .f32 := fun x => W A B r c (x 0) (x 1)
/-- What round `r` of rail `g` brings to device `c`, as contents of the landing buffer. -/
def rf (r : ℕ) (c : Dev nD) (g : Fin 3) : S960x1024.Idx → F .f32 :=
  fun x => W A B r (par c g r) ((x 0 : ℕ) - rrow g r + cur c g (r + 1)) (x 1)
/-- The result: each element is the activation of the whole sum, computed by the device that finishes its row. -/
def gf : S1024x1024.Idx → F .f32 := fun x => gelu1 (W A B 4 (own (x 0)) (x 0) (x 1))

/-- What a step adds. -/
theorem W_add (c : Dev nD) (g : Fin 3) (r : Fin 4) {i : ℕ} (j : ℕ) (hi : i < hh g r) :
    W A B (r + 1) c (cur c g (r + 1) + i) j = FloatOps.addf (W A B r c (cur c g (r + 1) + i) j) (W A B r (par c g r) (cur c g (r + 1) + i) j) := by
  have hb := cur_bounds c g r
  have hg : rowRail (cur c g (r + 1) + i) = g := rowRail_of g _ (by omega) (by omega)
  show FloatOps.addf (W A B r c _ j) (W A B r (par c (rowRail (cur c g (r + 1) + i)) r) _ j) = _
  rw [hg]

/-- The first round's products of the rows sent. -/
theorem W_dot (c : Dev nD) (s : Stream) {i j : ℕ} (hi : i < hh (rail s) 0) (hj : j < 256) :
    W A B 0 c (oth c (rail s) 0 + i) (col s + j)
      = dot0 (rail s) (fun p q => A c (ix 1024 512 (oth c (rail s) 0 + p) q)) (fun p q => B c (ix 512 1024 p (col s + q))) i j := by
  have hb : base (rail s) ≤ oth c (rail s) 0 ∧ oth c (rail s) 0 + hh (rail s) 0 ≤ base (rail s) + rows (rail s) := (cur_bounds c (rail s) 0).2.2.2.2
  have hg : rowRail (oth c (rail s) 0 + i) = rail s := rowRail_of _ _ (by omega) (by omega)
  rw [W, hg, if_pos ⟨by omega, by omega⟩]
  have h1 : (col s + j) / 256 = s.val / 3 := by unfold col; omega
  have h2 : (col s + j) % 256 = j := by unfold col; omega
  rw [h1, h2, Nat.add_sub_cancel_left]
  rfl

/-- The first round's products of the rows kept. -/
theorem W_keep (c : Dev nD) (g : Fin 3) {i : ℕ} (j : ℕ) (hi : i < hh g 0) :
    W A B 0 c (cur c g 1 + i) j
      = keep0 g (fun p q => A c (ix 1024 512 (cur c g 1 + p) q)) (fun p q => B c (ix 512 1024 p q)) i j := by
  have hb : base g ≤ cur c g 1 ∧ cur c g 1 + hh g 0 ≤ base g + rows g ∧ _ := (cur_bounds c g 0).2.2
  have hv : (oth c g 0 = cur c g 0 ∧ cur c g 1 = cur c g 0 + hh g 0) ∨ (cur c g 1 = cur c g 0 ∧ oth c g 0 = cur c g 0 + hh g 0) := halves c g 0
  have hg : rowRail (cur c g 1 + i) = g := rowRail_of _ _ (by omega) (by omega)
  rw [W, hg, if_neg (by omega), Nat.add_sub_cancel_left]

theorem gf_eq (c : Dev nD) (g : Fin 3) {i : ℕ} (j : ℕ) (hi : i < hh g 3) {x : S1024x1024.Idx} (h0 : (x 0 : ℕ) = cur c g 4 + i) (h1 : (x 1 : ℕ) = j) :
    gf A B x = gelu1 (W A B 4 c (cur c g 4 + i) j) := by
  unfold gf; rw [h0, h1, own_eq c g hi]

end

/-! ## The vectors the program stores are those -/

theorem add_elt {s : Shape} (x y : FVec F s .f32) (h : s.ShapeCasts s) (i : s.Idx) :
    shapeCast s (addf x y) h i = FloatOps.addf (x i) (y i) := by rw [shapeCast_self]; rfl

theorem gelu24 (v : Vec F S24x256 .f32) (i : S24x256.Idx) : k0_pay59 v i = gelu1 (v i) := rfl
theorem gelu16 (v : Vec F S16x256 .f32) (i : S16x256.Idx) : k0_pay65 v i = gelu1 (v i) := rfl
theorem gelu24' (v : Vec F S24x256 .f32) (i : S24x256.Idx) : k0_pay63 (k0_pay61 v) (k0_pay62 v) i = gelu1 (v i) := rfl
theorem gelu16' (v : Vec F S16x256 .f32) (i : S16x256.Idx) : k0_pay87 (k0_pay85 v) (k0_pay86 v) i = gelu1 (v i) := rfl
end Cert.Exchange

end
-- ==== Proof.Schedule.lean ====
/-
  The protocol: the semaphore cells, what each transfer hands over and to whom, and what each device owes.
-/
module

public import proofs.«01_k».proof.Proof.Content

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- A transfer of one stream. -/
abbrev Xfer : Type := Stream × Slot

/-- The barrier semaphore. -/
abbrev barS : Sem sig := (SemArray.scalar (sig.barrier 0 rfl) : Sems sig S_).sem

theorem sNum_lt (p : Xfer) : (if p.2.val < 4 then 3 else 51) + 12 * p.2.val + p.1.val < 267 := by split <;> omega
theorem rNum_lt (p : Xfer) : (if p.2.val < 4 then 51 else 135) + 12 * p.2.val + p.1.val < 267 := by split <;> omega

/-- The semaphores a transfer counts on, where it starts and where it lands. -/
def sSem (p : Xfer) : DmaSem sig := (⟨_, sNum_lt p⟩ : Fin 267)
def rSem (p : Xfer) : DmaSem sig := (⟨_, rNum_lt p⟩ : Fin 267)

/-- A device's cells: the barrier, and a sending (`false`) and a receiving (`true`) cell of each transfer. -/
abbrev Cel : Type := Option (Bool × Xfer)

def osem (k : Bool × Xfer) : SemLoc sig := .dma (if k.1 then rSem k.2 else sSem k.2)
def csem : Cel → SemLoc sig
  | none => .reg barS
  | some k => osem k

/-- Which cell a DMA semaphore is. -/
def decN (q : Fin 267) : Cel :=
  if q.val < 51 then some (false, Fin.ofNat 12 ((q.val - 3) % 12), Fin.ofNat 11 ((q.val - 3) / 12))
  else if q.val < 99 then some (true, Fin.ofNat 12 ((q.val - 51) % 12), Fin.ofNat 11 ((q.val - 51) / 12))
  else if q.val < 183 then some (false, Fin.ofNat 12 ((q.val - 51) % 12), Fin.ofNat 11 ((q.val - 51) / 12))
  else some (true, Fin.ofNat 12 ((q.val - 135) % 12), Fin.ofNat 11 ((q.val - 135) / 12))

/-- Which cell a semaphore is; `none` for the others. -/
def dec : SemLoc sig → Option Cel
  | .reg q => if q = barS then some none else none
  | .dma q => if (q : Fin 267).val < 3 then none else some (decN q)

theorem dec_csem : ∀ k : Cel, dec (csem k) = some k := by decide +kernel

theorem csem_inj : Function.Injective csem := fun a b h => by
  have := congrArg dec h; rw [dec_csem, dec_csem] at this; exact Option.some.inj this

abbrev cellAt (c : Dev nD) (k : Cel) : GSem nD τ sig := ((c : Thread nD τ), csem k)
abbrev barCell (c : Dev nD) : GSem nD τ sig := cellAt c none
abbrev sCell (c : Dev nD) (p : Xfer) : GSem nD τ sig := cellAt c (some (false, p))
abbrev rCell (c : Dev nD) (p : Xfer) : GSem nD τ sig := cellAt c (some (true, p))

/-- What a transfer of `h` rows counts. -/
def amt (h : ℕ) : ℕ := RefSig.tileCredit (⟨2, ![h, 256]⟩ : Shape) .f32
def amtOf (p : Xfer) : ℕ := amt (ht (rail p.1) p.2)
theorem amtOf_pos : ∀ p : Xfer, 0 < amtOf p := by decide +kernel

/-! ## What a transfer hands over -/

section
variable (A : Dev nD → S1024x512.Idx → F .f32) (B : Dev nD → S512x1024.Idx → F .f32)

/-- Device `c` holds `n` rows of stream `s` of a buffer: of the partial sums before round `r`; of the result, at share `q`; of what round `r` brought. -/
def zP (c : Dev nD) (s : Stream) (row n r : ℕ) : sProp 𝕄 := pts c zR ![row, col s] ![n, 256] fullShare (zf A B r c)
def oP (c : Dev nD) (s : Stream) (row n : ℕ) (q : PosShare TreeShare) : sProp 𝕄 := pts c oR ![row, col s] ![n, 256] q (gf A B)
def rP (c : Dev nD) (s : Stream) (r : ℕ) : sProp 𝕄 := pts c rR ![rrow (rail s) r, col s] ![hh (rail s) r, 256] fullShare (rf A B r c (rail s))

/-- The same at some contents. -/
def zAny (c : Dev nD) (s : Stream) (row n : ℕ) : sProp 𝕄 := ptsAny (F := F) c zR ![row, col s] ![n, 256]
def oAny (c : Dev nD) (s : Stream) (row n : ℕ) : sProp 𝕄 := ptsAny (F := F) c oR ![row, col s] ![n, 256]
def rAny (c : Dev nD) (s : Stream) (r : ℕ) : sProp 𝕄 := ptsAny (F := F) c rR ![rrow (rail s) r, col s] ![hh (rail s) r, 256]

instance zP_storable (c : Dev nD) (s : Stream) (row n r : ℕ) : BI.Storable (upEmb : UEmb _ 𝕄) (zP A B c s row n r) := by unfold zP; infer_instance
instance oP_storable (c : Dev nD) (s : Stream) (row n : ℕ) (q : PosShare TreeShare) : BI.Storable (upEmb : UEmb _ 𝕄) (oP A B c s row n q) := by unfold oP; infer_instance
instance rP_storable (c : Dev nD) (s : Stream) (r : ℕ) : BI.Storable (upEmb : UEmb _ 𝕄) (rP A B c s r) := by unfold rP; infer_instance
instance oAny_storable (c : Dev nD) (s : Stream) (row n : ℕ) : BI.Storable (upEmb : UEmb _ 𝕄) (oAny (F := F) c s row n) := by unfold oAny; infer_instance
instance rAny_storable (c : Dev nD) (s : Stream) (r : ℕ) : BI.Storable (upEmb : UEmb _ 𝕄) (rAny (F := F) c s r) := by unfold rAny; infer_instance

/-- The share of its rows a transfer lends: several read the same finished rows at once. -/
def shr (j : Slot) : PosShare TreeShare :=
  match j with
  | 4 => fullShare.left | 5 => fullShare.right.left | 6 => fullShare.left | 7 => fullShare.right.right.left
  | 8 => fullShare.left | 9 => fullShare.right.right.right | _ => fullShare

/-- What transfer `p` of device `c` reads from: its sending cell gives it back. -/
def srcPay (c : Dev nD) (p : Xfer) : sProp 𝕄 :=
  if p.2.val < 4 then zP A B c p.1 (srow c (rail p.1) p.2) (ht (rail p.1) p.2) p.2.val
  else oP A B c p.1 (srow c (rail p.1) p.2) (ht (rail p.1) p.2) (shr p.2)
/-- What lands on device `c`: its receiving cell hands it over. -/
def recvPay (c : Dev nD) (p : Xfer) : sProp 𝕄 :=
  if p.2.val < 4 then rP A B c p.1 p.2.val else oP A B c p.1 (lrow c (rail p.1) p.2) (ht (rail p.1) p.2) fullShare
/-- Where it lands. -/
def landAny (c : Dev nD) (p : Xfer) : sProp 𝕄 :=
  if p.2.val < 4 then rAny (F := F) c p.1 p.2.val else oAny (F := F) c p.1 (lrow c (rail p.1) p.2) (ht (rail p.1) p.2)
/-- What device `c`'s partner along `x` hands it at the barrier: where all its transfers along `x` land. -/
def barPay (c : Dev nD) (x : Fin 4) : sProp 𝕄 :=
  bigSep Finset.univ fun p : Xfer => if xdim p.1 p.2 = x then landAny (F := F) (pid c x) p else iprop(emp)

instance srcPay_storable (c : Dev nD) (p : Xfer) : BI.Storable (upEmb : UEmb _ 𝕄) (srcPay A B c p) := by unfold srcPay; split <;> infer_instance
instance recvPay_storable (c : Dev nD) (p : Xfer) : BI.Storable (upEmb : UEmb _ 𝕄) (recvPay A B c p) := by unfold recvPay; split <;> infer_instance
instance landAny_storable (c : Dev nD) (p : Xfer) : BI.Storable (upEmb : UEmb _ 𝕄) (landAny (F := F) c p) := by unfold landAny; split <;> infer_instance
instance barPay_storable (c : Dev nD) (x : Fin 4) : BI.Storable (upEmb : UEmb _ 𝕄) (barPay (F := F) c x) := by
  unfold barPay
  haveI : ∀ p : Xfer, BI.Storable (upEmb : UEmb _ 𝕄) (if xdim p.1 p.2 = x then landAny (F := F) (pid c x) p else iprop(emp)) := fun p => by
    split <;> infer_instance
  infer_instance

/-! ## The schedule -/

/-- One round: a barrier cell is paid once by each of the four partners, a sending or receiving cell once by its transfer. -/
def Rd : Rounds.Schedule (GSem nD τ sig) (Fin 4) 𝕄 where
  duties g r := if r = 0 ∧ g.1.2 = .tc then (match dec g.2 with | some none => Finset.univ | some (some _) => {0} | none => ∅) else ∅
  unitless _ := False
  amount g _ _ := match dec g.2 with | some (some k) => amtOf k.2 | _ => 1
  payload g _ d := match dec g.2 with
    | some none => barPay g.1.1 d
    | some (some (false, p)) => srcPay A B g.1.1 p
    | some (some (true, p)) => recvPay A B g.1.1 p
    | none => iprop(emp)
  amount_pos g _ _ _ := by
    split
    · exact amtOf_pos _
    · exact Nat.one_pos

instance Rd_storable (g : GSem nD τ sig) (r : ℕ) (d : Fin 4) : BI.Storable (upEmb : UEmb _ 𝕄) ((Rd A B).payload g r d) := by
  show BI.Storable upEmb (match dec g.2 with
    | some none => barPay g.1.1 d
    | some (some (false, p)) => srcPay A B g.1.1 p
    | some (some (true, p)) => recvPay A B g.1.1 p
    | none => iprop(emp))
  split <;> infer_instance

variable (c : Dev nD) (p : Xfer)

theorem duties_bar : (Rd A B).duties (barCell c) 0 = Finset.univ := by dsimp only [Rd]; rw [if_pos ⟨rfl, rfl⟩, dec_csem]
theorem duties_x (b : Bool) : (Rd A B).duties (cellAt c (some (b, p))) 0 = {0} := by dsimp only [Rd]; rw [if_pos ⟨rfl, rfl⟩, dec_csem]
theorem duties_later (g : GSem nD τ sig) : ∀ r, 1 ≤ r → (Rd A B).duties g r = ∅ := fun r hr => by dsimp only [Rd]; exact if_neg fun h => by omega
theorem amount_bar (d : Fin 4) : (Rd A B).amount (barCell c) 0 d = 1 := by dsimp only [Rd]; rw [dec_csem]
theorem amount_x (b : Bool) (d : Fin 4) : (Rd A B).amount (cellAt c (some (b, p))) 0 d = amtOf p := by dsimp only [Rd]; rw [dec_csem]
theorem payload_bar (d : Fin 4) : (Rd A B).payload (barCell c) 0 d = barPay c d := by dsimp only [Rd]; rw [dec_csem]
theorem payload_s (d : Fin 4) : (Rd A B).payload (sCell c p) 0 d = srcPay A B c p := by dsimp only [Rd]; rw [dec_csem]
theorem payload_r (d : Fin 4) : (Rd A B).payload (rCell c p) 0 d = recvPay A B c p := by dsimp only [Rd]; rw [dec_csem]

theorem expect_bar : (Rd A B).expect (barCell c) 0 = 4 := by
  unfold Schedule.expect Schedule.amountOf
  rw [duties_bar, Finset.sum_congr rfl fun d _ => amount_bar A B c d, Finset.sum_const, Finset.card_univ, Fintype.card_fin, smul_eq_mul]
theorem expect_x (b : Bool) : (Rd A B).expect (cellAt c (some (b, p))) 0 = amtOf p := by
  unfold Schedule.expect Schedule.amountOf; rw [duties_x, Finset.sum_singleton, amount_x]

theorem rest_bar : bigSep ((Rd A B).duties (barCell c) 0 \ ∅) (fun d => (Rd A B).payload (barCell c) 0 d) = bigSep Finset.univ fun x => barPay (F := F) c x := by
  rw [Finset.sdiff_empty, duties_bar]; exact bigSep_congr fun x _ => payload_bar A B c x
theorem rest_s : bigSep ((Rd A B).duties (sCell c p) 0 \ ∅) (fun d => (Rd A B).payload (sCell c p) 0 d) = srcPay A B c p := by
  rw [Finset.sdiff_empty, duties_x, bigSep_singleton, payload_s]
theorem rest_r : bigSep ((Rd A B).duties (rCell c p) 0 \ ∅) (fun d => (Rd A B).payload (rCell c p) 0 d) = recvPay A B c p := by
  rw [Finset.sdiff_empty, duties_x, bigSep_singleton, payload_r]

end

/-! ## What a device owes, and the heights of the cells -/

/-- Before its `n`-th step device `c` owes each partner's receiving cell the transfers it has not started. -/
def Ow (c : Dev nD) (n : ℕ) : CellTallies nD τ sig Unit :=
  ∑ p : Xfer, if kv n p.1 ≤ sendAt p.2 then tallyAt (rCell (peer c p.1 p.2) p) () (amtOf p) else 0

/-- And before its signal `x` at the start, each partner's barrier from `x` on. -/
def Ob (c : Dev nD) : CellTallies nD τ sig Unit :=
  ((Ow c 0 + tallyAt (barCell (pid c 3)) () 1) + tallyAt (barCell (pid c 2)) () 1 + tallyAt (barCell (pid c 1)) () 1) + tallyAt (barCell (pid c 0)) () 1

def L (g : GSem nD τ sig) : Finset Unit := if g.1.2 = .tc then {()} else ∅
/-- Sending cells at height 0, barriers at 1, receiving cells above. -/
def lvN (sm : SemLoc sig) : ℕ := match dec sm with | some none => 1 | some (some (true, p)) => lev p.2 | _ => 0
def lv (g : GSem nD τ sig) (_ : Unit) : ℕ := lvN g.2

theorem lvN_csem (k : Cel) : lvN (csem k) = match k with | none => 1 | some (true, p) => lev p.2 | _ => 0 := by
  unfold lvN; rw [dec_csem]
  rcases k with _ | ⟨_ | _, p⟩ <;> rfl

theorem L_of_ne (g : GSem nD τ sig) (h : g.1.2 ≠ .tc) : L g = ∅ := if_neg h
theorem L_tc (c : Dev nD) (sm : SemLoc sig) : L ((c : Thread nD τ), sm) = {()} := if_pos rfl
theorem lev_pos : ∀ j : Slot, 1 < lev j := by decide

theorem Ow_pos {c : Dev nD} {n : ℕ} {g : GSem nD τ sig} {u : Unit} (h : 0 < Ow c n g u) :
    ∃ p : Xfer, kv n p.1 ≤ sendAt p.2 ∧ g = rCell (peer c p.1 p.2) p := by
  unfold Ow at h
  rw [Finset.sum_apply, Finsupp.finset_sum_apply] at h
  obtain ⟨p, -, hp⟩ := Finset.exists_ne_zero_of_sum_ne_zero h.ne'
  refine ⟨p, ?_⟩
  by_cases hk : kv n p.1 ≤ sendAt p.2
  · refine ⟨hk, ?_⟩
    rw [if_pos hk, tallyAt_apply] at hp
    by_contra hg
    exact hp (if_neg fun h' => hg h'.1)
  · rw [if_neg hk] at hp; exact absurd rfl hp

/-- A device may wait on a cell lower than every receiving cell it still owes. -/
theorem mayWait_of (c : Dev nD) (n : ℕ) (sm : SemLoc sig) (h : ∀ p : Xfer, kv n p.1 ≤ sendAt p.2 → lvN sm < lev p.2) :
    (levAts L lv : sProp 𝕄) ⊢ MayWait (c : Thread nD τ) sm () (Ow c n) :=
  MayOwe.of_cut (L := L) (lev := lv) (lvN sm) (fun p hp => by rw [Finset.mem_singleton.mp hp, L_tc]; exact Finset.mem_singleton_self _)
    (fun g u hg => by obtain ⟨p, -, rfl⟩ := Ow_pos hg; rw [L_tc]; exact Finset.mem_singleton_self _)
    (fun p hp => by rw [Finset.mem_singleton.mp hp]; exact le_refl _)
    (fun g u hg => by
      obtain ⟨p, hk, rfl⟩ := Ow_pos hg
      show lvN sm < lvN (csem (some (true, p)))
      rw [lvN_csem]; exact h p hk)

end Cert.Exchange

end
-- ==== Proof.State.lean ====
/-
  What a device holds between two steps: for each stream its part of the partial sums and of the result, and for each
  transfer its tokens, credits or what the transfer has given back.
-/
module

public import proofs.«01_k».proof.Proof.Schedule

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A : Dev nD → S1024x512.Idx → F .f32) (B : Dev nD → S512x1024.Idx → F .f32)
variable (Z0 O0 : S1024x1024.Idx → F .f32)

/-! ## Rows -/

theorem oP_share (c : Dev nD) (s : Stream) (row n : ℕ) (q : PosShare TreeShare) :
    oP A B c s row n q = iprop(oP A B c s row n q.left ∗ oP A B c s row n q.right) := pts_share _ _ _ _ _ _

/-- The rows worked on before a round are the rows kept and the rows sent. -/
theorem box_half (d : Dev nD) (g : Fin 3) (r : Fin 4) {m : Fin 2 → ℕ} (c w : ℕ) :
    box (s := ⟨2, m⟩) ![cur d g r, c] ![2 * hh g r, w] = box ![cur d g (r + 1), c] ![hh g r, w] ∪ box ![oth d g r, c] ![hh g r, w] := by
  ext i
  simp only [Finset.mem_union, mem_box₂]
  rcases halves d g r with ⟨h1, h2⟩ | ⟨h1, h2⟩ <;> omega

theorem box_half_disj (d : Dev nD) (g : Fin 3) (r : Fin 4) {m : Fin 2 → ℕ} (c w : ℕ) :
    Disjoint (box (s := ⟨2, m⟩) ![cur d g (r + 1), c] ![hh g r, w]) (box ![oth d g r, c] ![hh g r, w]) := by
  apply box_rows_disj
  rcases halves d g r with ⟨h1, h2⟩ | ⟨h1, h2⟩ <;> omega

theorem oP_half (c d : Dev nD) (s : Stream) (r : Fin 4) (q : PosShare TreeShare) :
    oP A B c s (cur d (rail s) r) (2 * hh (rail s) r) q
      = iprop(oP A B c s (cur d (rail s) (r + 1)) (hh (rail s) r) q ∗ oP A B c s (oth d (rail s) r) (hh (rail s) r) q) :=
  pts_union q _ (box_half d (rail s) r _ _) (box_half_disj d (rail s) r _ _)

theorem zP_half (c : Dev nD) (s : Stream) (r : Fin 4) (t : ℕ) :
    zP A B c s (cur c (rail s) r) (2 * hh (rail s) r) t
      = iprop(zP A B c s (cur c (rail s) (r + 1)) (hh (rail s) r) t ∗ zP A B c s (oth c (rail s) r) (hh (rail s) r) t) :=
  pts_union _ _ (box_half c (rail s) r _ _) (box_half_disj c (rail s) r _ _)

/-! ## The data of one stream -/

/-- Rows of the partial sums and of the result still as the launch left them. -/
def zU (c : Dev nD) (s : Stream) (row n : ℕ) : sProp 𝕄 := pts c zR ![row, col s] ![n, 256] fullShare Z0
def oU (c : Dev nD) (s : Stream) (row n : ℕ) : sProp 𝕄 := pts c oR ![row, col s] ![n, 256] fullShare O0

/-- The partial sums stream `s` holds before its step `k`. -/
def zD (c : Dev nD) (s : Stream) (k : ℕ) : sProp 𝕄 :=
  match k with
  | 0 => iprop(zU Z0 c s (oth c (rail s) 0) (hh (rail s) 0) ∗ zU Z0 c s (cur c (rail s) 1) (hh (rail s) 0))
  | 1 => iprop(zP A B c s (oth c (rail s) 0) (hh (rail s) 0) 0 ∗ zU Z0 c s (cur c (rail s) 1) (hh (rail s) 0))
  | 2 => zU Z0 c s (cur c (rail s) 1) (hh (rail s) 0)
  | 3 | 4 => zP A B c s (cur c (rail s) 1) (hh (rail s) 0) 0
  | 5 => iprop(zP A B c s (oth c (rail s) 1) (hh (rail s) 1) 1 ∗ zP A B c s (cur c (rail s) 2) (hh (rail s) 1) 1)
  | 6 | 7 => zP A B c s (cur c (rail s) 2) (hh (rail s) 1) 1
  | 8 => iprop(zP A B c s (oth c (rail s) 2) (hh (rail s) 2) 2 ∗ zP A B c s (cur c (rail s) 3) (hh (rail s) 2) 2)
  | 9 | 10 => zP A B c s (cur c (rail s) 3) (hh (rail s) 2) 2
  | 11 => iprop(zP A B c s (oth c (rail s) 3) (hh (rail s) 3) 3 ∗ zP A B c s (cur c (rail s) 4) (hh (rail s) 3) 3)
  | 12 | 13 => zP A B c s (cur c (rail s) 4) (hh (rail s) 3) 3
  | _ => zP A B c s (cur c (rail s) 4) (hh (rail s) 3) 4

/-- The shares of finished rows no transfer reads. -/
def spare (c : Dev nD) (s : Stream) : sProp 𝕄 :=
  iprop(oP A B c s (oth c (rail s) 3) (hh (rail s) 3) fullShare.right.left ∗ oP A B c s (oth c (rail s) 2) (hh (rail s) 2) fullShare.right.left
    ∗ oP A B c s (oth c (rail s) 2) (hh (rail s) 2) fullShare.right.right.left)

/-- The result rows stream `s` holds before its step `k`. -/
def oD (c : Dev nD) (s : Stream) (k : ℕ) : sProp 𝕄 :=
  match k with
  | 15 => oP A B c s (cur c (rail s) 4) (hh (rail s) 3) fullShare
  | 16 => oP A B c s (cur c (rail s) 4) (hh (rail s) 3) fullShare.right
  | 17 => oP A B c s (cur c (rail s) 4) (hh (rail s) 3) fullShare.right.right
  | 18 => iprop(oP A B c s (cur c (rail s) 4) (hh (rail s) 3) fullShare.right.right ∗ oP A B c s (oth c (rail s) 3) (hh (rail s) 3) fullShare)
  | 19 => iprop(oP A B c s (cur c (rail s) 3) (hh (rail s) 2) fullShare.right.right ∗ oP A B c s (oth c (rail s) 3) (hh (rail s) 3) fullShare.right.left)
  | 20 => iprop(oP A B c s (cur c (rail s) 3) (hh (rail s) 2) fullShare.right.right.right ∗ oP A B c s (oth c (rail s) 3) (hh (rail s) 3) fullShare.right.left)
  | 21 => iprop((oP A B c s (cur c (rail s) 3) (hh (rail s) 2) fullShare.right.right.right ∗ oP A B c s (oth c (rail s) 3) (hh (rail s) 3) fullShare.right.left)
      ∗ oP A B c s (lrow c (rail s) 5) (hh (rail s) 3) fullShare)
  | 22 => iprop((oP A B c s (cur c (rail s) 3) (hh (rail s) 2) fullShare.right.right.right ∗ oP A B c s (oth c (rail s) 3) (hh (rail s) 3) fullShare.right.left)
      ∗ oP A B c s (oth c (rail s) 2) (hh (rail s) 2) fullShare)
  | 23 => iprop(oP A B c s (cur c (rail s) 2) (hh (rail s) 1) fullShare.right.right.right ∗ spare A B c s)
  | 24 => spare A B c s
  | 25 => iprop(oP A B c s (lrow c (rail s) 7) (hh (rail s) 2) fullShare ∗ spare A B c s)
  | 26 => iprop(oP A B c s (oth c (rail s) 1) (hh (rail s) 1) fullShare ∗ spare A B c s)
  | 27 => spare A B c s
  | 28 => iprop(oP A B c s (lrow c (rail s) 9) (hh (rail s) 1) fullShare ∗ spare A B c s)
  | k => if k ≤ 14 then oU O0 c s (cur c (rail s) 4) (hh (rail s) 3)
      else iprop(oP A B c s (oth c (rail s) 0) (hh (rail s) 0) fullShare ∗ spare A B c s)

def Data (c : Dev nD) (s : Stream) (k : ℕ) : sProp 𝕄 := iprop(zD A B Z0 c s k ∗ oD A B O0 c s k)

/-- What a device keeps of what came in: the landing buffer's rows; finished rows join the result. -/
def kept (c : Dev nD) (p : Xfer) : sProp 𝕄 := if p.2.val < 4 then rP A B c p.1 p.2.val else iprop(emp)

/-- Starting a transfer takes what it reads. -/
theorem data_send (c : Dev nD) (s : Stream) (j : Slot) :
    Data A B Z0 O0 c s (sendAt j) ⊢ iprop(srcPay A B c (s, j) ∗ Data A B Z0 O0 c s (sendAt j + 1)) := by
  match j with
  | 0 =>
    show iprop((zP A B c s (oth c (rail s) 0) (hh (rail s) 0) 0 ∗ zU Z0 c s (cur c (rail s) 1) (hh (rail s) 0)) ∗ oU O0 c s (cur c (rail s) 4) (hh (rail s) 3))
      ⊢ iprop(zP A B c s (oth c (rail s) 0) (hh (rail s) 0) 0 ∗ zU Z0 c s (cur c (rail s) 1) (hh (rail s) 0) ∗ oU O0 c s (cur c (rail s) 4) (hh (rail s) 3))
    exact sep_assoc.1
  | 1 => exact sep_assoc.1
  | 2 => exact sep_assoc.1
  | 3 => exact sep_assoc.1
  | 4 =>
    show iprop(zP A B c s (cur c (rail s) 4) (hh (rail s) 3) 4 ∗ oP A B c s (cur c (rail s) 4) (hh (rail s) 3) fullShare)
      ⊢ iprop(oP A B c s (cur c (rail s) 4) (hh (rail s) 3) fullShare.left ∗ zP A B c s (cur c (rail s) 4) (hh (rail s) 3) 4
        ∗ oP A B c s (cur c (rail s) 4) (hh (rail s) 3) fullShare.right)
    iintro ⟨Hz, Ho⟩
    ihave Ho := (Entails.of_eq (oP_share A B c s _ _ fullShare)) $$ Ho
    icases Ho with ⟨Hl, Hr⟩
    iframe
  | 5 =>
    show iprop(zP A B c s (cur c (rail s) 4) (hh (rail s) 3) 4 ∗ oP A B c s (cur c (rail s) 4) (hh (rail s) 3) fullShare.right)
      ⊢ iprop(oP A B c s (cur c (rail s) 4) (hh (rail s) 3) fullShare.right.left ∗ zP A B c s (cur c (rail s) 4) (hh (rail s) 3) 4
        ∗ oP A B c s (cur c (rail s) 4) (hh (rail s) 3) fullShare.right.right)
    iintro ⟨Hz, Ho⟩
    ihave Ho := (Entails.of_eq (oP_share A B c s _ _ fullShare.right)) $$ Ho
    icases Ho with ⟨Hl, Hr⟩
    iframe
  | 6 =>
    show iprop(zP A B c s (cur c (rail s) 4) (hh (rail s) 3) 4 ∗ oP A B c s (cur c (rail s) 4) (hh (rail s) 3) fullShare.right.right
        ∗ oP A B c s (oth c (rail s) 3) (hh (rail s) 3) fullShare)
      ⊢ iprop(oP A B c s (oth c (rail s) 3) (hh (rail s) 3) fullShare.left ∗ zP A B c s (cur c (rail s) 4) (hh (rail s) 3) 4
        ∗ oP A B c s (cur c (rail s) 3) (hh (rail s) 2) fullShare.right.right ∗ oP A B c s (oth c (rail s) 3) (hh (rail s) 3) fullShare.right.left)
    iintro ⟨Hz, Ho, Ht⟩
    ihave Ht := (Entails.of_eq (oP_share A B c s _ _ fullShare)) $$ Ht
    icases Ht with ⟨Hl, Hr⟩
    ihave Hr := (Entails.of_eq (oP_share A B c s _ _ fullShare.right)) $$ Hr
    icases Hr with ⟨Hrl, Hrr⟩
    have e : hh (rail s) 2 = 2 * hh (rail s) 3 := hh_succ (rail s) 2
    ihave H := (Entails.of_eq (oP_half A B c c s 3 fullShare.right.right).symm) $$ [Ho Hrr]
    · isplitl [Ho]
      · iexact Ho
      · iexact Hrr
    rw [e]
    iframe
    iexact H
  | 7 =>
    show iprop(zP A B c s (cur c (rail s) 4) (hh (rail s) 3) 4 ∗ oP A B c s (cur c (rail s) 3) (hh (rail s) 2) fullShare.right.right
        ∗ oP A B c s (oth c (rail s) 3) (hh (rail s) 3) fullShare.right.left)
      ⊢ iprop(oP A B c s (cur c (rail s) 3) (hh (rail s) 2) fullShare.right.right.left ∗ zP A B c s (cur c (rail s) 4) (hh (rail s) 3) 4
        ∗ oP A B c s (cur c (rail s) 3) (hh (rail s) 2) fullShare.right.right.right ∗ oP A B c s (oth c (rail s) 3) (hh (rail s) 3) fullShare.right.left)
    iintro ⟨Hz, Ho, Ht⟩
    ihave Ho := (Entails.of_eq (oP_share A B c s _ _ fullShare.right.right)) $$ Ho
    icases Ho with ⟨Hl, Hr⟩
    iframe
  | 8 =>
    show iprop(zP A B c s (cur c (rail s) 4) (hh (rail s) 3) 4
        ∗ (oP A B c s (cur c (rail s) 3) (hh (rail s) 2) fullShare.right.right.right ∗ oP A B c s (oth c (rail s) 3) (hh (rail s) 3) fullShare.right.left)
        ∗ oP A B c s (oth c (rail s) 2) (hh (rail s) 2) fullShare)
      ⊢ iprop(oP A B c s (oth c (rail s) 2) (hh (rail s) 2) fullShare.left ∗ zP A B c s (cur c (rail s) 4) (hh (rail s) 3) 4
        ∗ oP A B c s (cur c (rail s) 2) (hh (rail s) 1) fullShare.right.right.right ∗ oP A B c s (oth c (rail s) 3) (hh (rail s) 3) fullShare.right.left
        ∗ oP A B c s (oth c (rail s) 2) (hh (rail s) 2) fullShare.right.left ∗ oP A B c s (oth c (rail s) 2) (hh (rail s) 2) fullShare.right.right.left)
    iintro ⟨Hz, ⟨Ho, Hs⟩, Ht⟩
    ihave Ht := (Entails.of_eq (oP_share A B c s _ _ fullShare)) $$ Ht
    icases Ht with ⟨Hl, Hr⟩
    ihave Hr := (Entails.of_eq (oP_share A B c s _ _ fullShare.right)) $$ Hr
    icases Hr with ⟨Hrl, Hrr⟩
    ihave Hrr := (Entails.of_eq (oP_share A B c s _ _ fullShare.right.right)) $$ Hrr
    icases Hrr with ⟨Hrrl, Hrrr⟩
    have e : hh (rail s) 1 = 2 * hh (rail s) 2 := hh_succ (rail s) 1
    ihave H := (Entails.of_eq (oP_half A B c c s 2 fullShare.right.right.right).symm) $$ [Ho Hrrr]
    · isplitl [Ho]
      · iexact Ho
      · iexact Hrrr
    rw [e]
    iframe
    iexact H
  | 9 =>
    show iprop(zP A B c s (cur c (rail s) 4) (hh (rail s) 3) 4 ∗ oP A B c s (cur c (rail s) 2) (hh (rail s) 1) fullShare.right.right.right ∗ spare A B c s)
      ⊢ iprop(oP A B c s (cur c (rail s) 2) (hh (rail s) 1) fullShare.right.right.right ∗ zP A B c s (cur c (rail s) 4) (hh (rail s) 3) 4 ∗ spare A B c s)
    iintro ⟨Hz, Ho, Hs⟩
    iframe
  | 10 =>
    show iprop(zP A B c s (cur c (rail s) 4) (hh (rail s) 3) 4 ∗ oP A B c s (oth c (rail s) 1) (hh (rail s) 1) fullShare ∗ spare A B c s)
      ⊢ iprop(oP A B c s (oth c (rail s) 1) (hh (rail s) 1) fullShare ∗ zP A B c s (cur c (rail s) 4) (hh (rail s) 3) 4 ∗ spare A B c s)
    iintro ⟨Hz, Ho, Hs⟩
    iframe

/-- Two quarters that come in make the half a round's partner held. -/
theorem oP_land (c : Dev nD) (s : Stream) (r : Fin 3) :
    iprop(oP A B c s (cur (par c (rail s) r) (rail s) (r + 1 + 1)) (hh (rail s) (r + 1)) fullShare ∗ oP A B c s (oth (par c (rail s) r) (rail s) (r + 1)) (hh (rail s) (r + 1)) fullShare)
      ⊢ oP A B c s (oth c (rail s) r) (hh (rail s) r) fullShare := by
  have e : hh (rail s) r = 2 * hh (rail s) (r + 1) := hh_succ (rail s) r
  have e' : cur (par c (rail s) r) (rail s) (r + 1) = oth c (rail s) r := (par_rows c (rail s) ⟨r.val, by omega⟩).2.2
  have h := oP_half A B c (par c (rail s) r) s ⟨r.val + 1, by omega⟩ fullShare
  rw [e, ← e']
  exact Entails.of_eq h.symm

/-- What comes in joins what is held. -/
theorem data_rwait (c : Dev nD) (s : Stream) (j : Slot) :
    iprop(recvPay A B c (s, j) ∗ Data A B Z0 O0 c s (rwaitAt j)) ⊢ iprop(kept A B c (s, j) ∗ Data A B Z0 O0 c s (rwaitAt j + 1)) := by
  match j with
  | 0 => exact .rfl
  | 1 => exact .rfl
  | 2 => exact .rfl
  | 3 => exact .rfl
  | 4 =>
    show iprop(oP A B c s (cur (par c (rail s) 3) (rail s) 4) (hh (rail s) 3) fullShare ∗ zP A B c s (cur c (rail s) 4) (hh (rail s) 3) 4
        ∗ oP A B c s (cur c (rail s) 4) (hh (rail s) 3) fullShare.right.right)
      ⊢ iprop(emp ∗ zP A B c s (cur c (rail s) 4) (hh (rail s) 3) 4
        ∗ oP A B c s (cur c (rail s) 4) (hh (rail s) 3) fullShare.right.right ∗ oP A B c s (oth c (rail s) 3) (hh (rail s) 3) fullShare)
    have e' : cur (par c (rail s) 3) (rail s) 4 = oth c (rail s) 3 := (par_rows c (rail s) 3).2.2
    rw [e']
    iintro ⟨H, Hz, Ho⟩
    iframe
  | 5 =>
    show iprop(oP A B c s (lrow c (rail s) 5) (hh (rail s) 3) fullShare ∗ zP A B c s (cur c (rail s) 4) (hh (rail s) 3) 4
        ∗ (oP A B c s (cur c (rail s) 3) (hh (rail s) 2) fullShare.right.right.right ∗ oP A B c s (oth c (rail s) 3) (hh (rail s) 3) fullShare.right.left))
      ⊢ iprop(emp ∗ zP A B c s (cur c (rail s) 4) (hh (rail s) 3) 4
        ∗ (oP A B c s (cur c (rail s) 3) (hh (rail s) 2) fullShare.right.right.right ∗ oP A B c s (oth c (rail s) 3) (hh (rail s) 3) fullShare.right.left)
        ∗ oP A B c s (lrow c (rail s) 5) (hh (rail s) 3) fullShare)
    iintro ⟨H, Hz, Ho⟩
    iframe
  | 6 =>
    show iprop(oP A B c s (oth (par c (rail s) 2) (rail s) 3) (hh (rail s) 3) fullShare ∗ zP A B c s (cur c (rail s) 4) (hh (rail s) 3) 4
        ∗ (oP A B c s (cur c (rail s) 3) (hh (rail s) 2) fullShare.right.right.right ∗ oP A B c s (oth c (rail s) 3) (hh (rail s) 3) fullShare.right.left)
        ∗ oP A B c s (cur (par c (rail s) 2) (rail s) 4) (hh (rail s) 3) fullShare)
      ⊢ iprop(emp ∗ zP A B c s (cur c (rail s) 4) (hh (rail s) 3) 4
        ∗ (oP A B c s (cur c (rail s) 3) (hh (rail s) 2) fullShare.right.right.right ∗ oP A B c s (oth c (rail s) 3) (hh (rail s) 3) fullShare.right.left)
        ∗ oP A B c s (oth c (rail s) 2) (hh (rail s) 2) fullShare)
    iintro ⟨H, Hz, Ho, H'⟩
    ihave H := (oP_land A B c s 2) $$ [H H']
    · isplitl [H']
      · iexact H'
      · iexact H
    iframe
    iexact H
  | 7 =>
    show iprop(oP A B c s (lrow c (rail s) 7) (hh (rail s) 2) fullShare ∗ zP A B c s (cur c (rail s) 4) (hh (rail s) 3) 4 ∗ spare A B c s)
      ⊢ iprop(emp ∗ zP A B c s (cur c (rail s) 4) (hh (rail s) 3) 4 ∗ oP A B c s (lrow c (rail s) 7) (hh (rail s) 2) fullShare ∗ spare A B c s)
    iintro ⟨H, Hz, Ho⟩
    iframe
  | 8 =>
    show iprop(oP A B c s (oth (par c (rail s) 1) (rail s) 2) (hh (rail s) 2) fullShare ∗ zP A B c s (cur c (rail s) 4) (hh (rail s) 3) 4
        ∗ oP A B c s (cur (par c (rail s) 1) (rail s) 3) (hh (rail s) 2) fullShare ∗ spare A B c s)
      ⊢ iprop(emp ∗ zP A B c s (cur c (rail s) 4) (hh (rail s) 3) 4 ∗ oP A B c s (oth c (rail s) 1) (hh (rail s) 1) fullShare ∗ spare A B c s)
    iintro ⟨H, Hz, H', Ho⟩
    ihave H := (oP_land A B c s 1) $$ [H H']
    · isplitl [H']
      · iexact H'
      · iexact H
    iframe
    iexact H
  | 9 =>
    show iprop(oP A B c s (lrow c (rail s) 9) (hh (rail s) 1) fullShare ∗ zP A B c s (cur c (rail s) 4) (hh (rail s) 3) 4 ∗ spare A B c s)
      ⊢ iprop(emp ∗ zP A B c s (cur c (rail s) 4) (hh (rail s) 3) 4 ∗ oP A B c s (lrow c (rail s) 9) (hh (rail s) 1) fullShare ∗ spare A B c s)
    iintro ⟨H, Hz, Ho⟩
    iframe
  | 10 =>
    show iprop(oP A B c s (oth (par c (rail s) 0) (rail s) 1) (hh (rail s) 1) fullShare ∗ zP A B c s (cur c (rail s) 4) (hh (rail s) 3) 4
        ∗ oP A B c s (cur (par c (rail s) 0) (rail s) 2) (hh (rail s) 1) fullShare ∗ spare A B c s)
      ⊢ iprop(emp ∗ zP A B c s (cur c (rail s) 4) (hh (rail s) 3) 4 ∗ oP A B c s (oth c (rail s) 0) (hh (rail s) 0) fullShare ∗ spare A B c s)
    iintro ⟨H, Hz, H', Ho⟩
    ihave H := (oP_land A B c s 0) $$ [H H']
    · isplitl [H']
      · iexact H'
      · iexact H
    iframe
    iexact H

/-- Nothing changes while the transfers that are out come back. -/
theorem data_swait (c : Dev nD) (s : Stream) (j : Slot) : Data A B Z0 O0 c s (swaitAt j) = Data A B Z0 O0 c s (swaitAt j + 1) := by
  match j with
  | 0 | 1 | 2 | 3 | 4 | 5 | 6 | 7 | 8 | 9 | 10 => rfl

end

end Cert.Exchange

end
-- ==== Proof.Streams.lean ====
/-
  One stream's holdings, and what each of its steps takes out of them and puts back.
-/
module

public import proofs.«01_k».proof.Proof.State

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One member of a family taken out, to be put back changed. -/
theorem bigSep_upd {I : Type} [Fintype I] [DecidableEq I] (i : I) {Φ Ψ : I → sProp 𝕄} (h : ∀ k, k ≠ i → Φ k = Ψ k) :
    bigSep Finset.univ Φ ⊢ iprop(Φ i ∗ (Ψ i -∗ bigSep Finset.univ Ψ)) := by
  have e : bigSep (Finset.univ.erase i) Φ = bigSep (Finset.univ.erase i) Ψ := bigSep_congr fun k hk => h k (Finset.ne_of_mem_erase hk)
  have h1 : bigSep Finset.univ Φ = iprop(Φ i ∗ bigSep (Finset.univ.erase i) Ψ) := by rw [← e]; exact BI.bigSep_erase (Finset.mem_univ i)
  have h2 : bigSep Finset.univ Ψ = iprop(Ψ i ∗ bigSep (Finset.univ.erase i) Ψ) := BI.bigSep_erase (Finset.mem_univ i)
  iintro H
  ihave H := (Entails.of_eq h1) $$ H
  icases H with ⟨H, HR⟩
  isplitl [H]
  · iexact H
  iintro H'
  iapply (Entails.of_eq h2.symm)
  isplitl [H']
  · iexact H'
  · iexact HR

section
variable (A : Dev nD → S1024x512.Idx → F .f32) (B : Dev nD → S512x1024.Idx → F .f32)
variable (Z0 O0 : S1024x1024.Idx → F .f32)

/-- What a device holds of a transfer it makes: before it starts, its tokens and where it lands; while it is out, the
    credit of its sending cell; afterwards what it read. -/
def Snd (c : Dev nD) (p : Xfer) (k : ℕ) : sProp 𝕄 :=
  if k ≤ sendAt p.2 then
    iprop((dutyTok ER (sCell c p) 0 0 ∗ dutyTok ER (rCell (peer c p.1 p.2) p) 0 0 ∗ landAny (F := F) (peer c p.1 p.2) p) ∗ atPos ER (sCell c p) 0 ∅ 0)
  else if k ≤ swaitAt p.2 then iprop(cred (tallyAt (sCell c p) () (amtOf p)) ∗ atPos ER (sCell c p) 0 ∅ 0)
  else iprop(atPos ER (sCell c p) 1 ∅ 0 ∗ srcPay A B c p)

/-- What it holds of a transfer that comes in: the credit of its receiving cell, then what it keeps of it. -/
def Rcv (c : Dev nD) (p : Xfer) (k : ℕ) : sProp 𝕄 :=
  if k ≤ rwaitAt p.2 then iprop(cred (tallyAt (rCell c p) () (amtOf p)) ∗ atPos ER (rCell c p) 0 ∅ 0)
  else iprop(atPos ER (rCell c p) 1 ∅ 0 ∗ kept A B c p)

def Str (c : Dev nD) (s : Stream) (k : ℕ) : sProp 𝕄 :=
  iprop(Data A B Z0 O0 c s k ∗ (bigSep Finset.univ fun j : Slot => Snd A B c (s, j) k) ∗ bigSep Finset.univ fun j : Slot => Rcv A B c (s, j) k)

variable (c : Dev nD) (s : Stream)

theorem Snd_same {j : Slot} {k : ℕ} (h1 : k ≠ sendAt j) (h2 : k ≠ swaitAt j) : Snd A B c (s, j) k = Snd A B c (s, j) (k + 1) := by
  unfold Snd
  rw [if_congr (show k ≤ sendAt (s, j).2 ↔ k + 1 ≤ sendAt (s, j).2 from by show k ≤ sendAt j ↔ k + 1 ≤ sendAt j; omega) rfl rfl,
    if_congr (show k ≤ swaitAt (s, j).2 ↔ k + 1 ≤ swaitAt (s, j).2 from by show k ≤ swaitAt j ↔ k + 1 ≤ swaitAt j; omega) rfl rfl]

theorem Rcv_same {j : Slot} {k : ℕ} (h : k ≠ rwaitAt j) : Rcv A B c (s, j) k = Rcv A B c (s, j) (k + 1) := by
  unfold Rcv
  rw [if_congr (show k ≤ rwaitAt (s, j).2 ↔ k + 1 ≤ rwaitAt (s, j).2 from by show k ≤ rwaitAt j ↔ k + 1 ≤ rwaitAt j; omega) rfl rfl]

theorem send_facts : ∀ i j : Slot, (i ≠ j → sendAt j ≠ sendAt i) ∧ sendAt j ≠ swaitAt i ∧ sendAt j ≠ rwaitAt i ∧ ¬ sendAt j + 1 ≤ sendAt j ∧ sendAt j + 1 ≤ swaitAt j := by decide
theorem rwait_facts : ∀ i j : Slot, (i ≠ j → rwaitAt j ≠ rwaitAt i) ∧ rwaitAt j ≠ sendAt i ∧ rwaitAt j ≠ swaitAt i := by decide
theorem swait_facts : ∀ i j : Slot, (i ≠ j → swaitAt j ≠ swaitAt i) ∧ swaitAt j ≠ sendAt i ∧ swaitAt j ≠ rwaitAt i ∧ ¬ swaitAt j ≤ sendAt j ∧ ¬ swaitAt j + 1 ≤ sendAt j := by decide

/-- Starting transfer `j`. -/
theorem str_send (j : Slot) :
    Str A B Z0 O0 c s (sendAt j) ⊢ iprop(((dutyTok ER (sCell c (s, j)) 0 0 ∗ dutyTok ER (rCell (peer c s j) (s, j)) 0 0 ∗ landAny (F := F) (peer c s j) (s, j)) ∗ srcPay A B c (s, j))
      ∗ (cred (tallyAt (sCell c (s, j)) () (amtOf (s, j))) -∗ Str A B Z0 O0 c s (sendAt j + 1))) := by
  have hr : (bigSep Finset.univ fun i : Slot => Rcv A B c (s, i) (sendAt j)) = bigSep Finset.univ fun i : Slot => Rcv A B c (s, i) (sendAt j + 1) :=
    bigSep_congr fun i _ => Rcv_same A B c s (send_facts i j).2.2.1
  have h1 : Snd A B c (s, j) (sendAt j) = iprop((dutyTok ER (sCell c (s, j)) 0 0 ∗ dutyTok ER (rCell (peer c s j) (s, j)) 0 0 ∗ landAny (F := F) (peer c s j) (s, j)) ∗ atPos ER (sCell c (s, j)) 0 ∅ 0) := by
    unfold Snd; exact if_pos (le_refl _)
  have h2 : Snd A B c (s, j) (sendAt j + 1) = iprop(cred (tallyAt (sCell c (s, j)) () (amtOf (s, j))) ∗ atPos ER (sCell c (s, j)) 0 ∅ 0) := by
    unfold Snd
    rw [if_neg (show ¬ sendAt j + 1 ≤ sendAt (s, j).2 from (send_facts j j).2.2.2.1), if_pos (show sendAt j + 1 ≤ swaitAt (s, j).2 from (send_facts j j).2.2.2.2)]
  have hu := bigSep_upd j (Φ := fun i : Slot => Snd A B c (s, i) (sendAt j)) (Ψ := fun i : Slot => Snd A B c (s, i) (sendAt j + 1))
    fun i hi => Snd_same A B c s ((send_facts i j).1 hi) (send_facts i j).2.1
  unfold Str
  rw [hr]
  iintro ⟨HD, HS, HR⟩
  ihave HD := (data_send A B Z0 O0 c s j) $$ HD
  icases HD with ⟨Hsrc, HD⟩
  ihave HS := hu $$ HS
  icases HS with ⟨Hj, HS⟩
  ihave Hj := (Entails.of_eq h1) $$ Hj
  icases Hj with ⟨Hj, Hat⟩
  isplitl [Hj Hsrc]
  · isplitl [Hj]
    · iexact Hj
    · iexact Hsrc
  iintro Hc
  isplitl [HD]
  · iexact HD
  isplitr [HR]
  · iapply HS
    iapply (Entails.of_eq h2.symm)
    isplitl [Hc]
    · iexact Hc
    · iexact Hat
  · iexact HR

/-- Waiting for the transfer `j` that comes in. -/
theorem str_rwait (j : Slot) :
    Str A B Z0 O0 c s (rwaitAt j) ⊢ iprop((cred (tallyAt (rCell c (s, j)) () (amtOf (s, j))) ∗ atPos ER (rCell c (s, j)) 0 ∅ 0)
      ∗ ((atPos ER (rCell c (s, j)) 1 ∅ 0 ∗ recvPay A B c (s, j)) -∗ Str A B Z0 O0 c s (rwaitAt j + 1))) := by
  have hs : (bigSep Finset.univ fun i : Slot => Snd A B c (s, i) (rwaitAt j)) = bigSep Finset.univ fun i : Slot => Snd A B c (s, i) (rwaitAt j + 1) :=
    bigSep_congr fun i _ => Snd_same A B c s (rwait_facts i j).2.1 (rwait_facts i j).2.2
  have h1 : Rcv A B c (s, j) (rwaitAt j) = iprop(cred (tallyAt (rCell c (s, j)) () (amtOf (s, j))) ∗ atPos ER (rCell c (s, j)) 0 ∅ 0) := by
    unfold Rcv; exact if_pos (le_refl _)
  have h2 : Rcv A B c (s, j) (rwaitAt j + 1) = iprop(atPos ER (rCell c (s, j)) 1 ∅ 0 ∗ kept A B c (s, j)) := by
    unfold Rcv; exact if_neg (show ¬ rwaitAt j + 1 ≤ rwaitAt j from by omega)
  have hu := bigSep_upd j (Φ := fun i : Slot => Rcv A B c (s, i) (rwaitAt j)) (Ψ := fun i : Slot => Rcv A B c (s, i) (rwaitAt j + 1))
    fun i hi => Rcv_same A B c s ((rwait_facts i j).1 hi)
  unfold Str
  rw [hs]
  iintro ⟨HD, HS, HR⟩
  ihave HR := hu $$ HR
  icases HR with ⟨Hj, HR⟩
  ihave Hj := (Entails.of_eq h1) $$ Hj
  isplitl [Hj]
  · iexact Hj
  iintro ⟨Hat, Hp⟩
  ihave HD := (data_rwait A B Z0 O0 c s j) $$ [Hp HD]
  · isplitl [Hp]
    · iexact Hp
    · iexact HD
  icases HD with ⟨Hk, HD⟩
  isplitl [HD]
  · iexact HD
  isplitl [HS]
  · iexact HS
  iapply HR
  iapply (Entails.of_eq h2.symm)
  isplitl [Hat]
  · iexact Hat
  · iexact Hk

/-- Waiting for its own transfer `j` to have left. -/
theorem str_swait (j : Slot) :
    Str A B Z0 O0 c s (swaitAt j) ⊢ iprop((cred (tallyAt (sCell c (s, j)) () (amtOf (s, j))) ∗ atPos ER (sCell c (s, j)) 0 ∅ 0)
      ∗ ((atPos ER (sCell c (s, j)) 1 ∅ 0 ∗ srcPay A B c (s, j)) -∗ Str A B Z0 O0 c s (swaitAt j + 1))) := by
  have hr : (bigSep Finset.univ fun i : Slot => Rcv A B c (s, i) (swaitAt j)) = bigSep Finset.univ fun i : Slot => Rcv A B c (s, i) (swaitAt j + 1) :=
    bigSep_congr fun i _ => Rcv_same A B c s (swait_facts i j).2.2.1
  have h1 : Snd A B c (s, j) (swaitAt j) = iprop(cred (tallyAt (sCell c (s, j)) () (amtOf (s, j))) ∗ atPos ER (sCell c (s, j)) 0 ∅ 0) := by
    unfold Snd
    rw [if_neg (show ¬ swaitAt j ≤ sendAt (s, j).2 from (swait_facts j j).2.2.2.1), if_pos (show swaitAt j ≤ swaitAt (s, j).2 from le_refl _)]
  have h2 : Snd A B c (s, j) (swaitAt j + 1) = iprop(atPos ER (sCell c (s, j)) 1 ∅ 0 ∗ srcPay A B c (s, j)) := by
    unfold Snd
    rw [if_neg (show ¬ swaitAt j + 1 ≤ sendAt (s, j).2 from (swait_facts j j).2.2.2.2), if_neg (show ¬ swaitAt j + 1 ≤ swaitAt (s, j).2 from by show ¬ swaitAt j + 1 ≤ swaitAt j; omega)]
  have hu := bigSep_upd j (Φ := fun i : Slot => Snd A B c (s, i) (swaitAt j)) (Ψ := fun i : Slot => Snd A B c (s, i) (swaitAt j + 1))
    fun i hi => Snd_same A B c s (swait_facts i j).2.1 ((swait_facts i j).1 hi)
  unfold Str
  rw [hr, data_swait A B Z0 O0 c s j]
  iintro ⟨HD, HS, HR⟩
  ihave HS := hu $$ HS
  icases HS with ⟨Hj, HS⟩
  ihave Hj := (Entails.of_eq h1) $$ Hj
  isplitl [Hj]
  · iexact Hj
  iintro ⟨Hat, Hp⟩
  isplitl [HD]
  · iexact HD
  isplitr [HR]
  · iapply HS
    iapply (Entails.of_eq h2.symm)
    isplitl [Hat]
    · iexact Hat
    · iexact Hp
  · iexact HR

/-- A step that only computes changes the data. -/
theorem str_data {k : ℕ} (hk : ∀ j : Slot, k ≠ sendAt j ∧ k ≠ swaitAt j ∧ k ≠ rwaitAt j) :
    Str A B Z0 O0 c s k ⊢ iprop(Data A B Z0 O0 c s k ∗ (Data A B Z0 O0 c s (k + 1) -∗ Str A B Z0 O0 c s (k + 1))) := by
  have hs : (bigSep Finset.univ fun i : Slot => Snd A B c (s, i) k) = bigSep Finset.univ fun i : Slot => Snd A B c (s, i) (k + 1) :=
    bigSep_congr fun i _ => Snd_same A B c s (hk i).1 (hk i).2.1
  have hr : (bigSep Finset.univ fun i : Slot => Rcv A B c (s, i) k) = bigSep Finset.univ fun i : Slot => Rcv A B c (s, i) (k + 1) :=
    bigSep_congr fun i _ => Rcv_same A B c s (hk i).2.2
  unfold Str
  rw [hs, hr]
  iintro ⟨HD, HS, HR⟩
  isplitl [HD]
  · iexact HD
  iintro HD
  isplitl [HD]
  · iexact HD
  isplitl [HS]
  · iexact HS
  · iexact HR

/-- Reading the data. -/
theorem str_read (k : ℕ) : Str A B Z0 O0 c s k ⊢ iprop(Data A B Z0 O0 c s k ∗ (Data A B Z0 O0 c s k -∗ Str A B Z0 O0 c s k)) := by
  unfold Str
  iintro ⟨HD, HS, HR⟩
  isplitl [HD]
  · iexact HD
  iintro HD
  isplitl [HD]
  · iexact HD
  isplitl [HS]
  · iexact HS
  · iexact HR

/-- Reading what the four rounds brought. -/
theorem str_recv (j : Slot) (hj : j.val < 4) {k : ℕ} (hk : rwaitAt j < k) :
    Str A B Z0 O0 c s k ⊢ iprop(rP A B c s j.val ∗ (rP A B c s j.val -∗ Str A B Z0 O0 c s k)) := by
  have h : Rcv A B c (s, j) k = iprop(atPos ER (rCell c (s, j)) 1 ∅ 0 ∗ rP A B c s j.val) := by
    unfold Rcv kept; rw [if_neg (show ¬ k ≤ rwaitAt (s, j).2 from by show ¬ k ≤ rwaitAt j; omega)]
    rw [if_pos (show (s, j).2.val < 4 from hj)]
  have hu := bigSep_upd j (Φ := fun i : Slot => Rcv A B c (s, i) k) (Ψ := fun i : Slot => Rcv A B c (s, i) k) fun i _ => rfl
  unfold Str
  iintro ⟨HD, HS, HR⟩
  ihave HR := hu $$ HR
  icases HR with ⟨Hj, HR⟩
  ihave Hj := (Entails.of_eq h) $$ Hj
  icases Hj with ⟨Hat, Hr⟩
  isplitl [Hr]
  · iexact Hr
  iintro Hr
  isplitl [HD]
  · iexact HD
  isplitl [HS]
  · iexact HS
  iapply HR
  iapply (Entails.of_eq h.symm)
  isplitl [Hat]
  · iexact Hat
  · iexact Hr

end

end Cert.Exchange

end
-- ==== Proof.Steps.lean ====
/-
  The device's whole state between two steps, and what it means to run a piece of the program from one step to another.
-/
module

public import proofs.«01_k».proof.Proof.Streams

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The transfer a step is about. -/
def Step.slot : Step → Slot
  | .send j | .rwait j | .swait j => j
  | .add r => ⟨r.val, by omega⟩
  | _ => 0
def jAt (n : ℕ) : Slot := (what n).slot
/-- The stream's own step that step `n` of the program is. -/
def kAt (n : ℕ) : ℕ := kv n (who n)
abbrev xAt (n : ℕ) : Xfer := (who n, jAt n)

section
variable (A : Dev nD → S1024x512.Idx → F .f32) (B : Dev nD → S512x1024.Idx → F .f32)
variable (K : Dev nD × Cel → ℕ)

/-- Every cell's invariant, and that every cell is at its first round. -/
def records : sProp 𝕄 :=
  iprop((bigSep Finset.univ fun ck : Dev nD × Cel => cellInv ER (Rd A B) (K ck) (cellAt ck.1 ck.2))
    ∗ bigSep Finset.univ fun ck : Dev nD × Cel => reached ER (cellAt ck.1 ck.2) 0)

instance records_persistent : BI.Persistent (records A B K) := by unfold records; infer_instance

theorem inv_at (c : Dev nD) (k : Cel) : records A B K ⊢ cellInv ER (Rd A B) (K (c, k)) (cellAt c k) := by
  have h : (bigSep Finset.univ fun ck : Dev nD × Cel => (cellInv ER (Rd A B) (K ck) (cellAt ck.1 ck.2) : sProp 𝕄)) ⊢ cellInv ER (Rd A B) (K (c, k)) (cellAt c k) :=
    bigSep_elim (Finset.mem_univ (c, k))
  unfold records
  iintro ⟨H, -⟩
  iapply h; iexact H

theorem reached_at (c : Dev nD) (k : Cel) : records A B K ⊢ reached ER (cellAt c k) 0 := by
  have h : (bigSep Finset.univ fun ck : Dev nD × Cel => (reached ER (cellAt ck.1 ck.2) 0 : sProp 𝕄)) ⊢ reached ER (cellAt c k) 0 :=
    bigSep_elim (Finset.mem_univ (c, k))
  unfold records
  iintro ⟨-, H⟩
  iapply h; iexact H

variable (Z0 O0 : S1024x1024.Idx → F .f32)

def aPts (c : Dev nD) : sProp 𝕄 := pts c aR ![0, 0] ![1024, 512] fullShare (A c)
def bPts (c : Dev nD) : sProp 𝕄 := pts c bR ![0, 0] ![512, 1024] fullShare (B c)
def Tok (c : Dev nD) (n : ℕ) : sProp 𝕄 := iprop(∃ W, owes (c : Thread nD τ) (Ow c n) W)
def Strs (c : Dev nD) (n : ℕ) : sProp 𝕄 := bigSep Finset.univ fun s : Stream => Str A B Z0 O0 c s (kv n s)

/-- Device `c` before step `n`. -/
def Inv (c : Dev nD) (n : ℕ) : sProp 𝕄 :=
  iprop(Tok (F := F) c n ∗ Strs A B Z0 O0 c n ∗ aPts A c ∗ bPts B c ∗ records A B K ∗ levAts L lv)

/-- `p`, run by device `c` from step `n`, reaches step `m` and returns `u`. -/
def Run (c : Dev nD) {α : Type} (n : ℕ) (p : Prog (TpuEff nD τ sig (Elt F) Λ₀ .tc) α) (m : ℕ) (u : α) : Prop :=
  ∀ Q : α → sProp 𝕄, Inv A B K Z0 O0 c n
    ⊢ iprop((Inv A B K Z0 O0 c m -∗ Q u) -∗ wp frame (wpE (Cert.KernelIdeal.defs₀ (F := F)) 𝒱₀ (c : Thread nD τ) none) Set.univ p Q)

variable {A B K Z0 O0} {c : Dev nD} {α β : Type} {n m m' : ℕ}

theorem run_pure {u : α} : Run A B K Z0 O0 c n (pure u) n u := by
  intro Q
  rw [show (pure u : Prog (TpuEff nD τ sig (Elt F) Λ₀ .tc) α) = Prog.ret u from rfl, wp_ret]
  iintro H HQ
  imodintro
  iapply HQ
  iexact H

theorem run_ret {u : α} : Run A B K Z0 O0 c n (Prog.ret u) n u := run_pure

theorem run_bind {p : Prog (TpuEff nD τ sig (Elt F) Λ₀ .tc) α} {k : α → Prog (TpuEff nD τ sig (Elt F) Λ₀ .tc) β} {u : α} {v : β} {n' : ℕ}
    (hp : Run A B K Z0 O0 c n p m u) (hm : m = n') (hk : Run A B K Z0 O0 c n' (k u) m' v) : Run A B K Z0 O0 c n (p >>= k) m' v := by
  subst hm
  intro Q
  rw [wp_bind]
  iintro H HQ
  iapply (hp _) $$ H
  iintro H
  iapply (hk Q) $$ H
  iexact HQ

/-! ## The streams' counters -/

theorem stepAt_ne_keep : ∀ j : Slot, stepAt (sendAt j) ≠ .keep ∧ stepAt (rwaitAt j) ≠ .keep ∧ stepAt (swaitAt j) ≠ .keep := by decide

/-- All streams but the one that makes the step stay. -/
theorem strs_upd (hn : n < total) (hw : what n ≠ .keep) :
    Strs A B Z0 O0 c n ⊢ iprop(Str A B Z0 O0 c (who n) (kAt n) ∗ (Str A B Z0 O0 c (who n) (kAt n + 1) -∗ Strs A B Z0 O0 c (n + 1))) := by
  have hkv : ∀ s, kv (n + 1) s = kv n s + if s = who n then 1 else 0 := fun s => by
    have := kv_succ ⟨n, hn⟩ s
    simp only [if_neg hw] at this
    exact this
  have hu := bigSep_upd (who n) (Φ := fun s : Stream => Str A B Z0 O0 c s (kv n s)) (Ψ := fun s : Stream => Str A B Z0 O0 c s (kv (n + 1) s))
    fun s hs => by simp only [hkv s, if_neg hs, Nat.add_zero]
  have h2 : Str A B Z0 O0 c (who n) (kAt n + 1) = Str A B Z0 O0 c (who n) (kv (n + 1) (who n)) := by rw [hkv, if_pos rfl]; rfl
  unfold Strs
  rw [h2]
  exact hu

theorem strs_read (s : Stream) : Strs A B Z0 O0 c n ⊢ iprop(Str A B Z0 O0 c s (kv n s) ∗ (Str A B Z0 O0 c s (kv n s) -∗ Strs A B Z0 O0 c n)) :=
  bigSep_upd s (Φ := fun s : Stream => Str A B Z0 O0 c s (kv n s)) (Ψ := fun s : Stream => Str A B Z0 O0 c s (kv n s)) fun _ _ => rfl

/-- A step that starts no transfer owes as much after it as before. -/
theorem Ow_same (hn : n < total) (h : ∀ j : Slot, kAt n ≠ sendAt j) (hw : what n = .keep → ∀ s, rail s = rail (who n) → kv n s = 2) : Ow c n = Ow c (n + 1) := by
  unfold Ow
  refine Finset.sum_congr rfl fun p _ => ?_
  refine if_congr ?_ rfl rfl
  have := kv_succ ⟨n, hn⟩ p.1
  simp only at this
  by_cases hk : what n = .keep
  · simp only [if_pos hk] at this
    by_cases hr : rail p.1 = rail (who n)
    · rw [if_pos hr] at this
      rw [this, hw hk p.1 hr]
      have : ∀ j : Slot, 2 ≤ sendAt j ↔ 2 + 1 ≤ sendAt j := by decide
      exact this p.2
    · rw [if_neg hr] at this; rw [this]; exact Iff.rfl
  · simp only [if_neg hk] at this
    by_cases hr : p.1 = who n
    · rw [if_pos hr] at this
      have h' := h p.2
      unfold kAt at h'
      rw [← hr] at h'
      omega
    · rw [if_neg hr] at this; rw [this]; exact Iff.rfl

/-- Starting a transfer pays what was owed for it. -/
theorem Ow_send (hn : n < total) {j : Slot} (hk : kAt n = sendAt j) : Ow c n = Ow c (n + 1) + tallyAt (rCell (peer c (who n) j) (who n, j)) () (amtOf (who n, j)) := by
  have hw : what n ≠ .keep := by unfold what; rw [show kv n (who n) = sendAt j from hk]; exact (stepAt_ne_keep j).1
  have hs : tallyAt (rCell (peer c (who n) j) (who n, j)) () (amtOf (who n, j))
      = ∑ p : Xfer, if p = (who n, j) then tallyAt (rCell (peer c p.1 p.2) p) () (amtOf p) else (0 : CellTallies nD τ sig Unit) := by
    rw [Finset.sum_ite_eq' Finset.univ (who n, j), if_pos (Finset.mem_univ _)]
  rw [hs]
  unfold Ow
  rw [← Finset.sum_add_distrib]
  refine Finset.sum_congr rfl fun p _ => ?_
  have h1 := kv_succ ⟨n, hn⟩ p.1
  simp only [if_neg hw] at h1
  by_cases hp : p = (who n, j)
  · subst hp
    simp only [if_pos] at h1
    have h2 : kv n (who n) = sendAt j := hk
    rw [if_pos rfl, if_pos (le_of_eq h2), if_neg (by simp only; omega), zero_add]
  · rw [if_neg hp, add_zero]
    refine if_congr ?_ rfl rfl
    by_cases hr : p.1 = who n
    · rw [if_pos hr] at h1
      have h2 : kv n p.1 = sendAt j := by rw [hr]; exact hk
      have h3 : p.2 ≠ j := fun h => hp (Prod.ext hr h)
      have h4 := (send_facts p.2 j).1 h3
      omega
    · rw [if_neg hr] at h1; rw [h1]; exact Iff.rfl

end

end Cert.Exchange

end
-- ==== Proof.Access.lean ====
/-
  What each load reads and each store rewrites, taken out of the device's state and put back.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- `X` can be taken out of `P`, and `P'` is what `P` is with `Y` put in its place. -/
def Acc (P X Y P' : sProp 𝕄) : Prop := P ⊢ iprop(X ∗ (Y -∗ P'))

theorem Acc.out {P X Y P' : sProp 𝕄} (h : Acc P X Y P') : P ⊢ iprop(X ∗ (Y -∗ P')) := h

theorem Acc.trans {P X Y P' X' Y' : sProp 𝕄} (h : Acc P X Y P') (h' : Acc X X' Y' Y) : Acc P X' Y' P' := by
  unfold Acc at *
  refine h.trans ?_
  have h1 : iprop(X ∗ (Y -∗ P')) ⊢ iprop((X' ∗ (Y' -∗ Y)) ∗ (Y -∗ P')) := sep_mono_left h'
  refine h1.trans ?_
  iintro ⟨⟨H, HY⟩, HP⟩
  isplitl [H]
  · iexact H
  iintro H
  iapply HP
  iapply HY
  iexact H

theorem acc_left {P Q Q' : sProp 𝕄} : Acc iprop(Q ∗ P) Q Q' iprop(Q' ∗ P) := by
  unfold Acc
  iintro ⟨HQ, HP⟩
  isplitl [HQ]
  · iexact HQ
  iintro HQ
  isplitl [HQ]
  · iexact HQ
  · iexact HP

theorem acc_right {P Q Q' : sProp 𝕄} : Acc iprop(P ∗ Q) Q Q' iprop(P ∗ Q') := by
  unfold Acc
  iintro ⟨HP, HQ⟩
  isplitl [HQ]
  · iexact HQ
  iintro HQ
  isplitl [HP]
  · iexact HP
  · iexact HQ

theorem acc_self {Q Q' : sProp 𝕄} : Acc Q Q Q' Q' := by
  unfold Acc
  iintro HQ
  isplitl [HQ]
  · iexact HQ
  iintro HQ
  iexact HQ

theorem acc_eq {P X Y P' P₁ P₁' : sProp 𝕄} (h : Acc P X Y P') (e : P₁ = P) (e' : P₁' = P') : Acc P₁ X Y P₁' := by rw [e, e']; exact h

theorem sep_swap (P Q : sProp 𝕄) : iprop(P ∗ Q) = iprop(Q ∗ P) := BI.Entails.antisymm (Laws.sep_comm (P := P) (Q := Q)).1 (Laws.sep_comm (P := P) (Q := Q)).2

theorem wand_use (P Q : sProp 𝕄) : iprop(P ∗ (P -∗ Q)) ⊢ Q := by
  iintro ⟨H, HW⟩
  iapply HW
  iexact H

section
variable (A : Dev nD → S1024x512.Idx → F .f32) (B : Dev nD → S512x1024.Idx → F .f32)
variable (Z0 O0 : S1024x1024.Idx → F .f32) (c : Dev nD) (s : Stream)

/-! ## The data of one stream -/

theorem acc_dot (Y : sProp 𝕄) : Acc (Data A B Z0 O0 c s 0) (zU Z0 c s (oth c (rail s) 0) (hh (rail s) 0)) Y
    iprop((Y ∗ zU Z0 c s (cur c (rail s) 1) (hh (rail s) 0)) ∗ oU O0 c s (cur c (rail s) 4) (hh (rail s) 3)) :=
  Acc.trans (X := iprop(zU Z0 c s (oth c (rail s) 0) (hh (rail s) 0) ∗ zU Z0 c s (cur c (rail s) 1) (hh (rail s) 0)))
    (Y := iprop(Y ∗ zU Z0 c s (cur c (rail s) 1) (hh (rail s) 0))) acc_left acc_left

/-- The kept rows before and after the round-`j` sum. -/
theorem acc_add (j : Slot) (hj : j.val < 4) (t : ℕ) (ht : t = j.val ∨ t = j.val + 1) :
    Acc (Data A B Z0 O0 c s (rwaitAt j + 1)) (zP A B c s (cur c (rail s) (j.val + 1)) (hh (rail s) j.val) j.val)
      (zP A B c s (cur c (rail s) (j.val + 1)) (hh (rail s) j.val) t) (Data A B Z0 O0 c s (rwaitAt j + 1 + (t - j.val))) := by
  rcases ht with rfl | rfl
  · rw [Nat.sub_self, Nat.add_zero]
    match j, hj with
    | 0, _ => exact acc_left
    | 1, _ => exact acc_left
    | 2, _ => exact acc_left
    | 3, _ => exact acc_left
  · rw [Nat.add_sub_cancel_left]
    have h (r : Fin 3) : zP A B c s (cur c (rail s) (r.val + 1)) (hh (rail s) r.val) (r.val + 1)
        = iprop(zP A B c s (oth c (rail s) (r + 1)) (hh (rail s) (r + 1)) (r + 1) ∗ zP A B c s (cur c (rail s) (r + 1 + 1)) (hh (rail s) (r + 1)) (r + 1)) := by
      have e : zP A B c s (cur c (rail s) (r.val + 1)) (2 * hh (rail s) (r.val + 1)) (r.val + 1)
          = iprop(zP A B c s (cur c (rail s) (r.val + 1 + 1)) (hh (rail s) (r.val + 1)) (r.val + 1) ∗ zP A B c s (oth c (rail s) (r.val + 1)) (hh (rail s) (r.val + 1)) (r.val + 1)) :=
        zP_half A B c s ⟨r.val + 1, by omega⟩ (r.val + 1)
      rw [hh_succ (rail s) r]
      exact e.trans (sep_swap _ _)
    match j, hj with
    | 0, _ => exact acc_eq acc_left rfl (congrArg (fun X => iprop(X ∗ oU O0 c s (cur c (rail s) 4) (hh (rail s) 3))) (h 0).symm)
    | 1, _ => exact acc_eq acc_left rfl (congrArg (fun X => iprop(X ∗ oU O0 c s (cur c (rail s) 4) (hh (rail s) 3))) (h 1).symm)
    | 2, _ => exact acc_eq acc_left rfl (congrArg (fun X => iprop(X ∗ oU O0 c s (cur c (rail s) 4) (hh (rail s) 3))) (h 2).symm)
    | 3, _ => exact acc_left

theorem acc_gelu : Acc (Data A B Z0 O0 c s 14) (oU O0 c s (cur c (rail s) 4) (hh (rail s) 3)) (oP A B c s (cur c (rail s) 4) (hh (rail s) 3) fullShare)
    (Data A B Z0 O0 c s 15) := acc_right
theorem acc_gelu_out : Acc (Data A B Z0 O0 c s 14) (oU O0 c s (cur c (rail s) 4) (hh (rail s) 3)) (oU O0 c s (cur c (rail s) 4) (hh (rail s) 3))
    (Data A B Z0 O0 c s 14) := acc_right
theorem acc_gelu_in : Acc (Data A B Z0 O0 c s 14) (zP A B c s (cur c (rail s) 4) (hh (rail s) 3) 4) (zP A B c s (cur c (rail s) 4) (hh (rail s) 3) 4)
    (Data A B Z0 O0 c s 14) := acc_left

/-! ## The whole state -/

variable {A B Z0 O0 c} {K : Dev nD × Cel → ℕ} {n : ℕ}

theorem acc_strs_read {X Y : sProp 𝕄} (h : Acc (Str A B Z0 O0 c (who n) (kAt n)) X Y (Str A B Z0 O0 c (who n) (kAt n))) :
    Acc (Inv A B K Z0 O0 c n) X Y (Inv A B K Z0 O0 c n) := by
  refine Acc.trans (X := Strs A B Z0 O0 c n) (Y := Strs A B Z0 O0 c n) ?_ (Acc.trans (strs_read (who n)) h)
  exact Acc.trans acc_right acc_left

theorem acc_strs_step (hn : n < total) (hw : what n ≠ .keep) (hs : ∀ j : Slot, kAt n ≠ sendAt j) {X Y : sProp 𝕄}
    (h : Acc (Str A B Z0 O0 c (who n) (kAt n)) X Y (Str A B Z0 O0 c (who n) (kAt n + 1))) :
    Acc (Inv A B K Z0 O0 c n) X Y (Inv A B K Z0 O0 c (n + 1)) := by
  refine Acc.trans (X := Strs A B Z0 O0 c n) (Y := Strs A B Z0 O0 c (n + 1)) ?_ (Acc.trans (strs_upd hn hw) h)
  unfold Inv Tok
  rw [Ow_same hn hs fun h => absurd h hw]
  exact Acc.trans acc_right acc_left

theorem acc_a : Acc (Inv A B K Z0 O0 c n) (aPts A c) (aPts A c) (Inv A B K Z0 O0 c n) := Acc.trans acc_right (Acc.trans acc_right acc_left)
theorem acc_b : Acc (Inv A B K Z0 O0 c n) (bPts B c) (bPts B c) (Inv A B K Z0 O0 c n) := Acc.trans acc_right (Acc.trans acc_right (Acc.trans acc_right acc_left))

/-! ## The wide products -/

/-- The four streams of a rail. -/
def strm : Fin 3 × Fin 4 ≃ Stream where
  toFun p := ⟨3 * p.2.val + p.1.val, by omega⟩
  invFun s := (⟨s.val % 3, by omega⟩, ⟨s.val / 3, by omega⟩)
  left_inv p := by ext <;> simp <;> omega
  right_inv s := by ext; simp; omega

theorem rail_strm (g : Fin 3) (ch : Fin 4) : rail (strm (g, ch)) = g := by ext; show (3 * ch.val + g.val) % 3 = g.val; omega
theorem col_strm (g : Fin 3) (ch : Fin 4) : col (strm (g, ch)) = 256 * ch.val := by show 256 * ((3 * ch.val + g.val) / 3) = 256 * ch.val; omega

/-- Four blocks of columns make up the rows. -/
theorem wide (f : S1024x1024.Idx → F .f32) (g : Fin 3) (row n : ℕ) :
    (pts c zR ![row, 0] ![n, 1024] fullShare f : sProp 𝕄) = bigSep Finset.univ fun ch : Fin 4 => pts c zR ![row, col (strm (g, ch))] ![n, 256] fullShare f := by
  refine pts_biUnion (b := zR) (fun ch : Fin 4 => ![row, col (strm (g, ch))]) (fun _ => ![n, 256]) ?_ ?_ fullShare f
  · ext i
    have h1 : ((i 1 : Fin _) : ℕ) < 1024 := (i 1).isLt
    rw [Finset.mem_biUnion]
    constructor
    · intro h
      have h := mem_box₂.1 h
      refine ⟨⟨(i 1 : ℕ) / 256, by omega⟩, Finset.mem_univ _, ?_⟩
      refine mem_box₂.2 ?_
      rw [col_strm]
      exact ⟨h.1, by show 256 * ((i 1 : ℕ) / 256) ≤ _; omega, by show _ < 256 * ((i 1 : ℕ) / 256) + 256; omega⟩
    · rintro ⟨ch, -, h⟩
      have h := mem_box₂.1 h
      exact mem_box₂.2 ⟨h.1, Nat.zero_le _, by omega⟩
  · intro ch ch' h
    refine box_cols_disj _ _ _ _ _ _ _ _ ?_
    rw [col_strm, col_strm]
    have : ch.val ≠ ch'.val := fun h' => h (Fin.ext h')
    omega

theorem kv_keep (hn : n < total) (hw : what n = .keep) (s : Stream) : kv (n + 1) s = kv n s + if rail s = rail (who n) then 1 else 0 := by
  have := kv_succ ⟨n, hn⟩ s
  simp only [if_pos hw] at this
  exact this

/-- The rows a wide product rewrites, of all four streams. -/
theorem acc_strs_wide (m t : ℕ) (f g : S1024x1024.Idx → F .f32) (hr : ∀ s, rail s ≠ rail (who n) → kv m s = kv n s)
    (hs : ∀ s, rail s = rail (who n) → Acc (Str A B Z0 O0 c s (kv n s)) (pts c zR ![cur c (rail s) 1, col s] ![hh (rail s) 0, 256] fullShare f)
      (pts c zR ![cur c (rail s) 1, col s] ![hh (rail s) 0, 256] fullShare g) (Str A B Z0 O0 c s (kv m s))) :
    Acc (Strs A B Z0 O0 c n) (pts c zR ![cur c (rail (who n)) 1, 0] ![hh (rail (who n)) 0, 1024] fullShare f)
      (pts c zR ![cur c (rail (who n)) 1, 0] ![hh (rail (who n)) 0, 1024] fullShare g) (Strs A B Z0 O0 c m) := by
  have e (k : ℕ) : Strs A B Z0 O0 c k = bigSep Finset.univ fun g : Fin 3 => bigSep Finset.univ fun ch : Fin 4 => Str A B Z0 O0 c (strm (g, ch)) (kv k (strm (g, ch))) := by
    unfold Strs
    rw [bigSep_univ_equiv strm, bigSep_univ_prod]
  rw [e n, e m, wide f (rail (who n)), wide g (rail (who n))]
  refine Acc.trans (bigSep_upd (rail (who n)) fun g' hg => bigSep_congr fun ch _ => by rw [hr _ (by rw [rail_strm]; exact hg)]) ?_
  unfold Acc
  have h1 : (bigSep Finset.univ fun ch : Fin 4 => Str A B Z0 O0 c (strm (rail (who n), ch)) (kv n (strm (rail (who n), ch))))
      ⊢ bigSep Finset.univ fun ch : Fin 4 => iprop(pts c zR ![cur c (rail (who n)) 1, col (strm (rail (who n), ch))] ![hh (rail (who n)) 0, 256] fullShare f
        ∗ (pts c zR ![cur c (rail (who n)) 1, col (strm (rail (who n), ch))] ![hh (rail (who n)) 0, 256] fullShare g -∗ Str A B Z0 O0 c (strm (rail (who n), ch)) (kv m (strm (rail (who n), ch))))) :=
    bigSep_mono fun ch _ => by
      have h := hs (strm (rail (who n), ch)) (rail_strm _ _)
      rw [rail_strm] at h
      exact h
  have h2 : iprop((bigSep Finset.univ fun ch : Fin 4 => (pts c zR ![cur c (rail (who n)) 1, col (strm (rail (who n), ch))] ![hh (rail (who n)) 0, 256] fullShare g : sProp 𝕄))
        ∗ bigSep Finset.univ fun ch : Fin 4 => iprop(pts c zR ![cur c (rail (who n)) 1, col (strm (rail (who n), ch))] ![hh (rail (who n)) 0, 256] fullShare g -∗ Str A B Z0 O0 c (strm (rail (who n), ch)) (kv m (strm (rail (who n), ch)))))
      ⊢ bigSep Finset.univ fun ch : Fin 4 => Str A B Z0 O0 c (strm (rail (who n), ch)) (kv m (strm (rail (who n), ch))) := by
    refine (Entails.of_eq (bigSep_sep' _ _ _).symm).trans (bigSep_mono fun ch _ => wand_use _ _)
  iintro H
  ihave H := h1 $$ H
  ihave H := (Entails.of_eq (bigSep_sep' _ _ _)) $$ H
  icases H with ⟨H, HW⟩
  isplitl [H]
  · iexact H
  iintro H
  iapply h2
  isplitl [H]
  · iexact H
  · iexact HW

theorem keep_slots : ∀ j : Slot, 2 ≠ sendAt j ∧ 2 ≠ swaitAt j ∧ 2 ≠ rwaitAt j := by decide
theorem what_of {k : Step} (h : stepAt (kAt n) = k) : what n = k := h

theorem acc_keep_read (hn : n < total) (hw : what n = .keep) :
    Acc (Inv A B K Z0 O0 c n) (pts c zR ![cur c (rail (who n)) 1, 0] ![hh (rail (who n)) 0, 1024] fullShare Z0)
      (pts c zR ![cur c (rail (who n)) 1, 0] ![hh (rail (who n)) 0, 1024] fullShare Z0) (Inv A B K Z0 O0 c n) := by
  refine Acc.trans (X := Strs A B Z0 O0 c n) (Y := Strs A B Z0 O0 c n) (Acc.trans acc_right acc_left) ?_
  refine acc_strs_wide n 0 Z0 Z0 (fun _ _ => rfl) fun s hs => ?_
  rw [keep_due ⟨n, hn⟩ hw s hs]
  exact Acc.trans (str_read A B Z0 O0 c s 2) acc_left

theorem acc_keep (hn : n < total) (hw : what n = .keep) :
    Acc (Inv A B K Z0 O0 c n) (pts c zR ![cur c (rail (who n)) 1, 0] ![hh (rail (who n)) 0, 1024] fullShare Z0)
      (pts c zR ![cur c (rail (who n)) 1, 0] ![hh (rail (who n)) 0, 1024] fullShare (zf A B 0 c)) (Inv A B K Z0 O0 c (n + 1)) := by
  refine Acc.trans (X := Strs A B Z0 O0 c n) (Y := Strs A B Z0 O0 c (n + 1)) ?_ ?_
  · have hk : kAt n = 2 := keep_due ⟨n, hn⟩ hw (who n) rfl
    unfold Inv Tok
    rw [Ow_same hn (fun j => by rw [hk]; exact (keep_slots j).1) fun h s hs => keep_due ⟨n, hn⟩ h s hs]
    exact Acc.trans acc_right acc_left
  · refine acc_strs_wide (n + 1) 0 Z0 (zf A B 0 c) (fun s hs => by rw [kv_keep hn hw, if_neg hs, Nat.add_zero]) fun s hs => ?_
    rw [kv_keep hn hw, if_pos hs, keep_due ⟨n, hn⟩ hw s hs]
    exact Acc.trans (str_data A B Z0 O0 c s keep_slots) acc_left

end

end Cert.Exchange

end
-- ==== Proof.Rules.lean ====
/-
  One rule for each operation of the program: which step it makes, and under what layout of its rectangles and semaphores.
-/
module

public import proofs.«01_k».proof.Proof.Access
public import Idealize.ShloMosaic.Lib.Pipeline.ValueKit.Geometry

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev aM : Memref sig .tc .vmem S1024x512 .f32 := Memref.whole cc0_stg0_0
abbrev bM : Memref sig .tc .vmem S512x1024 .f32 := Memref.whole cc0_stg1_0
abbrev oM : Memref sig .tc .vmem S1024x1024 .f32 := Memref.whole cc0_stg2_0
abbrev zM : Memref sig .tc .vmem S1024x1024 .f32 := Memref.whole cc0_scratch0
abbrev rM : Memref sig .tc .vmem S960x1024 .f32 := Memref.whole cc0_scratch1

section
variable {A : Dev nD → S1024x512.Idx → F .f32} {B : Dev nD → S512x1024.Idx → F .f32} {K : Dev nD × Cel → ℕ}
variable {Z0 O0 : S1024x1024.Idx → F .f32} {c : Dev nD} {α : Type} {n m : ℕ} {u : α}

/-! ## Loads -/

theorem run_load {x : Fin (sig.nNear .tc .vmem)} {hx : sig.names .tc .vmem x = true} {off size : Fin (vm x hx).ty.shape.rank → ℕ}
    {inb : ∀ a, off a + size a ≤ (vm x hx).ty.shape.size a} {hl : (Memref.whole (vm x hx)).view.LoadsAt (Rect.unit off size inb).toLoadRect}
    {k : ((Rect.unit off size inb).shape.Idx → Elt F (vm x hx).ty.elt) → Prog (TpuEff nD τ sig (Elt F) Λ₀ .tc) α}
    {off' size' : Fin (vm x hx).ty.shape.rank → ℕ} {q : PosShare TreeShare} {f : (vm x hx).ty.Contents (Elt F)}
    (hacc : Acc (Inv A B K Z0 O0 c n) (pts c (vm x hx) off' size' q f) (pts c (vm x hx) off' size' q f) (Inv A B K Z0 O0 c n))
    (hS : box off size ⊆ box off' size') {v : (Rect.unit off size inb).shape.Idx → Elt F (vm x hx).ty.elt}
    (hv : ∀ i, f ((Rect.unit off size inb).emb i) = v i) (h : Run A B K Z0 O0 c n (k v) m u) :
    Run A B K Z0 O0 c n (.op (.load (Memref.whole (vm x hx)) (Rect.unit off size inb).toLoadRect hl) k) m u := by
  intro Q
  have e : (fun i => f ((Rect.unit off size inb).emb i)) = v := funext hv
  have hl' := wp_load_box (F := F) c (Q := Q) (inb := inb) (hl := hl) (k := k) (q := q) (f := f) hS
  rw [e] at hl'
  iintro H HQ
  ihave H := hacc.out $$ H
  icases H with ⟨Hp, HI⟩
  iapply hl' $$ Hp
  iintro Hp
  ihave HI := HI $$ Hp
  iapply (h Q) $$ HI
  iexact HQ

theorem run_load_data {x : Fin (sig.nNear .tc .vmem)} {hx : sig.names .tc .vmem x = true} {off size : Fin (vm x hx).ty.shape.rank → ℕ}
    {inb : ∀ a, off a + size a ≤ (vm x hx).ty.shape.size a} {hl : (Memref.whole (vm x hx)).view.LoadsAt (Rect.unit off size inb).toLoadRect}
    {k : ((Rect.unit off size inb).shape.Idx → Elt F (vm x hx).ty.elt) → Prog (TpuEff nD τ sig (Elt F) Λ₀ .tc) α}
    {off' size' : Fin (vm x hx).ty.shape.rank → ℕ} {f : (vm x hx).ty.Contents (Elt F)} (ho : off = off') (hz : size = size')
    (hacc : Acc (Data A B Z0 O0 c (who n) (kAt n)) (pts c (vm x hx) off' size' fullShare f) (pts c (vm x hx) off' size' fullShare f) (Data A B Z0 O0 c (who n) (kAt n)))
    {v : (Rect.unit off size inb).shape.Idx → Elt F (vm x hx).ty.elt}
    (hv : ∀ i, f ((Rect.unit off size inb).emb i) = v i) (h : Run A B K Z0 O0 c n (k v) m u) :
    Run A B K Z0 O0 c n (.op (.load (Memref.whole (vm x hx)) (Rect.unit off size inb).toLoadRect hl) k) m u :=
  run_load (acc_strs_read (Acc.trans (str_read A B Z0 O0 c _ _) hacc)) (by rw [ho, hz]) hv h

/-- A rectangle's index, placed. -/
theorem emb_ix {a b : ℕ} [NeZero a] [NeZero b] {off size : Fin 2 → ℕ} {inb : ∀ k, off k + size k ≤ (⟨2, ![a, b]⟩ : Shape).size k} {r c : ℕ} (ho : off = ![r, c])
    (i : (Rect.unit (s := ⟨2, ![a, b]⟩) off size inb).shape.Idx) :
    (Rect.unit (s := ⟨2, ![a, b]⟩) off size inb).emb i = ix a b (r + (i (0 : Fin 2) : ℕ)) (c + (i (1 : Fin 2) : ℕ)) := by
  refine (ix_eq ?_ ?_).symm
  · rw [ValueKit.rect_emb_unit_val]; subst ho; rfl
  · rw [ValueKit.rect_emb_unit_val]; subst ho; rfl

theorem emb_val0 {a b : ℕ} {off size : Fin 2 → ℕ} {inb : ∀ k, off k + size k ≤ (⟨2, ![a, b]⟩ : Shape).size k} {r c : ℕ} (ho : off = ![r, c])
    (i : (Rect.unit (s := ⟨2, ![a, b]⟩) off size inb).shape.Idx) :
    ((Rect.unit (s := ⟨2, ![a, b]⟩) off size inb).emb i (0 : Fin 2) : ℕ) = r + (i (0 : Fin 2) : ℕ) := by
  rw [ValueKit.rect_emb_unit_val]; subst ho; rfl
theorem emb_val1 {a b : ℕ} {off size : Fin 2 → ℕ} {inb : ∀ k, off k + size k ≤ (⟨2, ![a, b]⟩ : Shape).size k} {r c : ℕ} (ho : off = ![r, c])
    (i : (Rect.unit (s := ⟨2, ![a, b]⟩) off size inb).shape.Idx) :
    ((Rect.unit (s := ⟨2, ![a, b]⟩) off size inb).emb i (1 : Fin 2) : ℕ) = c + (i (1 : Fin 2) : ℕ) := by
  rw [ValueKit.rect_emb_unit_val]; subst ho; rfl

/-- Every rectangle lies in the whole buffer. -/
theorem box_all {a b : ℕ} (off size : Fin 2 → ℕ) : box (s := ⟨2, ![a, b]⟩) off size ⊆ box ![0, 0] ![a, b] := fun i _ => by
  have h0 : ((i 0 : Fin _) : ℕ) < a := (i 0).isLt
  have h1 : ((i 1 : Fin _) : ℕ) < b := (i 1).isLt
  exact mem_box₂.2 ⟨⟨Nat.zero_le _, by omega⟩, Nat.zero_le _, by omega⟩

section
variable {off size : Fin 2 → ℕ}

/-- The first argument's rows for the products that are sent, and for the products that are kept. -/
theorem run_load_a_dot {inb : ∀ a, off a + size a ≤ S1024x512.size a} {hl : (aM).view.LoadsAt (Rect.unit (s := S1024x512) off size inb).toLoadRect}
    {k : ((Rect.unit (s := S1024x512) off size inb).shape.Idx → Elt F .f32) → Prog (TpuEff nD τ sig (Elt F) Λ₀ .tc) α}
    (hw : what n = .dot) (ho : off = ![oth c (rail (who n)) 0, 0])
    (h : Run A B K Z0 O0 c n (k fun i => A c (ix 1024 512 (oth c (rail (who n)) 0 + (i (0 : Fin 2) : ℕ)) (i (1 : Fin 2) : ℕ))) m u) :
    Run A B K Z0 O0 c n (.op (.load aM (Rect.unit (s := S1024x512) off size inb).toLoadRect hl) k) m u :=
  run_load (n := n) (f := A c) acc_a (box_all _ _) (fun i => congrArg (A c) ((emb_ix (a := 1024) (b := 512) ho i).trans (by rw [Nat.zero_add]))) h

theorem run_load_a_keep {inb : ∀ a, off a + size a ≤ S1024x512.size a} {hl : (aM).view.LoadsAt (Rect.unit (s := S1024x512) off size inb).toLoadRect}
    {k : ((Rect.unit (s := S1024x512) off size inb).shape.Idx → Elt F .f32) → Prog (TpuEff nD τ sig (Elt F) Λ₀ .tc) α}
    (hw : what n = .keep) (ho : off = ![cur c (rail (who n)) 1, 0])
    (h : Run A B K Z0 O0 c n (k fun i => A c (ix 1024 512 (cur c (rail (who n)) 1 + (i (0 : Fin 2) : ℕ)) (i (1 : Fin 2) : ℕ))) m u) :
    Run A B K Z0 O0 c n (.op (.load aM (Rect.unit (s := S1024x512) off size inb).toLoadRect hl) k) m u :=
  run_load (n := n) (f := A c) acc_a (box_all _ _) (fun i => congrArg (A c) ((emb_ix (a := 1024) (b := 512) ho i).trans (by rw [Nat.zero_add]))) h

/-- The second argument's columns likewise. -/
theorem run_load_b_dot {inb : ∀ a, off a + size a ≤ S512x1024.size a} {hl : (bM).view.LoadsAt (Rect.unit (s := S512x1024) off size inb).toLoadRect}
    {k : ((Rect.unit (s := S512x1024) off size inb).shape.Idx → Elt F .f32) → Prog (TpuEff nD τ sig (Elt F) Λ₀ .tc) α}
    (hw : what n = .dot) (ho : off = ![0, col (who n)])
    (h : Run A B K Z0 O0 c n (k fun i => B c (ix 512 1024 (i (0 : Fin 2) : ℕ) (col (who n) + (i (1 : Fin 2) : ℕ)))) m u) :
    Run A B K Z0 O0 c n (.op (.load bM (Rect.unit (s := S512x1024) off size inb).toLoadRect hl) k) m u :=
  run_load (n := n) (f := B c) acc_b (box_all _ _) (fun i => congrArg (B c) ((emb_ix (a := 512) (b := 1024) ho i).trans (by rw [Nat.zero_add]))) h

theorem run_load_b_keep {inb : ∀ a, off a + size a ≤ S512x1024.size a} {hl : (bM).view.LoadsAt (Rect.unit (s := S512x1024) off size inb).toLoadRect}
    {k : ((Rect.unit (s := S512x1024) off size inb).shape.Idx → Elt F .f32) → Prog (TpuEff nD τ sig (Elt F) Λ₀ .tc) α}
    (hw : what n = .keep) (ho : off = ![0, 0])
    (h : Run A B K Z0 O0 c n (k fun i => B c (ix 512 1024 (i (0 : Fin 2) : ℕ) (i (1 : Fin 2) : ℕ))) m u) :
    Run A B K Z0 O0 c n (.op (.load bM (Rect.unit (s := S512x1024) off size inb).toLoadRect hl) k) m u :=
  run_load (n := n) (f := B c) acc_b (box_all _ _) (fun i => congrArg (B c) ((emb_ix (a := 512) (b := 1024) ho i).trans (by rw [Nat.zero_add, Nat.zero_add]))) h

/-- The partial sums where products are about to go: as the launch left them. -/
theorem run_load_z_dot {inb : ∀ a, off a + size a ≤ S1024x1024.size a} {hl : (zM).view.LoadsAt (Rect.unit (s := S1024x1024) off size inb).toLoadRect}
    {k : ((Rect.unit (s := S1024x1024) off size inb).shape.Idx → Elt F .f32) → Prog (TpuEff nD τ sig (Elt F) Λ₀ .tc) α}
    (hw : kAt n = 0) (ho : off = ![oth c (rail (who n)) 0, col (who n)]) (hz : size = ![hh (rail (who n)) 0, 256])
    (h : Run A B K Z0 O0 c n (k fun i => Z0 ((Rect.unit (s := S1024x1024) off size inb).emb i)) m u) :
    Run A B K Z0 O0 c n (.op (.load zM (Rect.unit (s := S1024x1024) off size inb).toLoadRect hl) k) m u := by
  refine run_load_data (n := n) (f := Z0) ho hz ?_ (fun i => rfl) h
  rw [hw]
  exact acc_dot A B Z0 O0 c (who n) _

theorem run_load_z_keep {inb : ∀ a, off a + size a ≤ S1024x1024.size a} {hl : (zM).view.LoadsAt (Rect.unit (s := S1024x1024) off size inb).toLoadRect}
    {k : ((Rect.unit (s := S1024x1024) off size inb).shape.Idx → Elt F .f32) → Prog (TpuEff nD τ sig (Elt F) Λ₀ .tc) α}
    (hw : n < total ∧ what n = .keep) (ho : off = ![cur c (rail (who n)) 1, 0]) (hz : size = ![hh (rail (who n)) 0, 1024])
    (h : Run A B K Z0 O0 c n (k fun i => Z0 ((Rect.unit (s := S1024x1024) off size inb).emb i)) m u) :
    Run A B K Z0 O0 c n (.op (.load zM (Rect.unit (s := S1024x1024) off size inb).toLoadRect hl) k) m u :=
  run_load (n := n) (f := Z0) (acc_keep_read hw.1 hw.2) (by rw [ho, hz]) (fun i => rfl) h

/-- The partial sums about to be added to. -/
theorem run_load_z_add {inb : ∀ a, off a + size a ≤ S1024x1024.size a} {hl : (zM).view.LoadsAt (Rect.unit (s := S1024x1024) off size inb).toLoadRect}
    {k : ((Rect.unit (s := S1024x1024) off size inb).shape.Idx → Elt F .f32) → Prog (TpuEff nD τ sig (Elt F) Λ₀ .tc) α}
    (hw : kAt n = rwaitAt (jAt n) + 1 ∧ (jAt n).val < 4) (ho : off = ![cur c (rail (who n)) ((jAt n).val + 1), col (who n)]) (hz : size = ![hh (rail (who n)) (jAt n).val, 256])
    (h : Run A B K Z0 O0 c n (k fun i => W A B (jAt n).val c (cur c (rail (who n)) ((jAt n).val + 1) + (i (0 : Fin 2) : ℕ)) (col (who n) + (i (1 : Fin 2) : ℕ))) m u) :
    Run A B K Z0 O0 c n (.op (.load zM (Rect.unit (s := S1024x1024) off size inb).toLoadRect hl) k) m u := by
  refine run_load_data (n := n) (f := zf A B (jAt n).val c) ho hz ?_
    (fun i => congrArg₂ (W A B (jAt n).val c) (emb_val0 ho i) (emb_val1 ho i)) h
  rw [hw.1]
  have h := acc_add A B Z0 O0 c (who n) (jAt n) hw.2 _ (.inl rfl)
  rw [Nat.sub_self, Nat.add_zero] at h
  exact h

/-- What the round brought. -/
theorem run_load_r {inb : ∀ a, off a + size a ≤ S960x1024.size a} {hl : (rM).view.LoadsAt (Rect.unit (s := S960x1024) off size inb).toLoadRect}
    {k : ((Rect.unit (s := S960x1024) off size inb).shape.Idx → Elt F .f32) → Prog (TpuEff nD τ sig (Elt F) Λ₀ .tc) α}
    (hw : kAt n = rwaitAt (jAt n) + 1 ∧ (jAt n).val < 4) (ho : off = ![rrow (rail (who n)) (jAt n).val, col (who n)]) (hz : size = ![hh (rail (who n)) (jAt n).val, 256])
    (h : Run A B K Z0 O0 c n (k fun i => W A B (jAt n).val (par c (rail (who n)) (jAt n).val) (cur c (rail (who n)) ((jAt n).val + 1) + (i (0 : Fin 2) : ℕ)) (col (who n) + (i (1 : Fin 2) : ℕ))) m u) :
    Run A B K Z0 O0 c n (.op (.load rM (Rect.unit (s := S960x1024) off size inb).toLoadRect hl) k) m u := by
  refine run_load (n := n) (f := rf A B (jAt n).val c (rail (who n))) (off' := ![rrow (rail (who n)) (jAt n).val, col (who n)]) (size' := ![hh (rail (who n)) (jAt n).val, 256]) (q := fullShare) (acc_strs_read (str_recv A B Z0 O0 c (who n) (jAt n) hw.2 (by rw [hw.1]; omega)))
    (by rw [ho, hz]) (fun i => ?_) h
  have e0 := emb_val0 (a := 960) (b := 1024) ho i
  have e1 := emb_val1 (a := 960) (b := 1024) ho i
  refine congrArg₂ (W A B (jAt n).val (par c (rail (who n)) (jAt n).val)) (Eq.trans (congrArg (fun t => t - rrow (rail (who n)) (jAt n).val + cur c (rail (who n)) ((jAt n).val + 1)) e0) ?_) e1
  simp only; omega

/-- The whole sums about to be finished. -/
theorem run_load_z_gelu {inb : ∀ a, off a + size a ≤ S1024x1024.size a} {hl : (zM).view.LoadsAt (Rect.unit (s := S1024x1024) off size inb).toLoadRect}
    {k : ((Rect.unit (s := S1024x1024) off size inb).shape.Idx → Elt F .f32) → Prog (TpuEff nD τ sig (Elt F) Λ₀ .tc) α}
    (hw : kAt n = 14) (ho : off = ![cur c (rail (who n)) 4, col (who n)]) (hz : size = ![hh (rail (who n)) 3, 256])
    (h : Run A B K Z0 O0 c n (k fun i => W A B 4 c (cur c (rail (who n)) 4 + (i (0 : Fin 2) : ℕ)) (col (who n) + (i (1 : Fin 2) : ℕ))) m u) :
    Run A B K Z0 O0 c n (.op (.load zM (Rect.unit (s := S1024x1024) off size inb).toLoadRect hl) k) m u := by
  refine run_load_data (n := n) (f := zf A B 4 c) ho hz ?_
    (fun i => congrArg₂ (W A B 4 c) (emb_val0 ho i) (emb_val1 ho i)) h
  rw [hw]
  exact acc_gelu_in A B Z0 O0 c (who n)

theorem run_load_o {inb : ∀ a, off a + size a ≤ S1024x1024.size a} {hl : (oM).view.LoadsAt (Rect.unit (s := S1024x1024) off size inb).toLoadRect}
    {k : ((Rect.unit (s := S1024x1024) off size inb).shape.Idx → Elt F .f32) → Prog (TpuEff nD τ sig (Elt F) Λ₀ .tc) α}
    (hw : kAt n = 14) (ho : off = ![cur c (rail (who n)) 4, col (who n)]) (hz : size = ![hh (rail (who n)) 3, 256])
    (h : Run A B K Z0 O0 c n (k fun i => O0 ((Rect.unit (s := S1024x1024) off size inb).emb i)) m u) :
    Run A B K Z0 O0 c n (.op (.load oM (Rect.unit (s := S1024x1024) off size inb).toLoadRect hl) k) m u := by
  refine run_load_data (n := n) (f := O0) ho hz ?_
    (fun i => rfl) h
  rw [hw]
  exact acc_gelu_out A B Z0 O0 c (who n)

end

end

end Cert.Exchange

end
-- ==== Proof.Stores.lean ====
/-
  The rules for the stores.
-/
module

public import proofs.«01_k».proof.Proof.Rules

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → S1024x512.Idx → F .f32} {B : Dev nD → S512x1024.Idx → F .f32} {K : Dev nD × Cel → ℕ}
variable {Z0 O0 : S1024x1024.Idx → F .f32} {c : Dev nD} {α : Type} {n m : ℕ} {u : α}

/-! ## Stores -/

theorem run_store {x : Fin (sig.nNear .tc .vmem)} {hx : sig.names .tc .vmem x = true} {off size : Fin (vm x hx).ty.shape.rank → ℕ}
    {inb : ∀ a, off a + size a ≤ (vm x hx).ty.shape.size a} {w : (Rect.unit off size inb).shape.Idx → Elt F (vm x hx).ty.elt}
    {hst : ((Memref.whole (vm x hx)).access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) Λ₀ .tc) α} {f g : (vm x hx).ty.Contents (Elt F)}
    (hacc : Acc (Inv A B K Z0 O0 c n) (pts c (vm x hx) off size fullShare f) (pts c (vm x hx) off size fullShare g) (Inv A B K Z0 O0 c (n + 1)))
    (hg : ∀ i, g ((Rect.unit off size inb).emb i) = w i) (h : Run A B K Z0 O0 c (n + 1) (k ⟨⟩) m u) :
    Run A B K Z0 O0 c n (.op (.store (Memref.whole (vm x hx)) (Rect.unit off size inb) w Finset.univ hst hm) k) m u := by
  intro Q
  have hs := wp_store_box (F := F) c (Q := Q) (inb := inb) (hst := hst) (hm := hm) (k := k) (f := f) hg
  iintro H HQ
  ihave H := hacc.out $$ H
  icases H with ⟨Hp, HI⟩
  iapply hs $$ Hp
  iintro Hp
  ihave HI := HI $$ Hp
  iapply (h Q) $$ HI
  iexact HQ

theorem dot_slots : ∀ j : Slot, 0 ≠ sendAt j ∧ 0 ≠ swaitAt j ∧ 0 ≠ rwaitAt j := by decide
theorem add_slots : ∀ i : Fin 4, ∀ j : Slot, rwaitAt ⟨i.val, by omega⟩ + 1 ≠ sendAt j ∧ rwaitAt ⟨i.val, by omega⟩ + 1 ≠ swaitAt j ∧ rwaitAt ⟨i.val, by omega⟩ + 1 ≠ rwaitAt j := by decide
theorem gelu_slots : ∀ j : Slot, 14 ≠ sendAt j ∧ 14 ≠ swaitAt j ∧ 14 ≠ rwaitAt j := by decide

section
variable {off size : Fin 2 → ℕ} {inb : ∀ a, off a + size a ≤ S1024x1024.size a} {w : (Rect.unit (s := S1024x1024) off size inb).shape.Idx → Elt F .f32}
  {k : PUnit → Prog (TpuEff nD τ sig (Elt F) Λ₀ .tc) α} {hm : (Finset.univ : Finset (Rect.unit (s := S1024x1024) off size inb).shape.Idx) = Finset.univ ∨ ∀ a, (Rect.unit (s := S1024x1024) off size inb).stride a = 1}

/-- The products that are sent. -/
theorem run_store_dot {hst : (zM.access (Rect.unit (s := S1024x1024) off size inb)).Stores Finset.univ}
    (hw : n < total ∧ kAt n = 0) (ho : off = ![oth c (rail (who n)) 0, col (who n)]) (hz : size = ![hh (rail (who n)) 0, 256])
    (hv : ∀ i, w i = W A B 0 c (oth c (rail (who n)) 0 + (i (0 : Fin 2) : ℕ)) (col (who n) + (i (1 : Fin 2) : ℕ)))
    (h : Run A B K Z0 O0 c (n + 1) (k ⟨⟩) m u) :
    Run A B K Z0 O0 c n (.op (.store zM (Rect.unit (s := S1024x1024) off size inb) w Finset.univ hst hm) k) m u := by
  have hw' : what n = .dot := by unfold what; rw [show kv n (who n) = 0 from hw.2]; rfl
  refine run_store (n := n) (f := Z0) (g := zf A B 0 c) (acc_strs_step hw.1 (by rw [hw']; decide) (fun j => by rw [hw.2]; exact (dot_slots j).1) ?_)
    (fun i => (congrArg₂ (W A B 0 c) (emb_val0 ho i) (emb_val1 ho i)).trans (hv i).symm) h
  rw [hw.2, ho, hz]
  exact Acc.trans (str_data A B Z0 O0 c (who n) dot_slots) (acc_dot A B Z0 O0 c (who n) _)

/-- The products that are kept. -/
theorem run_store_keep {hst : (zM.access (Rect.unit (s := S1024x1024) off size inb)).Stores Finset.univ}
    (hw : n < total ∧ what n = .keep) (ho : off = ![cur c (rail (who n)) 1, 0]) (hz : size = ![hh (rail (who n)) 0, 1024])
    (hv : ∀ i, w i = W A B 0 c (cur c (rail (who n)) 1 + (i (0 : Fin 2) : ℕ)) (i (1 : Fin 2) : ℕ))
    (h : Run A B K Z0 O0 c (n + 1) (k ⟨⟩) m u) :
    Run A B K Z0 O0 c n (.op (.store zM (Rect.unit (s := S1024x1024) off size inb) w Finset.univ hst hm) k) m u := by
  refine run_store (n := n) (f := Z0) (g := zf A B 0 c) ?_
    (fun i => (congrArg₂ (W A B 0 c) (emb_val0 ho i) ((emb_val1 ho i).trans (Nat.zero_add _))).trans (hv i).symm) h
  rw [ho, hz]
  exact acc_keep hw.1 hw.2

/-- The sums of a round. -/
theorem run_store_add {hst : (zM.access (Rect.unit (s := S1024x1024) off size inb)).Stores Finset.univ}
    (hw : n < total ∧ kAt n = rwaitAt (jAt n) + 1 ∧ (jAt n).val < 4) (ho : off = ![cur c (rail (who n)) ((jAt n).val + 1), col (who n)]) (hz : size = ![hh (rail (who n)) (jAt n).val, 256])
    (hv : ∀ i, w i = FloatOps.addf (W A B (jAt n).val c (cur c (rail (who n)) ((jAt n).val + 1) + (i (0 : Fin 2) : ℕ)) (col (who n) + (i (1 : Fin 2) : ℕ)))
      (W A B (jAt n).val (par c (rail (who n)) (jAt n).val) (cur c (rail (who n)) ((jAt n).val + 1) + (i (0 : Fin 2) : ℕ)) (col (who n) + (i (1 : Fin 2) : ℕ))))
    (h : Run A B K Z0 O0 c (n + 1) (k ⟨⟩) m u) :
    Run A B K Z0 O0 c n (.op (.store zM (Rect.unit (s := S1024x1024) off size inb) w Finset.univ hst hm) k) m u := by
  have hs := add_slots ⟨(jAt n).val, hw.2.2⟩
  have hw' : what n ≠ .keep := by
    have h4 : ∀ j : Slot, j.val < 4 → stepAt (rwaitAt j + 1) ≠ .keep := by decide
    unfold what; rw [show kv n (who n) = rwaitAt (jAt n) + 1 from hw.2.1]; exact h4 _ hw.2.2
  refine run_store (n := n) (f := zf A B (jAt n).val c) (g := zf A B ((jAt n).val + 1) c) (acc_strs_step hw.1 hw' (fun j => by rw [hw.2.1]; exact (hs j).1) ?_)
    (fun i => (congrArg₂ (W A B ((jAt n).val + 1) c) (emb_val0 ho i) (emb_val1 ho i)).trans (Eq.trans ?_ (hv i).symm)) h
  · rw [hw.2.1, ho, hz]
    have h := acc_add A B Z0 O0 c (who n) (jAt n) hw.2.2 _ (.inr rfl)
    rw [Nat.add_sub_cancel_left] at h
    exact Acc.trans (str_data A B Z0 O0 c (who n) hs) h
  · refine W_add A B c (rail (who n)) ⟨(jAt n).val, hw.2.2⟩ _ ?_
    have := (i (0 : Fin 2)).isLt
    have e : size 0 = hh (rail (who n)) (jAt n).val := by rw [hz]; rfl
    exact lt_of_lt_of_eq this e

/-- The finished elements. -/
theorem run_store_gelu {hst : (oM.access (Rect.unit (s := S1024x1024) off size inb)).Stores Finset.univ}
    (hw : n < total ∧ kAt n = 14) (ho : off = ![cur c (rail (who n)) 4, col (who n)]) (hz : size = ![hh (rail (who n)) 3, 256])
    (hv : ∀ i, w i = gelu1 (W A B 4 c (cur c (rail (who n)) 4 + (i (0 : Fin 2) : ℕ)) (col (who n) + (i (1 : Fin 2) : ℕ))))
    (h : Run A B K Z0 O0 c (n + 1) (k ⟨⟩) m u) :
    Run A B K Z0 O0 c n (.op (.store oM (Rect.unit (s := S1024x1024) off size inb) w Finset.univ hst hm) k) m u := by
  have hw' : what n = .gelu := by unfold what; rw [show kv n (who n) = 14 from hw.2]; rfl
  refine run_store (n := n) (f := O0) (g := gf A B) (acc_strs_step hw.1 (by rw [hw']; decide) (fun j => by rw [hw.2]; exact (gelu_slots j).1) ?_)
    (fun i => (gf_eq A B c (rail (who n)) _ ?_ (emb_val0 ho i) (emb_val1 ho i)).trans (hv i).symm) h
  · rw [hw.2, ho, hz]
    exact Acc.trans (str_data A B Z0 O0 c (who n) gelu_slots) (acc_gelu A B Z0 O0 c (who n))
  · have := (i (0 : Fin 2)).isLt
    have e : size 0 = hh (rail (who n)) 3 := by rw [hz]; rfl
    exact lt_of_lt_of_eq this e

end

end

end Cert.Exchange

end
-- ==== Proof.Transfers.lean ====
/-
  The rules for the transfers and for the waits.
-/
module

public import proofs.«01_k».proof.Proof.Stores

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → S1024x512.Idx → F .f32} {B : Dev nD → S512x1024.Idx → F .f32} {K : Dev nD × Cel → ℕ}
variable {Z0 O0 : S1024x1024.Idx → F .f32} {c : Dev nD} {α : Type} {n m : ℕ} {u : α}

/-! ## Starting a transfer -/

/-- What the destination of a transfer reads once `w` has landed there. -/
theorem landed {y : Fin (sig.nNear .tc .vmem)} {hy : sig.names .tc .vmem y = true} (d : Dev nD) {off size : Fin (vm y hy).ty.shape.rank → ℕ}
    {inb : ∀ a, off a + size a ≤ (vm y hy).ty.shape.size a} {hr : ∀ a, (Rect.unit off size inb).stride a = 1}
    {w : (Rect.unit off size inb).shape.Idx → Elt F (vm y hy).ty.elt} {f g : (vm y hy).ty.Contents (Elt F)}
    (hg : ∀ i, g ((Rect.unit off size inb).emb i) = w i) :
    (pts d (vm y hy) off size fullShare (((Memref.whole (vm y hy)).slice (Rect.unit off size inb) hr).view.write (Elt F) f w Finset.univ) : sProp 𝕄)
      = pts d (vm y hy) off size fullShare g := by
  refine pts_congr fun i hi => ?_
  rw [← set_unit inb, ← Rect.map_emb_univ, Finset.mem_map] at hi
  obtain ⟨j, -, rfl⟩ := hi
  exact (View.write_emb_of_mem (v := ((Memref.whole (vm y hy)).slice (Rect.unit off size inb) hr).view) f w (Finset.mem_univ j)).trans (hg j).symm

/-- The rectangle a slice of a whole buffer holds. -/
theorem slice_pts {y : Fin (sig.nNear .tc .vmem)} {hy : sig.names .tc .vmem y = true} (d : Dev nD) {off size : Fin (vm y hy).ty.shape.rank → ℕ}
    {inb : ∀ a, off a + size a ≤ (vm y hy).ty.shape.size a} {hr : ∀ a, (Rect.unit off size inb).stride a = 1} (q : PosShare TreeShare) (f : (vm y hy).ty.Contents (Elt F)) :
    (((((Memref.whole (vm y hy)).slice (Rect.unit off size inb) hr).view.loc (d : Thread nD τ)) ↦[((Memref.whole (vm y hy)).slice (Rect.unit off size inb) hr).view.set]{q} f) : sProp 𝕄)
      = pts d (vm y hy) off size q f := by
  have h : ((Memref.whole (vm y hy)).slice (Rect.unit off size inb) hr).view.set = box off size := (View.set_slice_whole (vm y hy) _).trans (set_unit inb)
  unfold pts
  rw [← h]

theorem run_send {s : Shape} {src dst : Memref sig .tc .vmem s .f32} {sS sR : DmaSem sig} {d : Dev nD}
    {hsc : dst.view.ref.isScScratch = false} {hsrc : src.view.WordExact} {hdst : dst.view.WordExact}
    {ht : DmaTarget.Typed .vmem (.dma sR) (.remote (Dev.tc d : Thread nD τ) dst (.dma sS) hsc)}
    {k : PUnit → Prog (TpuEff nD τ sig (Elt F) Λ₀ .tc) α} {q : PosShare TreeShare} {fs : Buf (Elt F) (src.view.loc (c : Thread nD τ))}
    (hw : n < total ∧ kAt n = sendAt (jAt n)) (hd : d = peer c (who n) (jAt n)) (hS : sS = sSem (xAt n)) (hR : sR = rSem (xAt n))
    (hN : dst.view.amount (.dma sR) = amtOf (xAt n))
    (hs : ((src.view.loc (c : Thread nD τ) ↦[src.view.set]{q} fs) : sProp 𝕄) = srcPay A B c (xAt n))
    (hl : (landAny (F := F) (peer c (who n) (jAt n)) (xAt n)) ⊢ iprop(∃ fd, (dst.view.loc (peer c (who n) (jAt n) : Thread nD τ) ↦[dst.view.set]{fullShare} fd)))
    (hp : ∀ fd, ((dst.view.loc (peer c (who n) (jAt n) : Thread nD τ) ↦[dst.view.set]{fullShare} (dst.view.write (Elt F) fd (src.view.read (Elt F) fs) Finset.univ)) : sProp 𝕄)
      ⊢ recvPay A B (peer c (who n) (jAt n)) (xAt n))
    (h : Run A B K Z0 O0 c (n + 1) (k ⟨⟩) m u) :
    Run A B K Z0 O0 c n (.op (.enqueueDma src (.remote (Dev.tc d : Thread nD τ) dst (.dma sS) hsc) (.dma sR) hsrc hdst ht) k) m u := by
  subst hd hS hR
  intro Q
  have hst := str_send A B Z0 O0 c (who n) (jAt n)
  have hwk : what n ≠ .keep := by unfold what; rw [show kv n (who n) = sendAt (jAt n) from hw.2]; exact (stepAt_ne_keep _).1
  have hup := strs_upd (A := A) (B := B) (Z0 := Z0) (O0 := O0) (c := c) hw.1 hwk
  rw [hw.2] at hup
  unfold Inv Tok
  iintro ⟨⟨%W', HO⟩, HS, Ha, Hb, #Hrec, #Hlev⟩ HQ
  ihave HS := hup $$ HS
  icases HS with ⟨HS, Hcl⟩
  ihave HS := hst $$ HS
  icases HS with ⟨⟨⟨HtS, HtR, Hland⟩, Hsrc⟩, Hback⟩
  ihave Hland := hl $$ Hland
  icases Hland with ⟨%fd, Hland⟩
  ihave Hsrc := (Entails.of_eq hs.symm) $$ Hsrc
  iapply (Rounds.wp_send_pointsTo 𝒱₀ ER (Rd A B) (c : Thread nD τ) none (κ₁ := K (c, some (false, xAt n))) (κ₂ := K (peer c (who n) (jAt n), some (true, xAt n)))
    (r₁ := 0) (r₂ := 0) (d₁ := (0 : Fin 4)) (d₂ := (0 : Fin 4)) (fd := fd) (fs := fs) (q := q) (sS := osem (false, xAt n)) (sem := osem (true, xAt n))
    (by rw [show ((c : Thread nD τ), osem (false, xAt n)) = cellAt c (some (false, xAt n)) from rfl, duties_x]; exact Finset.mem_singleton_self _)
    (by rw [show ((peer c (who n) (jAt n) : Thread nD τ), osem (true, xAt n)) = cellAt (peer c (who n) (jAt n)) (some (true, xAt n)) from rfl, duties_x]; exact Finset.mem_singleton_self _)
    () () (amtOf (xAt n)) hN (amount_x A B c (xAt n) false 0) (amount_x A B (peer c (who n) (jAt n)) (xAt n) true 0) (Ow c (n + 1)) (Ow_send hw.1 hw.2) (W := W')
    (by rw [show ((c : Thread nD τ), osem (false, xAt n)) = sCell c (xAt n) from rfl, payload_s]; exact Entails.of_eq hs)
    (by rw [show ((peer c (who n) (jAt n) : Thread nD τ), osem (true, xAt n)) = rCell (peer c (who n) (jAt n)) (xAt n) from rfl, payload_r]; exact hp fd)) $$ [Hsrc Hland HO HtS HtR]
  · isplitr; · iapply (inv_at A B K c (some (false, xAt n))); iexact Hrec
    isplitr; · iapply (inv_at A B K (peer c (who n) (jAt n)) (some (true, xAt n))); iexact Hrec
    isplitl [Hsrc]; · iexact Hsrc
    isplitl [Hland]; · iexact Hland
    isplitl [HO]; · iexact HO
    isplitl [HtS]; · iexact HtS
    isplitr; · iapply (reached_at A B K c (some (false, xAt n))); iexact Hrec
    isplitl [HtR]; · iexact HtR
    iapply (reached_at A B K (peer c (who n) (jAt n)) (some (true, xAt n))); iexact Hrec
  iintro ⟨Hc, HO⟩
  ihave HS := Hback $$ [Hc]
  · iexact Hc
  ihave HS := Hcl $$ HS
  iapply (h Q) $$ [HO HS Ha Hb]
  · unfold Inv Tok
    isplitl [HO]; · iexists W'; iexact HO
    isplitl [HS]; · iexact HS
    isplitl [Ha]; · iexact Ha
    isplitl [Hb]; · iexact Hb
    isplitr; · iexact Hrec
    iexact Hlev
  iexact HQ

section
variable {offS offD size : Fin 2 → ℕ} {sS sR : DmaSem sig} {d : Dev nD} {k : PUnit → Prog (TpuEff nD τ sig (Elt F) Λ₀ .tc) α}

/-- Rows of partial sums to the partner's receive buffer. -/
theorem run_send_z {inb : ∀ a, offS a + size a ≤ S1024x1024.size a} {inb' : ∀ a, offD a + size a ≤ S960x1024.size a}
    {hr : ∀ a, (Rect.unit (s := S1024x1024) offS size inb).stride a = 1} {hr' : ∀ a, (Rect.unit (s := S960x1024) offD size inb').stride a = 1}
    {hsc : (rM.slice (Rect.unit (s := S960x1024) offD size inb') hr').view.ref.isScScratch = false}
    {hsrc : (zM.slice (Rect.unit (s := S1024x1024) offS size inb) hr).view.WordExact} {hdst : (rM.slice (Rect.unit (s := S960x1024) offD size inb') hr').view.WordExact}
    {ht' : DmaTarget.Typed .vmem (.dma sR) (.remote (Dev.tc d : Thread nD τ) (rM.slice (Rect.unit (s := S960x1024) offD size inb') hr') (.dma sS) hsc)}
    (hw : n < total ∧ kAt n = sendAt (jAt n) ∧ (jAt n).val < 4) (hd : d = peer c (who n) (jAt n)) (hS : sS = sSem (xAt n)) (hR : sR = rSem (xAt n))
    (ho : offS = ![srow c (rail (who n)) (jAt n), col (who n)]) (ho' : offD = ![rrow (rail (who n)) (jAt n).val, col (who n)]) (hz : size = ![ht (rail (who n)) (jAt n), 256])
    (h : Run A B K Z0 O0 c (n + 1) (k ⟨⟩) m u) :
    Run A B K Z0 O0 c n (.op (.enqueueDma (zM.slice (Rect.unit (s := S1024x1024) offS size inb) hr)
      (.remote (Dev.tc d : Thread nD τ) (rM.slice (Rect.unit (s := S960x1024) offD size inb') hr') (.dma sS) hsc) (.dma sR) hsrc hdst ht') k) m u := by
  have e1 : srow c (rail (who n)) (jAt n) = oth c (rail (who n)) (jAt n).val ∧ ht (rail (who n)) (jAt n) = hh (rail (who n)) (jAt n).val := by
    have : ∀ j : Slot, j.val < 4 → ∀ g, srow c g j = oth c g j.val ∧ ht g j = hh g j.val := fun j hj g => by
      fin_cases j <;> first | exact ⟨rfl, rfl⟩ | (exfalso; revert hj; decide)
    exact this _ hw.2.2 _
  have e2 : rnd (jAt n) = (jAt n).val := by
    have : ∀ j : Slot, j.val < 4 → rnd j = j.val := by decide
    exact this _ hw.2.2
  have hpr := (par_rows c (rail (who n)) ⟨(jAt n).val, hw.2.2⟩)
  have hpeer : peer c (who n) (jAt n) = par c (rail (who n)) (jAt n).val := by unfold peer; rw [e2]
  subst hz
  refine run_send (n := n) (q := fullShare) (fs := zf A B (jAt n).val c) ⟨hw.1, hw.2.1⟩ hd hS hR rfl ?_ ?_ (fun fd => ?_) h
  · refine (slice_pts c fullShare _).trans ?_
    unfold srcPay zP xAt; rw [if_pos hw.2.2, ho]
  · unfold landAny rAny ptsAny xAt
    rw [if_pos hw.2.2, ← e1.2, ← ho']
    iintro ⟨%f, H⟩
    iexists f
    iapply (Entails.of_eq (slice_pts (y := 4) (peer c (who n) (jAt n)) fullShare f).symm)
    iexact H
  · refine (Entails.of_eq (slice_pts (peer c (who n) (jAt n)) fullShare _)).trans ?_
    refine (Entails.of_eq (landed (g := rf A B (jAt n).val (peer c (who n) (jAt n)) (rail (who n))) (peer c (who n) (jAt n)) fun i => ?_)).trans ?_
    · have e0' := emb_val0 (a := 960) (b := 1024) (inb := inb') ho' i
      have e1' := emb_val1 (a := 960) (b := 1024) (inb := inb') ho' i
      have e0'' := emb_val0 (a := 1024) (b := 1024) (inb := inb) ho i
      have e1'' := emb_val1 (a := 1024) (b := 1024) (inb := inb) ho i
      show W A B (jAt n).val (par (peer c (who n) (jAt n)) (rail (who n)) (jAt n).val) _ _ = W A B (jAt n).val c _ _
      have hpp : par (peer c (who n) (jAt n)) (rail (who n)) (jAt n).val = c := by rw [hpeer]; exact pid_pid c _
      have hcur : cur (peer c (who n) (jAt n)) (rail (who n)) ((jAt n).val + 1) = oth c (rail (who n)) (jAt n).val := by rw [hpeer]; exact hpr.2.2
      rw [hpp]
      refine congrArg₂ (W A B (jAt n).val c) ?_ (e1'.trans e1''.symm)
      refine Eq.trans ?_ e0''.symm
      refine (congrArg (fun t => t - rrow (rail (who n)) (jAt n).val + cur (peer c (who n) (jAt n)) (rail (who n)) ((jAt n).val + 1)) e0').trans ?_
      simp only [hcur, e1.1]; omega
    · unfold recvPay rP xAt; rw [if_pos hw.2.2, ← e1.2, ho']

/-- Finished rows to the same rows of the partner's result. -/
theorem run_send_o {inb : ∀ a, offS a + size a ≤ S1024x1024.size a} {inb' : ∀ a, offD a + size a ≤ S1024x1024.size a}
    {hr : ∀ a, (Rect.unit (s := S1024x1024) offS size inb).stride a = 1} {hr' : ∀ a, (Rect.unit (s := S1024x1024) offD size inb').stride a = 1}
    {hsc : (oM.slice (Rect.unit (s := S1024x1024) offD size inb') hr').view.ref.isScScratch = false}
    {hsrc : (oM.slice (Rect.unit (s := S1024x1024) offS size inb) hr).view.WordExact} {hdst : (oM.slice (Rect.unit (s := S1024x1024) offD size inb') hr').view.WordExact}
    {ht' : DmaTarget.Typed .vmem (.dma sR) (.remote (Dev.tc d : Thread nD τ) (oM.slice (Rect.unit (s := S1024x1024) offD size inb') hr') (.dma sS) hsc)}
    (hw : n < total ∧ kAt n = sendAt (jAt n) ∧ ¬ (jAt n).val < 4) (hd : d = peer c (who n) (jAt n)) (hS : sS = sSem (xAt n)) (hR : sR = rSem (xAt n))
    (ho : offS = ![srow c (rail (who n)) (jAt n), col (who n)]) (ho' : offD = ![srow c (rail (who n)) (jAt n), col (who n)]) (hz : size = ![ht (rail (who n)) (jAt n), 256])
    (h : Run A B K Z0 O0 c (n + 1) (k ⟨⟩) m u) :
    Run A B K Z0 O0 c n (.op (.enqueueDma (oM.slice (Rect.unit (s := S1024x1024) offS size inb) hr)
      (.remote (Dev.tc d : Thread nD τ) (oM.slice (Rect.unit (s := S1024x1024) offD size inb') hr') (.dma sS) hsc) (.dma sR) hsrc hdst ht') k) m u := by
  have hrow : lrow (peer c (who n) (jAt n)) (rail (who n)) (jAt n) = srow c (rail (who n)) (jAt n) := by
    unfold lrow peer; rw [show par (par c (rail (who n)) (rnd (jAt n))) (rail (who n)) (rnd (jAt n)) = c from pid_pid c _]
  subst hz
  refine run_send (n := n) (q := shr (jAt n)) (fs := gf A B) ⟨hw.1, hw.2.1⟩ hd hS hR rfl ?_ ?_ (fun fd => ?_) h
  · refine (slice_pts c (shr (jAt n)) _).trans ?_
    unfold srcPay oP xAt; rw [if_neg hw.2.2, ho]
  · unfold landAny oAny ptsAny xAt
    rw [if_neg hw.2.2, hrow, ← ho']
    iintro ⟨%f, H⟩
    iexists f
    iapply (Entails.of_eq (slice_pts (y := 2) (peer c (who n) (jAt n)) fullShare f).symm)
    iexact H
  · refine (Entails.of_eq (slice_pts (peer c (who n) (jAt n)) fullShare _)).trans ?_
    refine (Entails.of_eq (landed (g := gf A B) (peer c (who n) (jAt n)) fun i => ?_)).trans ?_
    · show gf A B _ = gf A B _
      refine congrArg (gf A B) ?_
      exact (emb_ix (a := 1024) (b := 1024) ho' i).trans (emb_ix (a := 1024) (b := 1024) ho i).symm
    · unfold recvPay oP xAt; rw [if_neg hw.2.2, hrow, ho']

end

/-! ## Waits -/

/-- What landed is handed over. -/
theorem run_rwait {s : Shape} {src dst : Memref sig .tc .vmem s .f32} {sm : DmaSem sig} {h₁ : src.view.WordExact} {h₂ : dst.view.WordExact}
    {k : PUnit → Prog (TpuEff nD τ sig (Elt F) Λ₀ .tc) α}
    (hw : n < total ∧ kAt n = rwaitAt (jAt n)) (hS : sm = rSem (xAt n)) (hN : dst.view.dmaCredit = amtOf (xAt n))
    (hlev : ∀ p : Xfer, kv n p.1 ≤ sendAt p.2 → lev (jAt n) < lev p.2)
    (h : Run A B K Z0 O0 c (n + 1) (k ⟨⟩) m u) :
    Run A B K Z0 O0 c n (.op (.waitDma2 sm src dst h₁ h₂) k) m u := by
  subst hS
  intro Q
  have hst := str_rwait A B Z0 O0 c (who n) (jAt n)
  have hrest : bigSep ((Rd A B).duties ((c : Thread nD τ), SemLoc.dma (rSem (xAt n))) 0 \ ∅) (fun d => (Rd A B).payload ((c : Thread nD τ), SemLoc.dma (rSem (xAt n))) 0 d) = recvPay A B c (xAt n) := rest_r A B c (xAt n)
  have hwk : what n ≠ .keep := by unfold what; rw [show kv n (who n) = rwaitAt (jAt n) from hw.2]; exact (stepAt_ne_keep _).2.1
  have hup := strs_upd (A := A) (B := B) (Z0 := Z0) (O0 := O0) (c := c) hw.1 hwk
  have hOw : Ow c n = Ow c (n + 1) := Ow_same hw.1 (fun j => by rw [hw.2]; exact (rwait_facts j (jAt n)).2.1) fun h => absurd h hwk
  rw [hw.2] at hup
  unfold Inv Tok
  iintro ⟨⟨%W', HO⟩, HS, Ha, Hb, #Hrec, #Hlev⟩ HQ
  ihave HS := hup $$ HS
  icases HS with ⟨HS, Hcl⟩
  ihave HS := hst $$ HS
  icases HS with ⟨⟨Hc, Hat⟩, Hback⟩
  iapply (Rounds.wp_wait_rest_token 𝒱₀ ER (Rd A B) (c : Thread nD τ) none (κ := K (c, some (true, xAt n)))
      (wpE_waitDma2_eq 𝒱₀ (c : Thread nD τ) none Set.univ) (Set.mem_univ _) () (O := Ow c n) (W := W') (R := 0) (m := 0) (T := ∅)
      (by rw [Nat.zero_add, hN]; exact (expect_x A B c (xAt n) true).symm)) $$ [Hc HO Hat]
  · isplitr; · iapply (inv_at A B K c (some (true, xAt n))); iexact Hrec
    isplitl [Hc]; · rw [hN]; iexact Hc
    isplitl [HO]; · iexact HO
    isplitr
    · iapply (mayWait_of c n (csem (some (true, xAt n))) fun p hp => by rw [lvN_csem]; exact hlev p hp)
      iexact Hlev
    iexact Hat
  iintro ⟨HO, Hat, -, Hpay⟩
  ihave Hp := (Entails.of_eq hrest) $$ Hpay
  ihave HS := Hback $$ [Hat Hp]
  · isplitl [Hat]; · iexact Hat
    iexact Hp
  ihave HS := Hcl $$ HS
  iapply (h Q) $$ [HO HS Ha Hb]
  · unfold Inv Tok
    isplitl [HO]; · iexists (insert _ W'); rw [← hOw]; iexact HO
    isplitl [HS]; · iexact HS
    isplitl [Ha]; · iexact Ha
    isplitl [Hb]; · iexact Hb
    isplitr; · iexact Hrec
    iexact Hlev
  iexact HQ

/-- What was lent to a transfer comes back. -/
theorem run_swait {s : Shape} {src dst : Memref sig .tc .vmem s .f32} {sm : DmaSem sig} {h₁ : src.view.WordExact} {h₂ : dst.view.WordExact}
    {k : PUnit → Prog (TpuEff nD τ sig (Elt F) Λ₀ .tc) α}
    (hw : n < total ∧ kAt n = swaitAt (jAt n)) (hS : sm = sSem (xAt n)) (hN : dst.view.dmaCredit = amtOf (xAt n))
    (h : Run A B K Z0 O0 c (n + 1) (k ⟨⟩) m u) :
    Run A B K Z0 O0 c n (.op (.waitDma2 sm src dst h₁ h₂) k) m u := by
  subst hS
  intro Q
  have hst := str_swait A B Z0 O0 c (who n) (jAt n)
  have hrest : bigSep ((Rd A B).duties ((c : Thread nD τ), SemLoc.dma (sSem (xAt n))) 0 \ ∅) (fun d => (Rd A B).payload ((c : Thread nD τ), SemLoc.dma (sSem (xAt n))) 0 d) = srcPay A B c (xAt n) := rest_s A B c (xAt n)
  have hwk : what n ≠ .keep := by unfold what; rw [show kv n (who n) = swaitAt (jAt n) from hw.2]; exact (stepAt_ne_keep _).2.2
  have hup := strs_upd (A := A) (B := B) (Z0 := Z0) (O0 := O0) (c := c) hw.1 hwk
  have hOw : Ow c n = Ow c (n + 1) := Ow_same hw.1 (fun j => by rw [hw.2]; exact (swait_facts j (jAt n)).2.1) fun h => absurd h hwk
  have hlev : ∀ j : Slot, 0 < lev j := by decide
  rw [hw.2] at hup
  unfold Inv Tok
  iintro ⟨⟨%W', HO⟩, HS, Ha, Hb, #Hrec, #Hlev⟩ HQ
  ihave HS := hup $$ HS
  icases HS with ⟨HS, Hcl⟩
  ihave HS := hst $$ HS
  icases HS with ⟨⟨Hc, Hat⟩, Hback⟩
  iapply (Rounds.wp_wait_rest_token 𝒱₀ ER (Rd A B) (c : Thread nD τ) none (κ := K (c, some (false, xAt n)))
      (wpE_waitDma2_eq 𝒱₀ (c : Thread nD τ) none Set.univ) (Set.mem_univ _) () (O := Ow c n) (W := W') (R := 0) (m := 0) (T := ∅)
      (by rw [Nat.zero_add, hN]; exact (expect_x A B c (xAt n) false).symm)) $$ [Hc HO Hat]
  · isplitr; · iapply (inv_at A B K c (some (false, xAt n))); iexact Hrec
    isplitl [Hc]; · rw [hN]; iexact Hc
    isplitl [HO]; · iexact HO
    isplitr
    · iapply (mayWait_of c n (csem (some (false, xAt n))) fun p hp => by rw [lvN_csem]; exact hlev p.2)
      iexact Hlev
    iexact Hat
  iintro ⟨HO, Hat, -, Hpay⟩
  ihave Hp := (Entails.of_eq hrest) $$ Hpay
  ihave HS := Hback $$ [Hat Hp]
  · isplitl [Hat]; · iexact Hat
    iexact Hp
  ihave HS := Hcl $$ HS
  iapply (h Q) $$ [HO HS Ha Hb]
  · unfold Inv Tok
    isplitl [HO]; · iexists (insert _ W'); rw [← hOw]; iexact HO
    isplitl [HS]; · iexact HS
    isplitl [Ha]; · iexact Ha
    isplitl [Hb]; · iexact Hb
    isplitr; · iexact Hrec
    iexact Hlev
  iexact HQ

end

end Cert.Exchange

end
-- ==== Proof.Start.lean ====
/-
  The handshake at the start: a device signals its four partners and waits for their four signals. With a signal goes
  the room where that partner's transfers land.
-/
module

public import proofs.«01_k».proof.Proof.Transfers

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A double family read in the other order. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun q : I × J => Φ q.1 q.2), ← bigSep_univ_prod (fun q : J × I => Φ q.2 q.1),
    bigSep_univ_equiv (Equiv.prodComm J I)]
  rfl

/-- A family with one member. -/
theorem bigSep_only {I : Type} [Fintype I] [DecidableEq I] (i : I) (Φ : I → sProp 𝕄) :
    (bigSep Finset.univ fun j => if i = j then Φ j else iprop(emp)) = Φ i := by
  have h : (bigSep (Finset.univ.erase i) fun j => if i = j then Φ j else iprop(emp)) = (iprop(emp) : sProp 𝕄) := by
    exact (bigSep_congr fun j hj => if_neg (Finset.ne_of_mem_erase hj).symm).trans (bigSep_emp_const (Finset.univ.erase i))
  have h2 : (bigSep Finset.univ fun j => if i = j then Φ j else iprop(emp)) = iprop((if i = i then Φ i else iprop(emp))
      ∗ bigSep (Finset.univ.erase i) fun j => if i = j then Φ j else iprop(emp)) := BI.bigSep_erase (Finset.mem_univ i)
  rw [h2, h, if_pos rfl]
  exact Idealize.SL.BI.Entails.antisymm Idealize.SL.BI.sep_emp_elim Idealize.SL.BI.sep_emp_intro

/-- The four handshakes bring the room for all transfers. -/
theorem lands (c : Dev nD) : (bigSep Finset.univ fun x => barPay (F := F) c x)
    = bigSep Finset.univ fun s : Stream => bigSep Finset.univ fun j : Slot => landAny (F := F) (peer c s j) (s, j) := by
  unfold barPay
  rw [bigSep_swap, ← bigSep_univ_prod (fun q : Xfer => landAny (F := F) (peer c q.1 q.2) (q.1, q.2))]
  exact bigSep_congr fun p _ => bigSep_only (xdim p.1 p.2) fun x => landAny (F := F) (pid c x) p

section
variable (A : Dev nD → S1024x512.Idx → F .f32) (B : Dev nD → S512x1024.Idx → F .f32) (K : Dev nD × Cel → ℕ)
variable (Z0 O0 : S1024x1024.Idx → F .f32)

/-- A transfer's tokens. -/
def Toks (c : Dev nD) (p : Xfer) : sProp 𝕄 :=
  iprop((dutyTok ER (sCell c p) 0 0 ∗ dutyTok ER (rCell (peer c p.1 p.2) p) 0 0) ∗ atPos ER (sCell c p) 0 ∅ 0)
/-- A stream before the handshake: all but the room at the partners. -/
def Str0 (c : Dev nD) (s : Stream) : sProp 𝕄 :=
  iprop(Data A B Z0 O0 c s 0 ∗ (bigSep Finset.univ fun j : Slot => Toks (F := F) c (s, j)) ∗ bigSep Finset.univ fun j : Slot => Rcv A B c (s, j) 0)
/-- What goes with the signal along `x`. -/
def Due (c : Dev nD) (x : Fin 4) : sProp 𝕄 := iprop(dutyTok ER (barCell (pid c x)) 0 x ∗ barPay (F := F) (pid c x) x)
/-- What is to be signalled still from dimension `i` on. -/
def Held (c : Dev nD) (i : ℕ) : sProp 𝕄 :=
  match i with
  | 0 => iprop(Due (F := F) c 0 ∗ Due (F := F) c 1 ∗ Due (F := F) c 2 ∗ Due (F := F) c 3 ∗ emp)
  | 1 => iprop(Due (F := F) c 1 ∗ Due (F := F) c 2 ∗ Due (F := F) c 3 ∗ emp)
  | 2 => iprop(Due (F := F) c 2 ∗ Due (F := F) c 3 ∗ emp)
  | 3 => iprop(Due (F := F) c 3 ∗ emp)
  | _ => iprop(emp)
/-- And what is owed then. -/
def Os (c : Dev nD) (i : ℕ) : CellTallies nD τ sig Unit :=
  match i with
  | 0 => Ob c
  | 1 => (Ow c 0 + tallyAt (barCell (pid c 3)) () 1) + tallyAt (barCell (pid c 2)) () 1 + tallyAt (barCell (pid c 1)) () 1
  | 2 => (Ow c 0 + tallyAt (barCell (pid c 3)) () 1) + tallyAt (barCell (pid c 2)) () 1
  | 3 => Ow c 0 + tallyAt (barCell (pid c 3)) () 1
  | _ => Ow c 0

/-- Device `c` before its signal `i`. -/
def Begin (c : Dev nD) (i : ℕ) : sProp 𝕄 :=
  iprop((∃ W, owes (c : Thread nD τ) (Os c i) W) ∗ Held (F := F) c i
    ∗ (cred (tallyAt (barCell c) () 4) ∗ atPos ER (barCell c) 0 ∅ 0)
    ∗ (bigSep Finset.univ fun s : Stream => Str0 A B Z0 O0 c s) ∗ aPts A c ∗ bPts B c ∗ records A B K ∗ levAts L lv)

/-- `p`, run by device `c` from before its signal `i`, reaches step `m` and returns `u`. -/
def Bar (c : Dev nD) (i : ℕ) {α : Type} (p : Prog (TpuEff nD τ sig (Elt F) Λ₀ .tc) α) (m : ℕ) (u : α) : Prop :=
  ∀ Q : α → sProp 𝕄, Begin A B K Z0 O0 c i
    ⊢ iprop(((Inv A B K Z0 O0 c m ∗ atPos ER (barCell c) 1 ∅ 0) -∗ Q u)
      -∗ wp frame (wpE (Cert.KernelIdeal.defs₀ (F := F)) 𝒱₀ (c : Thread nD τ) none) Set.univ p Q)

/-- With the room at the partners a stream is at its first step. -/
theorem str_begin (c : Dev nD) (s : Stream) :
    iprop(Str0 A B Z0 O0 c s ∗ bigSep Finset.univ fun j : Slot => landAny (F := F) (peer c s j) (s, j)) ⊢ Str A B Z0 O0 c s 0 := by
  have e : (bigSep Finset.univ fun j : Slot => Snd A B c (s, j) 0)
      = iprop((bigSep Finset.univ fun j : Slot => iprop((dutyTok ER (sCell c (s, j)) 0 0 ∗ dutyTok ER (rCell (peer c s j) (s, j)) 0 0 ∗ landAny (F := F) (peer c s j) (s, j)) ∗ atPos ER (sCell c (s, j)) 0 ∅ 0))) :=
    bigSep_congr fun j _ => by unfold Snd; exact if_pos (Nat.zero_le _)
  have h : iprop((bigSep Finset.univ fun j : Slot => Toks (F := F) c (s, j)) ∗ bigSep Finset.univ fun j : Slot => landAny (F := F) (peer c s j) (s, j))
      ⊢ (bigSep Finset.univ fun j : Slot => Snd A B c (s, j) 0) := by
    rw [e, ← bigSep_sep']
    refine bigSep_mono fun j _ => ?_
    show iprop(Toks (F := F) c (s, j) ∗ landAny (F := F) (peer c s j) (s, j))
      ⊢ iprop((dutyTok ER (sCell c (s, j)) 0 0 ∗ dutyTok ER (rCell (peer c s j) (s, j)) 0 0 ∗ landAny (F := F) (peer c s j) (s, j)) ∗ atPos ER (sCell c (s, j)) 0 ∅ 0)
    unfold Toks
    iintro ⟨⟨⟨H1, H2⟩, H3⟩, H4⟩
    isplitr [H3]
    · isplitl [H1]; · iexact H1
      isplitl [H2]; · iexact H2
      iexact H4
    · iexact H3
  unfold Str0 Str
  iintro ⟨⟨HD, HS, HR⟩, HL⟩
  isplitl [HD]; · iexact HD
  isplitl [HS HL]
  · iapply h
    isplitl [HS]; · iexact HS
    iexact HL
  · iexact HR

theorem strs_begin (c : Dev nD) :
    iprop((bigSep Finset.univ fun s : Stream => Str0 A B Z0 O0 c s) ∗ bigSep Finset.univ fun x => barPay (F := F) c x) ⊢ Strs A B Z0 O0 c 0 := by
  unfold Strs
  rw [lands, ← bigSep_sep']
  exact bigSep_mono fun s _ => by rw [kv_zero]; exact str_begin A B Z0 O0 c s

end

section
variable {A : Dev nD → S1024x512.Idx → F .f32} {B : Dev nD → S512x1024.Idx → F .f32} {K : Dev nD × Cel → ℕ}
variable {Z0 O0 : S1024x1024.Idx → F .f32} {c : Dev nD} {α β : Type} {i m m' n' : ℕ} {u : α}

theorem bar_bind {p : Prog (TpuEff nD τ sig (Elt F) Λ₀ .tc) α} {k : α → Prog (TpuEff nD τ sig (Elt F) Λ₀ .tc) β} {v : β}
    (hp : Bar A B K Z0 O0 c i p m u) (hm : m = n') (hk : Run A B K Z0 O0 c n' (k u) m' v) : Bar A B K Z0 O0 c i (p >>= k) m' v := by
  subst hm
  intro Q
  rw [wp_bind]
  iintro H HQ
  iapply (hp _) $$ H
  iintro ⟨H, Hat⟩
  iapply (hk Q) $$ H
  iintro H
  iapply HQ
  isplitl [H]; · iexact H
  iexact Hat

theorem bar_device {k : Dev nD → Prog (TpuEff nD τ sig (Elt F) Λ₀ .tc) α} (h : Bar A B K Z0 O0 c i (k c) m u) :
    Bar A B K Z0 O0 c i (.op .deviceId k) m u := by
  intro Q
  rw [wp_deviceId]
  exact h Q

theorem Os_next (c : Dev nD) (x : Fin 4) : Os c x.val = Os c (x.val + 1) + tallyAt (barCell (pid c x)) () 1 := by
  fin_cases x <;> rfl

theorem Held_next (c : Dev nD) (x : Fin 4) : Held (F := F) c x.val = iprop(Due (F := F) c x ∗ Held (F := F) c (x.val + 1)) := by
  fin_cases x <;> rfl

theorem bar_signal (x : Fin 4) {d : Dev nD} {sm : Sem sig} {v : Int} {k : PUnit → Prog (TpuEff nD τ sig (Elt F) Λ₀ .tc) α}
    (hd : d = pid c x) (hS : sm = barS) (hv : v = 1) (h : Bar A B K Z0 O0 c (x.val + 1) (k ⟨⟩) m u) :
    Bar A B K Z0 O0 c x.val (.op (.semSignal (d : Thread nD τ) sm v) k) m u := by
  subst hd hS hv
  intro Q
  have e := Entails.of_eq (Held_next (F := F) c x)
  unfold Begin
  iintro ⟨⟨%W, HO⟩, HH, Hb, HS, Ha, HB, #Hrec, #Hlev⟩ HQ
  ihave HH := e $$ HH
  unfold Due
  icases HH with ⟨⟨Ht, Hp⟩, HH⟩
  iapply (Rounds.wp_signal 𝒱₀ ER (Rd A B) (c : Thread nD τ) none (dst := (pid c x : Thread nD τ)) (sem := barS) (r := 0) (d := x) (κ := K (pid c x, none))
    (by rw [show (((pid c x : Thread nD τ), SemLoc.reg barS) : GSem nD τ sig) = barCell (pid c x) from rfl, duties_bar]; exact Finset.mem_univ _)
    ((amount_bar A B (pid c x) x).trans (by decide)) () (Os c (x.val + 1)) (Os_next c x)) $$ [HO Ht Hp]
  · isplitr; · iapply (inv_at A B K (pid c x) none); iexact Hrec
    isplitl [HO]; · iexact HO
    isplitl [Ht]; · iexact Ht
    isplitl [Hp]
    · rw [show (((pid c x : Thread nD τ), SemLoc.reg barS) : GSem nD τ sig) = barCell (pid c x) from rfl, payload_bar]
      iexact Hp
    · iapply (reached_at A B K (pid c x) none); iexact Hrec
  iintro HO
  iapply (h Q) $$ [HO HH Hb HS Ha HB]
  · unfold Begin
    isplitl [HO]; · iexists W; iexact HO
    isplitl [HH]; · iexact HH
    isplitl [Hb]; · iexact Hb
    isplitl [HS]; · iexact HS
    isplitl [Ha]; · iexact Ha
    isplitl [HB]; · iexact HB
    isplitr; · iexact Hrec
    iexact Hlev
  iexact HQ

theorem bar_wait {sm : Sem sig} {v : Int} {k : PUnit → Prog (TpuEff nD τ sig (Elt F) Λ₀ .tc) α}
    (hS : sm = barS) (hv : v = 4) (h : Run A B K Z0 O0 c 0 (k ⟨⟩) m u) :
    Bar A B K Z0 O0 c 4 (.op (.semWait sm v) k) m u := by
  subst hS hv
  intro Q
  have hpay : (bigSep ((Rd A B).duties ((c : Thread nD τ), SemLoc.reg barS) 0 \ ∅) fun d => (Rd A B).payload ((c : Thread nD τ), SemLoc.reg barS) 0 d)
      ⊢ bigSep Finset.univ fun x => barPay (F := F) c x := Entails.of_eq (rest_bar A B c)
  unfold Begin
  iintro ⟨⟨%W, HO⟩, -, ⟨Hc, Hat⟩, HS, Ha, HB, #Hrec, #Hlev⟩ HQ
  iapply (Rounds.wp_wait_rest_token 𝒱₀ ER (Rd A B) (c : Thread nD τ) none (κ := K (c, none))
      (wpE_semWait_eq 𝒱₀ (c : Thread nD τ) none Set.univ) (Set.mem_univ _) () (O := Ow c 0) (W := W) (R := 0) (m := 0) (T := ∅)
      (by rw [show (((c : Thread nD τ), SemLoc.reg barS) : GSem nD τ sig) = barCell c from rfl, expect_bar])) $$ [Hc HO Hat]
  · isplitr; · iapply (inv_at A B K c none); iexact Hrec
    isplitl [Hc]; · iexact Hc
    isplitl [HO]; · iexact HO
    isplitr; · iapply (mayWait_of c 0 (.reg barS) (fun p _ => lev_pos p.2)); iexact Hlev
    iexact Hat
  iintro ⟨HO, Hat, -, Hpay⟩
  ihave Hp := hpay $$ Hpay
  ihave HS := (strs_begin A B Z0 O0 c) $$ [HS Hp]
  · isplitl [HS]; · iexact HS
    iexact Hp
  iapply (h Q) $$ [HO HS Ha HB]
  · unfold Inv Tok
    isplitl [HO]; · iexists _; iexact HO
    isplitl [HS]; · iexact HS
    isplitl [Ha]; · iexact Ha
    isplitl [HB]; · iexact HB
    isplitr; · iexact Hrec
    iexact Hlev
  iintro H
  iapply HQ
  isplitl [H]; · iexact H
  iexact Hat

end

end Cert.Exchange

end
-- ==== Proof.Products.lean ====
/-
  The products the program computes are those of the partial sums.
-/
module

public import proofs.«01_k».proof.Proof.Transfers

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A : Dev nD → S1024x512.Idx → F .f32) (B : Dev nD → S512x1024.Idx → F .f32) (c : Dev nD) (s : Stream)

theorem wide_rows : ∀ s : Stream, (rail s ≠ 2 → hh (rail s) 0 = 192) ∧ (rail s = 2 → hh (rail s) 0 = 128) := by decide

theorem dot192 (hs : rail s ≠ 2) (i : S192x256.Idx) :
    k0_pay1 (fun x : S192x512.Idx => A c (ix 1024 512 (oth c (rail s) 0 + (x 0 : ℕ)) (x 1 : ℕ))) (fun x : S512x256.Idx => B c (ix 512 1024 (x 0 : ℕ) (col s + (x 1 : ℕ)))) i
      = W A B 0 c (oth c (rail s) 0 + (i 0 : ℕ)) (col s + (i 1 : ℕ)) := by
  rw [W_dot A B c s (lt_of_lt_of_eq (i 0).isLt ((wide_rows s).1 hs).symm) (i 1).isLt, dot0, if_neg hs, ix_eq rfl rfl]

theorem dot128 (hs : rail s = 2) (i : S128x256.Idx) :
    k0_pay4 (k0_pay3 (fun x : S128x512.Idx => A c (ix 1024 512 (oth c (rail s) 0 + (x 0 : ℕ)) (x 1 : ℕ))) (fun x : S512x256.Idx => B c (ix 512 1024 (x 0 : ℕ) (col s + (x 1 : ℕ))))) i
      = W A B 0 c (oth c (rail s) 0 + (i 0 : ℕ)) (col s + (i 1 : ℕ)) := by
  rw [W_dot A B c s (lt_of_lt_of_eq (i 0).isLt ((wide_rows s).2 hs).symm) (i 1).isLt, dot0, if_pos hs, ix_eq rfl rfl]

theorem keep192 (hs : rail s ≠ 2) (i : S192x1024.Idx) :
    k0_pay14 (fun x : S192x512.Idx => A c (ix 1024 512 (cur c (rail s) 1 + (x 0 : ℕ)) (x 1 : ℕ))) (fun x : S512x1024.Idx => B c (ix 512 1024 (x 0 : ℕ) (x 1 : ℕ))) i
      = W A B 0 c (cur c (rail s) 1 + (i 0 : ℕ)) (i 1 : ℕ) := by
  rw [W_keep A B c (rail s) _ (lt_of_lt_of_eq (i 0).isLt ((wide_rows s).1 hs).symm), keep0, if_neg hs, ix_eq rfl rfl]

theorem keep128 (hs : rail s = 2) (i : S128x1024.Idx) :
    k0_pay17 (k0_pay16 (fun x : S128x512.Idx => A c (ix 1024 512 (cur c (rail s) 1 + (x 0 : ℕ)) (x 1 : ℕ))) (fun x : S512x1024.Idx => B c (ix 512 1024 (x 0 : ℕ) (x 1 : ℕ)))) i
      = W A B 0 c (cur c (rail s) 1 + (i 0 : ℕ)) (i 1 : ℕ) := by
  rw [W_keep A B c (rail s) _ (lt_of_lt_of_eq (i 0).isLt ((wide_rows s).2 hs).symm), keep0, if_pos hs, ix_eq rfl rfl]

end

end Cert.Exchange

end
-- ==== Proof.Body.lean ====
/-
  The whole kernel body, gone through in program order: the handshake, then every load, store, transfer and wait by the
  rule of the step it belongs to.
-/
module

public import proofs.«01_k».proof.Proof.Start
public import proofs.«01_k».proof.Proof.Products

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → S1024x512.Idx → F .f32} {B : Dev nD → S512x1024.Idx → F .f32} {K : Dev nD × Cel → ℕ}
variable {Z0 O0 : S1024x1024.Idx → F .f32} {c : Dev nD}

attribute [local irreducible] Run Bar

set_option maxRecDepth 65536 in
set_option maxHeartbeats 8000000 in
/-- The body takes a device from before its first signal to after its last step. -/
theorem body_run : Bar A B K Z0 O0 c 0 (cc0_body (F := F) aM (Memref.isWhole_whole _) bM (Memref.isWhole_whole _) oM (Memref.isWhole_whole _)
    zM (Memref.isWhole_whole _) rM (Memref.isWhole_whole _) cc0_scratch2 cc0_scratch3 cc0_scratch4 cc0_scratch5) total ⟨⟩ := by
  rw [cc0_body_eq_skeleton, cc0_body_skel]
  apply bar_bind
  rw [k0_part120_eq_skeleton, k0_part120_skel]
  simp only [k0_part1_eq_skeleton, k0_part1_skel, k0_part2_eq_skeleton, k0_part2_skel, semSignalWord, semWaitWord,
    Prog.lift, Prog.bind_op, Prog.bind_ret, Prog.pure_eq_ret]
  apply bar_device
  apply bar_signal 0
  case hd => revert c; decide +kernel
  case hS => rfl
  case hv => rfl
  apply bar_signal 1
  case hd => revert c; decide +kernel
  case hS => rfl
  case hv => rfl
  apply bar_signal 2
  case hd => revert c; decide +kernel
  case hS => rfl
  case hv => rfl
  apply bar_signal 3
  case hd => revert c; decide +kernel
  case hS => rfl
  case hv => rfl
  apply bar_wait
  case hS => rfl
  case hv => rfl
  repeat (first
    | exact run_ret
    | (apply run_load_a_dot; (case hw => decide); (case ho => revert c; decide +kernel))
    | (apply run_load_a_keep; (case hw => decide); (case ho => revert c; decide +kernel))
    | (apply run_load_b_dot; (case hw => decide); (case ho => decide +kernel))
    | (apply run_load_b_keep; (case hw => decide); (case ho => decide +kernel))
    | (apply run_load_r; (case hw => decide); (case ho => decide +kernel); (case hz => decide +kernel))
    | (apply run_load_o; (case hw => decide); (case ho => revert c; decide +kernel); (case hz => decide +kernel))
    | (apply run_load_z_add; (case hw => decide); (case ho => revert c; decide +kernel); (case hz => decide +kernel))
    | (apply run_load_z_dot; (case hw => decide); (case ho => revert c; decide +kernel); (case hz => decide +kernel))
    | (apply run_load_z_keep; (case hw => decide); (case ho => revert c; decide +kernel); (case hz => decide +kernel))
    | (apply run_load_z_gelu; (case hw => decide); (case ho => revert c; decide +kernel); (case hz => decide +kernel))
    | (apply run_store_add; (case hw => decide); (case ho => revert c; decide +kernel); (case hz => decide +kernel)
       (case hv => exact fun i => add_elt _ _ _ i))
    | (apply run_store_gelu; (case hw => decide); (case ho => revert c; decide +kernel); (case hz => decide +kernel)
       (case hv => first | exact fun i => gelu24 _ i | exact fun i => gelu16 _ i | exact fun i => gelu24' _ i | exact fun i => gelu16' _ i))
    | (apply run_store_dot; (case hw => decide); (case ho => revert c; decide +kernel); (case hz => decide +kernel)
       (case hv => first | exact dot192 A B c (who _) (by decide) | exact dot128 A B c (who _) (by decide)))
    | (apply run_store_keep; (case hw => decide); (case ho => revert c; decide +kernel); (case hz => decide +kernel)
       (case hv => first | exact keep192 A B c (who _) (by decide) | exact keep128 A B c (who _) (by decide)))
    | (apply run_send_z; (case hw => decide); (case hd => revert c; decide +kernel); (case hS => decide +kernel); (case hR => decide +kernel)
       (case ho => revert c; decide +kernel); (case ho' => decide +kernel); (case hz => decide +kernel))
    | (apply run_send_o; (case hw => decide); (case hd => revert c; decide +kernel); (case hS => decide +kernel); (case hR => decide +kernel)
       (case ho => revert c; decide +kernel); (case ho' => revert c; decide +kernel); (case hz => decide +kernel))
    | (apply run_rwait; (case hw => decide); (case hS => decide +kernel); (case hN => rfl); (case hlev => decide +kernel))
    | (apply run_swait; (case hw => decide); (case hS => decide +kernel); (case hN => rfl))
    | (apply run_bind)
    | (simp only [k0_part121_eq_skeleton, k0_part121_skel, k0_part3_eq_skeleton, k0_part3_skel, k0_part4_eq_skeleton, k0_part4_skel, k0_part5_eq_skeleton, k0_part5_skel, k0_part6_eq_skeleton, k0_part6_skel,
        k0_part7_eq_skeleton, k0_part7_skel, k0_part8_eq_skeleton, k0_part8_skel, k0_part9_eq_skeleton, k0_part9_skel, k0_part10_eq_skeleton, k0_part10_skel,
        k0_part11_eq_skeleton, k0_part11_skel, k0_part12_eq_skeleton, k0_part12_skel, k0_part13_eq_skeleton, k0_part13_skel, k0_part14_eq_skeleton,
        k0_part14_skel, k0_part15_eq_skeleton, k0_part15_skel, k0_part16_eq_skeleton, k0_part16_skel, k0_part17_eq_skeleton, k0_part17_skel,
        k0_part18_eq_skeleton, k0_part18_skel, k0_part19_eq_skeleton, k0_part19_skel, k0_part20_eq_skeleton, k0_part20_skel, k0_part21_eq_skeleton,
        k0_part21_skel, k0_part22_eq_skeleton, k0_part22_skel, k0_part23_eq_skeleton, k0_part23_skel, k0_part24_eq_skeleton, k0_part24_skel,
        k0_part25_eq_skeleton, k0_part25_skel, k0_part26_eq_skeleton, k0_part26_skel, k0_part27_eq_skeleton, k0_part27_skel, k0_part28_eq_skeleton,
        k0_part28_skel, k0_part29_eq_skeleton, k0_part29_skel, k0_part30_eq_skeleton, k0_part30_skel, k0_part31_eq_skeleton, k0_part31_skel,
        k0_part32_eq_skeleton, k0_part32_skel, k0_part33_eq_skeleton, k0_part33_skel, k0_part34_eq_skeleton, k0_part34_skel, k0_part35_eq_skeleton,
        k0_part35_skel, k0_part36_eq_skeleton, k0_part36_skel, k0_part37_eq_skeleton, k0_part37_skel, k0_part38_eq_skeleton, k0_part38_skel,
        k0_part39_eq_skeleton, k0_part39_skel, k0_part40_eq_skeleton, k0_part40_skel, k0_part41_eq_skeleton, k0_part41_skel, k0_part42_eq_skeleton,
        k0_part42_skel, k0_part43_eq_skeleton, k0_part43_skel, k0_part44_eq_skeleton, k0_part44_skel, k0_part45_eq_skeleton, k0_part45_skel,
        k0_part46_eq_skeleton, k0_part46_skel, k0_part47_eq_skeleton, k0_part47_skel, k0_part48_eq_skeleton, k0_part48_skel, k0_part49_eq_skeleton,
        k0_part49_skel, k0_part50_eq_skeleton, k0_part50_skel, k0_part51_eq_skeleton, k0_part51_skel, k0_part52_eq_skeleton, k0_part52_skel,
        k0_part53_eq_skeleton, k0_part53_skel, k0_part54_eq_skeleton, k0_part54_skel, k0_part55_eq_skeleton, k0_part55_skel, k0_part56_eq_skeleton,
        k0_part56_skel, k0_part57_eq_skeleton, k0_part57_skel, k0_part58_eq_skeleton, k0_part58_skel, k0_part59_eq_skeleton, k0_part59_skel,
        k0_part60_eq_skeleton, k0_part60_skel, k0_part61_eq_skeleton, k0_part61_skel, k0_part62_eq_skeleton, k0_part62_skel, k0_part63_eq_skeleton,
        k0_part63_skel, k0_part64_eq_skeleton, k0_part64_skel, k0_part65_eq_skeleton, k0_part65_skel, k0_part66_eq_skeleton, k0_part66_skel,
        k0_part67_eq_skeleton, k0_part67_skel, k0_part68_eq_skeleton, k0_part68_skel, k0_part69_eq_skeleton, k0_part69_skel, k0_part70_eq_skeleton,
        k0_part70_skel, k0_part71_eq_skeleton, k0_part71_skel, k0_part72_eq_skeleton, k0_part72_skel, k0_part73_eq_skeleton, k0_part73_skel,
        k0_part74_eq_skeleton, k0_part74_skel, k0_part75_eq_skeleton, k0_part75_skel, k0_part76_eq_skeleton, k0_part76_skel, k0_part77_eq_skeleton,
        k0_part77_skel, k0_part78_eq_skeleton, k0_part78_skel, k0_part79_eq_skeleton, k0_part79_skel, k0_part80_eq_skeleton, k0_part80_skel,
        k0_part81_eq_skeleton, k0_part81_skel, k0_part82_eq_skeleton, k0_part82_skel, k0_part83_eq_skeleton, k0_part83_skel, k0_part84_eq_skeleton,
        k0_part84_skel, k0_part85_eq_skeleton, k0_part85_skel, k0_part86_eq_skeleton, k0_part86_skel, k0_part87_eq_skeleton, k0_part87_skel,
        k0_part88_eq_skeleton, k0_part88_skel, k0_part89_eq_skeleton, k0_part89_skel, k0_part90_eq_skeleton, k0_part90_skel, k0_part91_eq_skeleton,
        k0_part91_skel, k0_part92_eq_skeleton, k0_part92_skel, k0_part93_eq_skeleton, k0_part93_skel, k0_part94_eq_skeleton, k0_part94_skel,
        k0_part95_eq_skeleton, k0_part95_skel, k0_part96_eq_skeleton, k0_part96_skel, k0_part97_eq_skeleton, k0_part97_skel, k0_part98_eq_skeleton,
        k0_part98_skel, k0_part99_eq_skeleton, k0_part99_skel, k0_part100_eq_skeleton, k0_part100_skel, k0_part101_eq_skeleton, k0_part101_skel,
        k0_part102_eq_skeleton, k0_part102_skel, k0_part103_eq_skeleton, k0_part103_skel, k0_part104_eq_skeleton, k0_part104_skel, k0_part105_eq_skeleton,
        k0_part105_skel, k0_part106_eq_skeleton, k0_part106_skel, k0_part107_eq_skeleton, k0_part107_skel, k0_part108_eq_skeleton, k0_part108_skel,
        k0_part109_eq_skeleton, k0_part109_skel, k0_part110_eq_skeleton, k0_part110_skel, k0_part111_eq_skeleton, k0_part111_skel, k0_part112_eq_skeleton,
        k0_part112_skel, k0_part113_eq_skeleton, k0_part113_skel, k0_part114_eq_skeleton, k0_part114_skel, k0_part115_eq_skeleton, k0_part115_skel,
        k0_part116_eq_skeleton, k0_part116_skel, k0_part117_eq_skeleton, k0_part117_skel, k0_part118_eq_skeleton, k0_part118_skel, k0_part119_eq_skeleton,
        k0_part119_skel, Prog.lift, Prog.bind_op, Prog.bind_ret, Prog.pure_eq_ret])
    | exact rfl
    | dsimp only
    )
end
end Cert.Exchange

end
-- ==== Proof.Opening.lean ====
/-
  How the buffers a device starts with are dealt out: to its own streams, and to its partners as the room their
  transfers land in.
-/
module

public import proofs.«01_k».proof.Proof.Start

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Rows apart, whatever the columns. -/
theorem box_apart {d : Fin 2 → ℕ} (r n r' m c w c' w' : ℕ) (h : r + n ≤ r' ∨ r' + m ≤ r) :
    Disjoint (box (s := ⟨2, d⟩) ![r, c] ![n, w]) (box ![r', c'] ![m, w']) := by
  rw [Finset.disjoint_left]; intro i; simp only [mem_box₂]; omega

theorem rail_rows : ∀ g : Fin 3, rows g = 2 * hh g 0 := by decide

/-! ## The streams' rectangles make up a whole buffer -/

theorem stream_at : ∀ (g : Fin 3) (q : Fin 4), ∃ s : Stream, rail s = g ∧ col s = 256 * q.val := by decide
theorem stream_cols : ∀ s : Stream, col s + 256 ≤ 1024 := by decide
theorem stream_apart : ∀ s s' : Stream, s ≠ s' → rail s ≠ rail s' ∨ col s + 256 ≤ col s' ∨ col s' + 256 ≤ col s := by decide

theorem rail_at (i : ℕ) (hi : i < 1024) : ∃ g : Fin 3, base g ≤ i ∧ i < base g + rows g := by
  by_cases h1 : i < 384
  · exact ⟨0, Nat.zero_le _, h1⟩
  by_cases h2 : i < 768
  · exact ⟨1, not_lt.mp h1, h2⟩
  · exact ⟨2, not_lt.mp h2, hi⟩
theorem rail_in : ∀ g : Fin 3, base g + rows g ≤ 1024 := by decide
theorem rail_apart : ∀ g g' : Fin 3, g ≠ g' → base g + rows g ≤ base g' ∨ base g' + rows g' ≤ base g := by decide

/-- The streams' rows of the result, or of the partial sums. -/
theorem cover (c : Dev nD) : box (s := S1024x1024) ![0, 0] ![1024, 1024]
    = Finset.univ.biUnion fun s : Stream => box (s := S1024x1024) ![cur c (rail s) 0, col s] ![2 * hh (rail s) 0, 256] := by
  ext i
  simp only [Finset.mem_biUnion, Finset.mem_univ, true_and, ← rail_rows]
  have hm : ∀ s : Stream, i ∈ box (s := S1024x1024) ![cur c (rail s) 0, col s] ![rows (rail s), 256]
      ↔ (base (rail s) ≤ (i 0 : ℕ) ∧ (i 0 : ℕ) < base (rail s) + rows (rail s)) ∧ (col s ≤ (i 1 : ℕ) ∧ (i 1 : ℕ) < col s + 256) := fun s => mem_box₂
  simp only [hm]
  have hw : i ∈ box (s := S1024x1024) ![0, 0] ![1024, 1024] ↔ (0 ≤ (i 0 : ℕ) ∧ (i 0 : ℕ) < 0 + 1024) ∧ (0 ≤ (i 1 : ℕ) ∧ (i 1 : ℕ) < 0 + 1024) := mem_box₂
  rw [hw]
  constructor
  · rintro ⟨⟨-, h0⟩, -, h1⟩
    obtain ⟨g, hg⟩ := rail_at (i 0) (by omega)
    obtain ⟨s, rfl, hs⟩ := stream_at g ⟨(i 1 : ℕ) / 256, by omega⟩
    refine ⟨s, hg, ?_⟩
    rw [hs]; simp only; omega
  · rintro ⟨s, h0, h1⟩
    have := rail_in (rail s)
    have := stream_cols s
    omega

theorem cover_disj (c : Dev nD) (s s' : Stream) (h : s ≠ s') :
    Disjoint (box (s := S1024x1024) ![cur c (rail s) 0, col s] ![2 * hh (rail s) 0, 256]) (box (s := S1024x1024) ![cur c (rail s') 0, col s'] ![2 * hh (rail s') 0, 256]) := by
  rw [← rail_rows, ← rail_rows]
  rcases stream_apart s s' h with hg | hc
  · exact box_apart _ _ _ _ _ _ _ _ (rail_apart _ _ hg)
  · exact box_cols_disj _ _ _ _ _ _ _ _ hc

theorem land_at : ∀ i : Fin 960, ∃ g : Fin 3, ∃ r : Fin 4, rrow g r ≤ i.val ∧ i.val < rrow g r + hh g r := by decide +kernel
theorem land_in : ∀ (g : Fin 3) (r : Fin 4), rrow g r + hh g r ≤ 960 := by decide
theorem land_apart : ∀ (g g' : Fin 3) (r r' : Fin 4), (g, r) ≠ (g', r') → rrow g r + hh g r ≤ rrow g' r' ∨ rrow g' r' + hh g' r' ≤ rrow g r := by decide +kernel

/-- The landing buffer, by stream and round. -/
theorem cover_land : box (s := S960x1024) ![0, 0] ![960, 1024]
    = Finset.univ.biUnion fun t : Stream × Fin 4 => box (s := S960x1024) ![rrow (rail t.1) t.2, col t.1] ![hh (rail t.1) t.2, 256] := by
  ext i
  simp only [Finset.mem_biUnion, Finset.mem_univ, true_and]
  have hm : ∀ t : Stream × Fin 4, i ∈ box (s := S960x1024) ![rrow (rail t.1) t.2, col t.1] ![hh (rail t.1) t.2, 256]
      ↔ (rrow (rail t.1) t.2 ≤ (i 0 : ℕ) ∧ (i 0 : ℕ) < rrow (rail t.1) t.2 + hh (rail t.1) t.2) ∧ (col t.1 ≤ (i 1 : ℕ) ∧ (i 1 : ℕ) < col t.1 + 256) := fun s => mem_box₂
  simp only [hm]
  have hw : i ∈ box (s := S960x1024) ![0, 0] ![960, 1024] ↔ (0 ≤ (i 0 : ℕ) ∧ (i 0 : ℕ) < 0 + 960) ∧ (0 ≤ (i 1 : ℕ) ∧ (i 1 : ℕ) < 0 + 1024) := mem_box₂
  rw [hw]
  constructor
  · rintro ⟨⟨-, h0⟩, -, h1⟩
    obtain ⟨g, r, hg⟩ := land_at ⟨(i 0 : ℕ), by omega⟩
    obtain ⟨s, rfl, hs⟩ := stream_at g ⟨(i 1 : ℕ) / 256, by omega⟩
    refine ⟨(s, r), hg, ?_⟩
    simp only [hs]; omega
  · rintro ⟨t, h0, h1⟩
    have := land_in (rail t.1) t.2
    have := stream_cols t.1
    omega

theorem cover_land_disj (t t' : Stream × Fin 4) (h : t ≠ t') :
    Disjoint (box (s := S960x1024) ![rrow (rail t.1) t.2, col t.1] ![hh (rail t.1) t.2, 256]) (box (s := S960x1024) ![rrow (rail t'.1) t'.2, col t'.1] ![hh (rail t'.1) t'.2, 256]) := by
  by_cases hg : (rail t.1, t.2) = (rail t'.1, t'.2)
  · rcases stream_apart t.1 t'.1 (fun e => h (Prod.ext e (Prod.mk.inj hg).2)) with hr | hc
    · exact absurd (Prod.mk.inj hg).1 hr
    · exact box_cols_disj _ _ _ _ _ _ _ _ hc
  · exact box_apart _ _ _ _ _ _ _ _ (land_apart _ _ _ _ hg)

/-! ## One stream's rectangles -/

section
variable (Z0 O0 : S1024x1024.Idx → F .f32) (c : Dev nD) (s : Stream)

/-- The rows worked on before a round, as they are kept and sent. -/
theorem oU_half (r : Fin 4) : oU O0 c s (cur c (rail s) r) (2 * hh (rail s) r)
    = iprop(oU O0 c s (cur c (rail s) (r + 1)) (hh (rail s) r) ∗ oU O0 c s (oth c (rail s) r) (hh (rail s) r)) :=
  pts_union _ _ (box_half c (rail s) r _ _) (box_half_disj c (rail s) r _ _)
theorem zU_half (r : Fin 4) : zU Z0 c s (cur c (rail s) r) (2 * hh (rail s) r)
    = iprop(zU Z0 c s (cur c (rail s) (r + 1)) (hh (rail s) r) ∗ zU Z0 c s (oth c (rail s) r) (hh (rail s) r)) :=
  pts_union _ _ (box_half c (rail s) r _ _) (box_half_disj c (rail s) r _ _)

theorem oU_next (r : Fin 3) : oU O0 c s (cur c (rail s) (r + 1)) (hh (rail s) r)
    ⊢ iprop(oU O0 c s (cur c (rail s) (r + 1 + 1)) (hh (rail s) (r + 1)) ∗ oAny (F := F) c s (oth c (rail s) (r + 1)) (hh (rail s) (r + 1))) := by
  rw [hh_succ (rail s) r]
  refine (Entails.of_eq (oU_half O0 c s ⟨r.val + 1, by omega⟩)).trans (Laws.sep_mono .rfl ?_)
  exact pts_any _ _ _ _ _

/-- The last rows are the stream's own; the rows sent are the partners'. -/
theorem oU_open : oU O0 c s (cur c (rail s) 0) (2 * hh (rail s) 0)
    ⊢ iprop(oU O0 c s (cur c (rail s) 4) (hh (rail s) 3) ∗ oAny (F := F) c s (oth c (rail s) 3) (hh (rail s) 3)
      ∗ oAny (F := F) c s (oth c (rail s) 2) (hh (rail s) 2) ∗ oAny (F := F) c s (oth c (rail s) 1) (hh (rail s) 1)
      ∗ oAny (F := F) c s (oth c (rail s) 0) (hh (rail s) 0)) := by
  have h0 : oU O0 c s (cur c (rail s) 0) (2 * hh (rail s) 0)
      ⊢ iprop(oU O0 c s (cur c (rail s) 1) (hh (rail s) 0) ∗ oAny (F := F) c s (oth c (rail s) 0) (hh (rail s) 0)) :=
    (Entails.of_eq (oU_half O0 c s 0)).trans (Laws.sep_mono .rfl (pts_any _ _ _ _ _))
  have h1 : oU O0 c s (cur c (rail s) 1) (hh (rail s) 0)
      ⊢ iprop(oU O0 c s (cur c (rail s) 2) (hh (rail s) 1) ∗ oAny (F := F) c s (oth c (rail s) 1) (hh (rail s) 1)) := oU_next O0 c s 0
  have h2 : oU O0 c s (cur c (rail s) 2) (hh (rail s) 1)
      ⊢ iprop(oU O0 c s (cur c (rail s) 3) (hh (rail s) 2) ∗ oAny (F := F) c s (oth c (rail s) 2) (hh (rail s) 2)) := oU_next O0 c s 1
  have h3 : oU O0 c s (cur c (rail s) 3) (hh (rail s) 2)
      ⊢ iprop(oU O0 c s (cur c (rail s) 4) (hh (rail s) 3) ∗ oAny (F := F) c s (oth c (rail s) 3) (hh (rail s) 3)) := oU_next O0 c s 2
  iintro H
  ihave H := h0 $$ H
  icases H with ⟨H, H0⟩
  ihave H := h1 $$ H
  icases H with ⟨H, H1⟩
  ihave H := h2 $$ H
  icases H with ⟨H, H2⟩
  ihave H := h3 $$ H
  icases H with ⟨H, H3⟩
  iframe

/-- Half of a round's rows, in the two quarters they come back in. -/
theorem oAny_land (r : Fin 3) : oAny (F := F) c s (oth c (rail s) r) (hh (rail s) r)
    ⊢ iprop(oAny (F := F) c s (cur (par c (rail s) r) (rail s) (r + 1 + 1)) (hh (rail s) (r + 1)) ∗ oAny (F := F) c s (oth (par c (rail s) r) (rail s) (r + 1)) (hh (rail s) (r + 1))) := by
  have e : hh (rail s) r = 2 * hh (rail s) (r + 1) := hh_succ (rail s) r
  have e' : cur (par c (rail s) r) (rail s) (r + 1) = oth c (rail s) r := (par_rows c (rail s) ⟨r.val, by omega⟩).2.2
  rw [e, ← e']
  exact ptsAny_split (box_half (par c (rail s) r) (rail s) ⟨r.val + 1, by omega⟩ _ _) (box_half_disj (par c (rail s) r) (rail s) ⟨r.val + 1, by omega⟩ _ _)

/-- A family over the transfers of a stream. -/
theorem bigSep_slots (Φ : Slot → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
theorem bigSep_rounds (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The room of one stream's transfers. -/
theorem land_slots : iprop((bigSep Finset.univ fun r : Fin 4 => rAny (F := F) c s r) ∗ oAny (F := F) c s (oth c (rail s) 3) (hh (rail s) 3)
      ∗ oAny (F := F) c s (oth c (rail s) 2) (hh (rail s) 2) ∗ oAny (F := F) c s (oth c (rail s) 1) (hh (rail s) 1)
      ∗ oAny (F := F) c s (oth c (rail s) 0) (hh (rail s) 0))
    ⊢ bigSep Finset.univ fun j : Slot => landAny (F := F) c (s, j) := by
  rw [bigSep_slots, bigSep_rounds]
  have h3 : oAny (F := F) c s (oth c (rail s) 3) (hh (rail s) 3) ⊢ landAny (F := F) c (s, 4) := by
    have e : cur (par c (rail s) 3) (rail s) 4 = oth c (rail s) 3 := (par_rows c (rail s) 3).2.2
    rw [← e]; exact .rfl
  have h2 : oAny (F := F) c s (oth c (rail s) 2) (hh (rail s) 2) ⊢ iprop(landAny (F := F) c (s, 5) ∗ landAny (F := F) c (s, 6)) := oAny_land c s 2
  have h1 : oAny (F := F) c s (oth c (rail s) 1) (hh (rail s) 1) ⊢ iprop(landAny (F := F) c (s, 7) ∗ landAny (F := F) c (s, 8)) := oAny_land c s 1
  have h0 : oAny (F := F) c s (oth c (rail s) 0) (hh (rail s) 0) ⊢ iprop(landAny (F := F) c (s, 9) ∗ landAny (F := F) c (s, 10)) := oAny_land c s 0
  have r0 : rAny (F := F) c s (0 : Fin 4) ⊢ landAny (F := F) c (s, 0) := .rfl
  have r1 : rAny (F := F) c s (1 : Fin 4) ⊢ landAny (F := F) c (s, 1) := .rfl
  have r2 : rAny (F := F) c s (2 : Fin 4) ⊢ landAny (F := F) c (s, 2) := .rfl
  have r3 : rAny (F := F) c s (3 : Fin 4) ⊢ landAny (F := F) c (s, 3) := .rfl
  iintro ⟨⟨R0, R1, R2, R3⟩, H3, H2, H1, H0⟩
  ihave H2 := h2 $$ H2
  icases H2 with ⟨H5, H6⟩
  ihave H1 := h1 $$ H1
  icases H1 with ⟨H7, H8⟩
  ihave H0 := h0 $$ H0
  icases H0 with ⟨H9, H10⟩
  isplitl [R0]; · iapply r0; iexact R0
  isplitl [R1]; · iapply r1; iexact R1
  isplitl [R2]; · iapply r2; iexact R2
  isplitl [R3]; · iapply r3; iexact R3
  isplitl [H3]; · iapply h3; iexact H3
  iframe

end

section
variable (A : Dev nD → S1024x512.Idx → F .f32) (B : Dev nD → S512x1024.Idx → F .f32)
variable (Z0 O0 : S1024x1024.Idx → F .f32) (c : Dev nD)

/-- What a device's four signals hand over is the room for everything that comes in. -/
theorem pays : (bigSep Finset.univ fun x => barPay (F := F) (pid c x) x)
    = bigSep Finset.univ fun s : Stream => bigSep Finset.univ fun j : Slot => landAny (F := F) c (s, j) := by
  unfold barPay
  rw [bigSep_swap, ← bigSep_univ_prod (fun q : Xfer => landAny (F := F) c (q.1, q.2))]
  refine bigSep_congr fun p _ => (bigSep_only (xdim p.1 p.2) fun x => landAny (F := F) (pid (pid c x) x) p).trans ?_
  rw [pid_pid]

theorem stream_open (s : Stream) : iprop(zU Z0 c s (cur c (rail s) 0) (2 * hh (rail s) 0) ∗ oU O0 c s (cur c (rail s) 0) (2 * hh (rail s) 0) ∗ bigSep Finset.univ fun r : Fin 4 => rAny (F := F) c s r)
    ⊢ iprop(Data A B Z0 O0 c s 0 ∗ bigSep Finset.univ fun j : Slot => landAny (F := F) c (s, j)) := by
  have hz : zU Z0 c s (cur c (rail s) 0) (2 * hh (rail s) 0) ⊢ iprop(zU Z0 c s (cur c (rail s) 1) (hh (rail s) 0) ∗ zU Z0 c s (oth c (rail s) 0) (hh (rail s) 0)) :=
    Entails.of_eq (zU_half Z0 c s 0)
  have hd : iprop((zU Z0 c s (oth c (rail s) 0) (hh (rail s) 0) ∗ zU Z0 c s (cur c (rail s) 1) (hh (rail s) 0)) ∗ oU O0 c s (cur c (rail s) 4) (hh (rail s) 3))
      ⊢ Data A B Z0 O0 c s 0 := .rfl
  iintro ⟨Hz, Ho, HR⟩
  ihave Hz := hz $$ Hz
  icases Hz with ⟨Hz1, Hz0⟩
  ihave Ho := (oU_open O0 c s) $$ Ho
  icases Ho with ⟨Ho, H3, H2, H1, H0⟩
  isplitl [Hz1 Hz0 Ho]
  · iapply hd
    iframe
  · iapply (land_slots (F := F) c s)
    iframe

/-- The three buffers, dealt out. -/
theorem opening : iprop(pts c zR ![0, 0] ![1024, 1024] fullShare Z0 ∗ pts c oR ![0, 0] ![1024, 1024] fullShare O0 ∗ ptsAny (F := F) c rR ![0, 0] ![960, 1024])
    ⊢ iprop((bigSep Finset.univ fun s : Stream => Data A B Z0 O0 c s 0) ∗ bigSep Finset.univ fun x => barPay (F := F) (pid c x) x) := by
  have hz : pts c zR ![0, 0] ![1024, 1024] fullShare Z0 ⊢ bigSep Finset.univ fun s : Stream => zU Z0 c s (cur c (rail s) 0) (2 * hh (rail s) 0) :=
    Entails.of_eq (pts_biUnion (b := zR) (fun s : Stream => ![cur c (rail s) 0, col s]) (fun s => ![2 * hh (rail s) 0, 256]) (cover c) (cover_disj c) fullShare Z0)
  have ho : pts c oR ![0, 0] ![1024, 1024] fullShare O0 ⊢ bigSep Finset.univ fun s : Stream => oU O0 c s (cur c (rail s) 0) (2 * hh (rail s) 0) :=
    Entails.of_eq (pts_biUnion (b := oR) (fun s : Stream => ![cur c (rail s) 0, col s]) (fun s => ![2 * hh (rail s) 0, 256]) (cover c) (cover_disj c) fullShare O0)
  have hr : ptsAny (F := F) c rR ![0, 0] ![960, 1024] ⊢ bigSep Finset.univ fun s : Stream => bigSep Finset.univ fun r : Fin 4 => rAny (F := F) c s r := by
    rw [← bigSep_univ_prod (fun t : Stream × Fin 4 => rAny (F := F) c t.1 t.2)]
    exact ptsAny_all (b := rR) (fun t : Stream × Fin 4 => ![rrow (rail t.1) t.2, col t.1]) (fun t => ![hh (rail t.1) t.2, 256]) cover_land cover_land_disj
  rw [pays, ← bigSep_sep']
  refine (Laws.sep_mono hz (Laws.sep_mono ho hr)).trans ?_
  rw [← bigSep_sep', ← bigSep_sep']
  exact bigSep_mono fun s _ => stream_open A B Z0 O0 c s

end

end Cert.Exchange

end
-- ==== Proof.Closing.lean ====
/-
  What a device holds after its last step: the whole result, its buffers back, and every cell closed.
-/
module

public import proofs.«01_k».proof.Proof.Opening

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A : Dev nD → S1024x512.Idx → F .f32) (B : Dev nD → S512x1024.Idx → F .f32)
variable (Z0 O0 : S1024x1024.Idx → F .f32) (K : Dev nD × Cel → ℕ) (c : Dev nD) (s : Stream)

/-! ## The result's rows -/

/-- Two halves of a share. -/
theorem oP_join (row n : ℕ) (q : PosShare TreeShare) : iprop(oP A B c s row n q.left ∗ oP A B c s row n q.right) ⊢ oP A B c s row n q :=
  Entails.of_eq (oP_share A B c s row n q).symm

/-- The four parts a share is lent in. -/
theorem oP_parts (row n : ℕ) : iprop(oP A B c s row n fullShare.left ∗ oP A B c s row n fullShare.right.left
    ∗ oP A B c s row n fullShare.right.right.left ∗ oP A B c s row n fullShare.right.right.right) ⊢ oP A B c s row n fullShare := by
  iintro ⟨H1, H2, H3, H4⟩
  ihave H := (oP_join A B c s row n fullShare.right.right) $$ [H3 H4]
  · isplitl [H3]; · iexact H3
    iexact H4
  ihave H := (oP_join A B c s row n fullShare.right) $$ [H2 H]
  · isplitl [H2]; · iexact H2
    iexact H
  iapply (oP_join A B c s row n fullShare)
  isplitl [H1]; · iexact H1
  iexact H

/-- The rows a round kept and sent make up the rows before it. -/
theorem oP_up (r : Fin 3) (q : PosShare TreeShare) :
    iprop(oP A B c s (cur c (rail s) (r + 1 + 1)) (hh (rail s) (r + 1)) q ∗ oP A B c s (oth c (rail s) (r + 1)) (hh (rail s) (r + 1)) q)
      ⊢ oP A B c s (cur c (rail s) (r + 1)) (hh (rail s) r) q := by
  rw [hh_succ (rail s) r]
  exact Entails.of_eq (oP_half A B c c s ⟨r.val + 1, by omega⟩ q).symm

theorem oP_down (r : Fin 3) (q : PosShare TreeShare) :
    oP A B c s (cur c (rail s) (r + 1)) (hh (rail s) r) q
      ⊢ iprop(oP A B c s (cur c (rail s) (r + 1 + 1)) (hh (rail s) (r + 1)) q ∗ oP A B c s (oth c (rail s) (r + 1)) (hh (rail s) (r + 1)) q) := by
  rw [hh_succ (rail s) r]
  exact Entails.of_eq (oP_half A B c c s ⟨r.val + 1, by omega⟩ q)

/-- All that was lent of a stream's finished rows, back together. -/
theorem oP_close : iprop((oP A B c s (cur c (rail s) 4) (hh (rail s) 3) fullShare.left ∗ oP A B c s (cur c (rail s) 4) (hh (rail s) 3) fullShare.right.left
      ∗ oP A B c s (oth c (rail s) 3) (hh (rail s) 3) fullShare.left ∗ oP A B c s (cur c (rail s) 3) (hh (rail s) 2) fullShare.right.right.left
      ∗ oP A B c s (oth c (rail s) 2) (hh (rail s) 2) fullShare.left ∗ oP A B c s (cur c (rail s) 2) (hh (rail s) 1) fullShare.right.right.right
      ∗ oP A B c s (oth c (rail s) 1) (hh (rail s) 1) fullShare)
      ∗ oP A B c s (oth c (rail s) 0) (hh (rail s) 0) fullShare ∗ spare A B c s)
    ⊢ oP A B c s (cur c (rail s) 0) (2 * hh (rail s) 0) fullShare := by
  have d3 : oP A B c s (cur c (rail s) 3) (hh (rail s) 2) fullShare.right.right.left
      ⊢ iprop(oP A B c s (cur c (rail s) 4) (hh (rail s) 3) fullShare.right.right.left ∗ oP A B c s (oth c (rail s) 3) (hh (rail s) 3) fullShare.right.right.left) := oP_down A B c s 2 _
  have d2 : oP A B c s (cur c (rail s) 2) (hh (rail s) 1) fullShare.right.right.right
      ⊢ iprop(oP A B c s (cur c (rail s) 3) (hh (rail s) 2) fullShare.right.right.right ∗ oP A B c s (oth c (rail s) 2) (hh (rail s) 2) fullShare.right.right.right) := oP_down A B c s 1 _
  have d2' : oP A B c s (cur c (rail s) 3) (hh (rail s) 2) fullShare.right.right.right
      ⊢ iprop(oP A B c s (cur c (rail s) 4) (hh (rail s) 3) fullShare.right.right.right ∗ oP A B c s (oth c (rail s) 3) (hh (rail s) 3) fullShare.right.right.right) := oP_down A B c s 2 _
  have u3 : iprop(oP A B c s (cur c (rail s) 4) (hh (rail s) 3) fullShare ∗ oP A B c s (oth c (rail s) 3) (hh (rail s) 3) fullShare)
      ⊢ oP A B c s (cur c (rail s) 3) (hh (rail s) 2) fullShare := oP_up A B c s 2 _
  have u2 : iprop(oP A B c s (cur c (rail s) 3) (hh (rail s) 2) fullShare ∗ oP A B c s (oth c (rail s) 2) (hh (rail s) 2) fullShare)
      ⊢ oP A B c s (cur c (rail s) 2) (hh (rail s) 1) fullShare := oP_up A B c s 1 _
  have u1 : iprop(oP A B c s (cur c (rail s) 2) (hh (rail s) 1) fullShare ∗ oP A B c s (oth c (rail s) 1) (hh (rail s) 1) fullShare)
      ⊢ oP A B c s (cur c (rail s) 1) (hh (rail s) 0) fullShare := oP_up A B c s 0 _
  have u0 : iprop(oP A B c s (cur c (rail s) 1) (hh (rail s) 0) fullShare ∗ oP A B c s (oth c (rail s) 0) (hh (rail s) 0) fullShare)
      ⊢ oP A B c s (cur c (rail s) 0) (2 * hh (rail s) 0) fullShare := Entails.of_eq (oP_half A B c c s 0 _).symm
  unfold spare
  iintro ⟨⟨C1, C2, T1, C3, S1, C4, Q⟩, P, T2, S2, S3⟩
  ihave C3 := d3 $$ C3
  icases C3 with ⟨C3, T3⟩
  ihave C4 := d2 $$ C4
  icases C4 with ⟨C4, S4⟩
  ihave C4 := d2' $$ C4
  icases C4 with ⟨C4, T4⟩
  ihave C := (oP_parts A B c s (cur c (rail s) 4) (hh (rail s) 3)) $$ [C1 C2 C3 C4]
  · iframe
  ihave T := (oP_parts A B c s (oth c (rail s) 3) (hh (rail s) 3)) $$ [T1 T2 T3 T4]
  · iframe
  ihave S := (oP_parts A B c s (oth c (rail s) 2) (hh (rail s) 2)) $$ [S1 S2 S3 S4]
  · iframe
  ihave C := u3 $$ [C T]
  · iframe
  ihave C := u2 $$ [C S]
  · iframe
  ihave C := u1 $$ [C Q]
  · iframe
  iapply u0
  iframe

/-! ## The partial sums' rows -/

theorem zP_any (row n r : ℕ) : zP A B c s row n r ⊢ zAny (F := F) c s row n := pts_any _ _ _ _ _

theorem zAny_up (r : Fin 3) :
    iprop(zAny (F := F) c s (cur c (rail s) (r + 1 + 1)) (hh (rail s) (r + 1)) ∗ zAny (F := F) c s (oth c (rail s) (r + 1)) (hh (rail s) (r + 1)))
      ⊢ zAny (F := F) c s (cur c (rail s) (r + 1)) (hh (rail s) r) := by
  rw [hh_succ (rail s) r]
  exact ptsAny_join (box_half c (rail s) ⟨r.val + 1, by omega⟩ _ _) (box_half_disj c (rail s) ⟨r.val + 1, by omega⟩ _ _)

theorem zP_close : iprop((zP A B c s (oth c (rail s) 0) (hh (rail s) 0) 0 ∗ zP A B c s (oth c (rail s) 1) (hh (rail s) 1) 1
      ∗ zP A B c s (oth c (rail s) 2) (hh (rail s) 2) 2 ∗ zP A B c s (oth c (rail s) 3) (hh (rail s) 3) 3)
      ∗ zP A B c s (cur c (rail s) 4) (hh (rail s) 3) 4)
    ⊢ zAny (F := F) c s (cur c (rail s) 0) (2 * hh (rail s) 0) := by
  have u3 : iprop(zAny (F := F) c s (cur c (rail s) 4) (hh (rail s) 3) ∗ zAny (F := F) c s (oth c (rail s) 3) (hh (rail s) 3))
      ⊢ zAny (F := F) c s (cur c (rail s) 3) (hh (rail s) 2) := zAny_up (F := F) c s 2
  have u2 : iprop(zAny (F := F) c s (cur c (rail s) 3) (hh (rail s) 2) ∗ zAny (F := F) c s (oth c (rail s) 2) (hh (rail s) 2))
      ⊢ zAny (F := F) c s (cur c (rail s) 2) (hh (rail s) 1) := zAny_up (F := F) c s 1
  have u1 : iprop(zAny (F := F) c s (cur c (rail s) 2) (hh (rail s) 1) ∗ zAny (F := F) c s (oth c (rail s) 1) (hh (rail s) 1))
      ⊢ zAny (F := F) c s (cur c (rail s) 1) (hh (rail s) 0) := zAny_up (F := F) c s 0
  have u0 : iprop(zAny (F := F) c s (cur c (rail s) 1) (hh (rail s) 0) ∗ zAny (F := F) c s (oth c (rail s) 0) (hh (rail s) 0))
      ⊢ zAny (F := F) c s (cur c (rail s) 0) (2 * hh (rail s) 0) := ptsAny_join (box_half c (rail s) 0 _ _) (box_half_disj c (rail s) 0 _ _)
  iintro ⟨⟨H0, H1, H2, H3⟩, H⟩
  ihave H0 := (zP_any A B c s _ _ _) $$ H0
  ihave H1 := (zP_any A B c s _ _ _) $$ H1
  ihave H2 := (zP_any A B c s _ _ _) $$ H2
  ihave H3 := (zP_any A B c s _ _ _) $$ H3
  ihave H := (zP_any A B c s _ _ _) $$ H
  ihave H := u3 $$ [H H3]
  · iframe
  ihave H := u2 $$ [H H2]
  · iframe
  ihave H := u1 $$ [H H1]
  · iframe
  iapply u0
  iframe

/-! ## One stream -/

theorem last_facts : ∀ j : Slot, ¬ 40 ≤ sendAt j ∧ ¬ 40 ≤ swaitAt j ∧ ¬ 40 ≤ rwaitAt j := by decide

/-- What a stream leaves. -/
def Left : sProp 𝕄 :=
  iprop(oP A B c s (cur c (rail s) 0) (2 * hh (rail s) 0) fullShare ∗ zAny (F := F) c s (cur c (rail s) 0) (2 * hh (rail s) 0)
    ∗ (bigSep Finset.univ fun r : Fin 4 => rAny (F := F) c s r)
    ∗ (bigSep Finset.univ fun j : Slot => atPos ER (sCell c (s, j)) 1 ∅ 0) ∗ bigSep Finset.univ fun j : Slot => atPos ER (rCell c (s, j)) 1 ∅ 0)

theorem stream_close : Str A B Z0 O0 c s 40 ⊢ Left A B c s := by
  have hs : (bigSep Finset.univ fun j : Slot => Snd A B c (s, j) 40)
      = iprop((bigSep Finset.univ fun j : Slot => atPos ER (sCell c (s, j)) 1 ∅ 0) ∗ bigSep Finset.univ fun j : Slot => srcPay A B c (s, j)) := by
    rw [← bigSep_sep']
    exact bigSep_congr fun j _ => by unfold Snd; rw [if_neg (last_facts j).1, if_neg (last_facts j).2.1]
  have hr : (bigSep Finset.univ fun j : Slot => Rcv A B c (s, j) 40)
      = iprop((bigSep Finset.univ fun j : Slot => atPos ER (rCell c (s, j)) 1 ∅ 0) ∗ bigSep Finset.univ fun j : Slot => kept A B c (s, j)) := by
    rw [← bigSep_sep']
    exact bigSep_congr fun j _ => by unfold Rcv; rw [if_neg (last_facts j).2.2]
  have hd : Data A B Z0 O0 c s 40 ⊢ iprop(zP A B c s (cur c (rail s) 4) (hh (rail s) 3) 4 ∗ oP A B c s (oth c (rail s) 0) (hh (rail s) 0) fullShare ∗ spare A B c s) := .rfl
  have hp : (bigSep Finset.univ fun j : Slot => srcPay A B c (s, j))
      ⊢ iprop((zP A B c s (oth c (rail s) 0) (hh (rail s) 0) 0 ∗ zP A B c s (oth c (rail s) 1) (hh (rail s) 1) 1
        ∗ zP A B c s (oth c (rail s) 2) (hh (rail s) 2) 2 ∗ zP A B c s (oth c (rail s) 3) (hh (rail s) 3) 3)
      ∗ (oP A B c s (cur c (rail s) 4) (hh (rail s) 3) fullShare.left ∗ oP A B c s (cur c (rail s) 4) (hh (rail s) 3) fullShare.right.left
      ∗ oP A B c s (oth c (rail s) 3) (hh (rail s) 3) fullShare.left ∗ oP A B c s (cur c (rail s) 3) (hh (rail s) 2) fullShare.right.right.left
      ∗ oP A B c s (oth c (rail s) 2) (hh (rail s) 2) fullShare.left ∗ oP A B c s (cur c (rail s) 2) (hh (rail s) 1) fullShare.right.right.right
      ∗ oP A B c s (oth c (rail s) 1) (hh (rail s) 1) fullShare)) := by
    rw [bigSep_slots]
    show iprop(zP A B c s (oth c (rail s) 0) (hh (rail s) 0) 0 ∗ zP A B c s (oth c (rail s) 1) (hh (rail s) 1) 1
        ∗ zP A B c s (oth c (rail s) 2) (hh (rail s) 2) 2 ∗ zP A B c s (oth c (rail s) 3) (hh (rail s) 3) 3
      ∗ oP A B c s (cur c (rail s) 4) (hh (rail s) 3) fullShare.left ∗ oP A B c s (cur c (rail s) 4) (hh (rail s) 3) fullShare.right.left
      ∗ oP A B c s (oth c (rail s) 3) (hh (rail s) 3) fullShare.left ∗ oP A B c s (cur c (rail s) 3) (hh (rail s) 2) fullShare.right.right.left
      ∗ oP A B c s (oth c (rail s) 2) (hh (rail s) 2) fullShare.left ∗ oP A B c s (cur c (rail s) 2) (hh (rail s) 1) fullShare.right.right.right
      ∗ oP A B c s (oth c (rail s) 1) (hh (rail s) 1) fullShare) ⊢ _
    iintro ⟨H0, H1, H2, H3, H4⟩
    iframe
  have hk : (bigSep Finset.univ fun j : Slot => kept A B c (s, j)) ⊢ bigSep Finset.univ fun r : Fin 4 => rAny (F := F) c s r := by
    rw [bigSep_slots, bigSep_rounds]
    show iprop(rP A B c s 0 ∗ rP A B c s 1 ∗ rP A B c s 2 ∗ rP A B c s 3 ∗ emp ∗ emp ∗ emp ∗ emp ∗ emp ∗ emp ∗ emp)
      ⊢ iprop(rAny (F := F) c s 0 ∗ rAny (F := F) c s 1 ∗ rAny (F := F) c s 2 ∗ rAny (F := F) c s 3)
    have ha : ∀ r : ℕ, rP A B c s r ⊢ rAny (F := F) c s r := fun r => pts_any _ _ _ _ _
    iintro ⟨H0, H1, H2, H3, -⟩
    isplitl [H0]; · iapply (ha 0); iexact H0
    isplitl [H1]; · iapply (ha 1); iexact H1
    isplitl [H2]; · iapply (ha 2); iexact H2
    iapply (ha 3); iexact H3
  unfold Str Left
  rw [hs, hr]
  iintro ⟨HD, ⟨Has, Hs⟩, Har, Hr⟩
  ihave HD := hd $$ HD
  icases HD with ⟨Hz, Ho, Hsp⟩
  ihave Hs := hp $$ Hs
  icases Hs with ⟨Hzs, Hos⟩
  ihave Hr := hk $$ Hr
  isplitl [Hos Ho Hsp]
  · iapply (oP_close A B c s)
    iframe
  isplitl [Hzs Hz]
  · iapply (zP_close A B c s)
    iframe
  iframe

/-! ## The device -/

/-- Every cell's position after its one round. -/
def Done : sProp 𝕄 := bigSep Finset.univ fun k : Cel => atPos ER (cellAt c k) 1 ∅ 0

/-- A family over a device's cells. -/
theorem bigSep_cels (Φ : Cel → sProp 𝕄) : bigSep Finset.univ Φ
    = iprop(Φ none ∗ (bigSep Finset.univ fun p : Xfer => Φ (some (false, p))) ∗ bigSep Finset.univ fun p : Xfer => Φ (some (true, p))) := by
  have h : (Finset.univ : Finset Cel) = insert none (Finset.univ.map Function.Embedding.some) := by
    ext k; cases k <;> simp
  rw [h, BI.bigSep_insert (by simp), bigSep_map, bigSep_univ_prod]
  refine congrArg (fun X => iprop(Φ none ∗ X)) ?_
  rw [show (Finset.univ : Finset Bool) = {false, true} from by decide, BI.bigSep_insert (by decide), bigSep_singleton]
  rfl

theorem cells_close : iprop(records A B K ∗ Done (F := F) c) ⊢ |={Set.univ}=> bigSep Finset.univ fun k : Cel => semVal (cellAt c k) 0 := by
  have h : ∀ k : Cel, iprop(records A B K ∗ atPos ER (cellAt c k) 1 ∅ 0) ⊢ iprop(|={Set.univ}=> semVal (cellAt c k) 0) := fun k => by
    iintro ⟨#HR, Hat⟩
    iapply (Rounds.cell_close ER (Rd A B) (Set.mem_univ (K (c, k))) (fun h => h) (R := 1) (duties_later A B (cellAt c k)))
    isplitr
    · iapply (inv_at A B K c k); iexact HR
    · iexact Hat
  unfold Done
  refine (Laws.sep_mono_left (BI.bigSep_of_persistent (Finset.univ : Finset Cel) (records A B K))).trans ?_
  rw [← bigSep_sep']
  exact (bigSep_mono fun k _ => h k).trans (bigSep_fupd _ _)

/-- What a device is left with. -/
def Final : sProp 𝕄 :=
  iprop((∃ W, owes (c : Thread nD τ) (0 : CellTallies nD τ sig Unit) W) ∗ aPts A c ∗ bPts B c ∗ pts c oR ![0, 0] ![1024, 1024] fullShare (gf A B)
    ∗ ptsAny (F := F) c zR ![0, 0] ![1024, 1024] ∗ ptsAny (F := F) c rR ![0, 0] ![960, 1024] ∗ bigSep Finset.univ fun k : Cel => semVal (cellAt c k) 0)

theorem strs_close : Strs A B Z0 O0 c total ⊢ iprop(pts c oR ![0, 0] ![1024, 1024] fullShare (gf A B)
    ∗ ptsAny (F := F) c zR ![0, 0] ![1024, 1024] ∗ ptsAny (F := F) c rR ![0, 0] ![960, 1024]
    ∗ (bigSep Finset.univ fun p : Xfer => atPos ER (sCell c p) 1 ∅ 0) ∗ bigSep Finset.univ fun p : Xfer => atPos ER (rCell c p) 1 ∅ 0) := by
  have ho : (bigSep Finset.univ fun s : Stream => oP A B c s (cur c (rail s) 0) (2 * hh (rail s) 0) fullShare) ⊢ pts c oR ![0, 0] ![1024, 1024] fullShare (gf A B) :=
    Entails.of_eq (pts_biUnion (b := oR) (fun s : Stream => ![cur c (rail s) 0, col s]) (fun s => ![2 * hh (rail s) 0, 256]) (cover c) (cover_disj c) fullShare (gf A B)).symm
  have hz : (bigSep Finset.univ fun s : Stream => zAny (F := F) c s (cur c (rail s) 0) (2 * hh (rail s) 0)) ⊢ ptsAny (F := F) c zR ![0, 0] ![1024, 1024] :=
    ptsAny_ofAll (b := zR) (fun s : Stream => ![cur c (rail s) 0, col s]) (fun s => ![2 * hh (rail s) 0, 256]) (cover c) (cover_disj c) Z0
  have hr : (bigSep Finset.univ fun s : Stream => bigSep Finset.univ fun r : Fin 4 => rAny (F := F) c s r) ⊢ ptsAny (F := F) c rR ![0, 0] ![960, 1024] := by
    rw [← bigSep_univ_prod (fun t : Stream × Fin 4 => rAny (F := F) c t.1 t.2)]
    exact ptsAny_ofAll (b := rR) (fun t : Stream × Fin 4 => ![rrow (rail t.1) t.2, col t.1]) (fun t => ![hh (rail t.1) t.2, 256]) cover_land cover_land_disj
      (fun _ => Z0 (ix 1024 1024 0 0))
  have h : Strs A B Z0 O0 c total ⊢ bigSep Finset.univ fun s : Stream => Left A B c s := by
    unfold Strs
    exact bigSep_mono fun s _ => by rw [kv_total]; exact stream_close A B Z0 O0 c s
  refine h.trans ?_
  unfold Left
  rw [bigSep_sep', bigSep_sep', bigSep_sep', bigSep_sep', bigSep_univ_prod (fun p : Xfer => (atPos ER (sCell c p) 1 ∅ 0 : sProp 𝕄)),
    bigSep_univ_prod (fun p : Xfer => (atPos ER (rCell c p) 1 ∅ 0 : sProp 𝕄))]
  exact Laws.sep_mono ho (Laws.sep_mono hz (Laws.sep_mono hr .rfl))

theorem Ow_total : Ow c total = 0 := by
  unfold Ow
  refine Finset.sum_eq_zero fun p _ => if_neg ?_
  rw [kv_total]; exact (last_facts p.2).1

/-- After the last step. -/
theorem closing : iprop(Inv A B K Z0 O0 c total ∗ atPos ER (barCell c) 1 ∅ 0) ⊢ iprop(|={Set.univ}=> Final A B c) := by
  have hd : iprop(atPos ER (barCell c) 1 ∅ 0 ∗ (bigSep Finset.univ fun p : Xfer => atPos ER (sCell c p) 1 ∅ 0) ∗ bigSep Finset.univ fun p : Xfer => atPos ER (rCell c p) 1 ∅ 0)
      ⊢ Done (F := F) c := Entails.of_eq (bigSep_cels (fun k : Cel => (atPos ER (cellAt c k) 1 ∅ 0 : sProp 𝕄))).symm
  unfold Inv Tok Final
  rw [Ow_total]
  iintro ⟨⟨HO, HS, Ha, Hb, #HR, -⟩, Hat⟩
  ihave HS := (strs_close A B Z0 O0 c) $$ HS
  icases HS with ⟨Ho, Hz, Hr, Hs1, Hs2⟩
  ihave HD := hd $$ [Hat Hs1 Hs2]
  · iframe
  imod (cells_close A B K c) $$ [HD] with HC
  · isplitr; · iexact HR
    iexact HD
  imodintro
  iframe

end

end Cert.Exchange

end
-- ==== Proof.Deal.lean ====
module

public import proofs.«01_k».proof.Proof.Closing

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # What the launch deals out

Every cell's counter, positions and tokens start in one hand. Each device keeps the positions of its own cells; the
tokens go to the devices that will pay with them: a partner's barrier, a partner's receiving cells, its own sending cells. -/

theorem ownSemFacts : Pipeline.OwnSemFacts cfg0.spec osem where
  isScoped := by decide +kernel
  inj := fun a b h => Option.some.inj (csem_inj (a₁ := some a) (a₂ := some b) h)
  disj := by
    have h : ∀ k w s, dec (.dma ((cfg0.spec w).sem s)) ≠ some (some k) := by
      intro k w s; fin_cases w <;> fin_cases s <;> exact fun h => by cases h
    exact fun k w s e => h k w s ((congrArg dec e).symm.trans (dec_csem (some k)))

theorem cellAt_inj : Function.Injective fun ck : Dev nD × Cel => cellAt ck.1 ck.2 := by
  rintro ⟨c, k⟩ ⟨c', k'⟩ h
  have h1 : c = c' := congrArg (fun g : GSem nD τ sig => g.1.1) h
  have h2 : k = k' := csem_inj (congrArg Prod.snd h)
  rw [h1, h2]

theorem tok_inj : Function.Injective fun ck : (Dev nD × Cel) × Fin 4 => ((cellAt ck.1.1 ck.1.2, 0, ck.2) : GSem nD τ sig × ℕ × Fin 4) := by
  rintro ⟨a, d⟩ ⟨a', d'⟩ h
  have h1 : a = a' := cellAt_inj (congrArg Prod.fst h)
  have h2 : d = d' := congrArg (fun x : GSem nD τ sig × ℕ × Fin 4 => x.2.2) h
  rw [h1, h2]

def allCells : Finset (GSem nD τ sig) := Finset.univ.map ⟨_, cellAt_inj⟩
def allToks : Finset (GSem nD τ sig × ℕ × Fin 4) := Finset.univ.map ⟨_, tok_inj⟩

/-- The ghost state of the run: the staging copies' and the exchange's. -/
def u₀ : UU := (initOf (Pipeline.cells cfgs cellOf_inj) (Pipeline.launchToks cfgs cellOf_inj), initOf allCells allToks)

section
variable (A : Dev nD → S1024x512.Idx → F .f32) (B : Dev nD → S512x1024.Idx → F .f32) (K : Dev nD × Cel → ℕ)

/-- A device's positions, with the marks that its cells are at their first round. -/
def Marks (c : Dev nD) : sProp 𝕄 := bigSep Finset.univ fun k : Cel => iprop(atPos ER (cellAt c k) 0 ∅ 0 ∗ reached ER (cellAt c k) 0)
/-- All tokens of a device's cells. -/
def Own (c : Dev nD) : sProp 𝕄 := bigSep Finset.univ fun k : Cel => bigSep Finset.univ fun d : Fin 4 => dutyTok ER (cellAt c k) 0 d
/-- The tokens a device pays with. -/
def Pay (c : Dev nD) : sProp 𝕄 :=
  iprop((bigSep Finset.univ fun x : Fin 4 => dutyTok ER (barCell (pid c x)) 0 x)
    ∗ (bigSep Finset.univ fun p : Xfer => dutyTok ER (sCell c p) 0 0)
    ∗ bigSep Finset.univ fun p : Xfer => dutyTok ER (rCell (peer c p.1 p.2) p) 0 0)

/-- A device's part of the launch. -/
def Part (c : Dev nD) : sProp 𝕄 := iprop((bigSep Finset.univ fun k : Cel => roundState ER (Rd A B) (cellAt c k) 0) ∗ Marks (F := F) c ∗ Own (F := F) c)
/-- What it starts with. -/
def Kept (c : Dev nD) : sProp 𝕄 := iprop((bigSep Finset.univ fun k : Cel => atPos ER (cellAt c k) 0 ∅ 0) ∗ Pay (F := F) c)
def Part' (c : Dev nD) : sProp 𝕄 := iprop(∃ K : Dev nD × Cel → ℕ, records A B K ∗ Kept (F := F) c)

theorem part_fund : BI.own (ER (initOf allCells allToks)) ⊢ (|==> bigSep Finset.univ (Part A B) : sProp 𝕄) := by
  have hX (Φ : GSem nD τ sig → sProp 𝕄) : bigSep allCells Φ = bigSep Finset.univ fun c : Dev nD => bigSep Finset.univ fun k : Cel => Φ (cellAt c k) := by
    unfold allCells; rw [bigSep_map, bigSep_univ_prod]; rfl
  have hT : bigSep allToks (fun x => (dutyTok ER x.1 x.2.1 x.2.2 : sProp 𝕄)) = bigSep Finset.univ fun c : Dev nD => Own c := by
    unfold allToks; rw [bigSep_map, bigSep_univ_prod, bigSep_univ_prod]; rfl
  have hM : (bigSep Finset.univ fun c : Dev nD => Marks (F := F) c) = iprop((bigSep Finset.univ fun c : Dev nD => bigSep Finset.univ fun k : Cel => atPos ER (cellAt c k) 0 ∅ 0)
      ∗ bigSep Finset.univ fun c : Dev nD => bigSep Finset.univ fun k : Cel => (reached ER (cellAt c k) 0 : sProp 𝕄)) := by
    unfold Marks; simp only [bigSep_sep']
  have hP : bigSep Finset.univ (Part A B) = iprop((bigSep Finset.univ fun c : Dev nD => bigSep Finset.univ fun k : Cel => (roundState ER (Rd A B) (cellAt c k) 0 : sProp 𝕄))
      ∗ (bigSep Finset.univ fun c : Dev nD => Marks (F := F) c) ∗ bigSep Finset.univ fun c : Dev nD => Own (F := F) c) := by
    unfold Part; simp only [bigSep_sep']
  rw [hP, hM]
  iintro HX
  imod (Rounds.fund ER (Rd A B) allCells allToks) $$ HX with ⟨Hst, Hr, Hat, Htok⟩
  imodintro
  ihave Hst := (Entails.of_eq (hX fun g => roundState ER (Rd A B) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  iframe

theorem ownSems_eq (c : Dev nD) : (Pipeline.ownSems0 (Ix := Unit) (Name := ℕ) (U := UU) (Lvl := ℕ) (Val := Elt F) (τ := τ) osem c : sProp 𝕄)
    = iprop((bigSep Finset.univ fun p : Xfer => semVal (sCell c p) 0) ∗ bigSep Finset.univ fun p : Xfer => semVal (rCell c p) 0) := by
  unfold Pipeline.ownSems0
  rw [bigSep_univ_prod, show (Finset.univ : Finset Bool) = {false, true} from by decide, BI.bigSep_insert (by decide), bigSep_singleton]
  rfl

theorem unscopedSems_eq (c : Dev nD) : (unscopedSems0 c : sProp 𝕄) = semVal (barCell c) 0 := by
  unfold unscopedSems0; rw [bigSep_eq_bigSepL_of_eq [SemLoc.reg barS] (by decide) (by decide +kernel)]; rfl

theorem sems_all (c : Dev nD) : (bigSep Finset.univ fun k : Cel => (semVal (cellAt c k) 0 : sProp 𝕄))
    = iprop(unscopedSems0 c ∗ Pipeline.ownSems0 (Ix := Unit) (Name := ℕ) (U := UU) (Lvl := ℕ) (Val := Elt F) (τ := τ) osem c) := by
  rw [ownSems_eq, unscopedSems_eq]; exact bigSep_cels fun k : Cel => (semVal (cellAt c k) 0 : sProp 𝕄)

/-- Each device's cells get their invariants. -/
theorem part_alloc (c : Dev nD) :
    iprop(Pipeline.ownSems0 (Ix := Unit) (Name := ℕ) (U := UU) (Lvl := ℕ) (Val := Elt F) (τ := τ) osem c ∗ unscopedSems0 c ∗ Part A B c)
      ⊢ |={Set.univ}=> iprop((bigSep Finset.univ fun k : Cel => iprop(∃ κ : ℕ, cellInv ER (Rd A B) κ (cellAt c k))) ∗ Marks (F := F) c ∗ Own (F := F) c) := by
  have hi : iprop((bigSep Finset.univ fun k : Cel => semVal (cellAt c k) 0) ∗ bigSep Finset.univ fun k : Cel => roundState ER (Rd A B) (cellAt c k) 0)
      ⊢ (|={Set.univ}=> bigSep Finset.univ fun k : Cel => iprop(∃ κ : ℕ, cellInv ER (Rd A B) κ (cellAt c k)) : sProp 𝕄) := by
    rw [← bigSep_sep']
    exact (bigSep_mono fun k _ => (Rounds.body_intro ER (Rd A B) (cellAt c k)).trans inv_alloc).trans (bigSep_fupd _ _)
  rw [sems_all] at hi
  unfold Part
  iintro ⟨Hos, Hus, Hst, Hm, Ht⟩
  imod hi $$ [Hos Hus Hst] with HI
  · iframe
  imodintro
  iframe

/-- The tokens go to those who pay with them. -/
theorem toks_deal : (bigSep Finset.univ fun c : Dev nD => Own (F := F) c) ⊢ bigSep Finset.univ fun c : Dev nD => Pay (F := F) c := by
  have h1 (Φ : Dev nD → Xfer → sProp 𝕄) : (bigSep Finset.univ fun c : Dev nD => bigSep Finset.univ fun p : Xfer => Φ c p)
      = bigSep Finset.univ fun c : Dev nD => bigSep Finset.univ fun p : Xfer => Φ (peer c p.1 p.2) p := by
    rw [bigSep_swap Φ, bigSep_swap fun (c : Dev nD) (p : Xfer) => Φ (peer c p.1 p.2) p]
    exact bigSep_congr fun p _ => bigSep_univ_equiv (pidEquiv (xdim p.1 p.2)) fun c => Φ c p
  have h2 (Φ : Dev nD → Fin 4 → sProp 𝕄) : (bigSep Finset.univ fun c : Dev nD => bigSep Finset.univ fun x : Fin 4 => Φ c x)
      = bigSep Finset.univ fun c : Dev nD => bigSep Finset.univ fun x : Fin 4 => Φ (pid c x) x := by
    rw [bigSep_swap Φ, bigSep_swap fun (c : Dev nD) (x : Fin 4) => Φ (pid c x) x]
    exact bigSep_congr fun x _ => bigSep_univ_equiv (pidEquiv x) fun c => Φ c x
  have h0 (g : GSem nD τ sig) : (bigSep Finset.univ fun d : Fin 4 => (dutyTok ER g 0 d : sProp 𝕄)) ⊢ dutyTok ER g 0 0 := bigSep_elim (Finset.mem_univ 0)
  have h3 : (bigSep Finset.univ fun c : Dev nD => Own (F := F) c) ⊢ bigSep Finset.univ fun c : Dev nD => iprop((bigSep Finset.univ fun x : Fin 4 => dutyTok ER (barCell c) 0 x)
      ∗ (bigSep Finset.univ fun p : Xfer => dutyTok ER (sCell c p) 0 0) ∗ bigSep Finset.univ fun p : Xfer => (dutyTok ER (rCell c p) 0 0 : sProp 𝕄)) :=
    bigSep_mono fun c _ => by
      unfold Own
      rw [bigSep_cels fun k : Cel => bigSep Finset.univ fun d : Fin 4 => (dutyTok ER (cellAt c k) 0 d : sProp 𝕄)]
      have hk (b : Bool) : (bigSep Finset.univ fun p : Xfer => bigSep Finset.univ fun d : Fin 4 => (dutyTok ER (cellAt c (some (b, p))) 0 d : sProp 𝕄))
          ⊢ bigSep Finset.univ fun p : Xfer => (dutyTok ER (cellAt c (some (b, p))) 0 0 : sProp 𝕄) := bigSep_mono fun p _ => h0 _
      exact Laws.sep_mono .rfl (Laws.sep_mono (hk false) (hk true))
  refine h3.trans (Entails.of_eq ?_)
  unfold Pay
  rw [bigSep_sep', bigSep_sep', bigSep_sep', bigSep_sep', h2 fun c x => dutyTok ER (barCell c) 0 x, h1 fun c p => dutyTok ER (rCell c p) 0 0]

/-- All devices know all the invariants; each has its tokens. -/
theorem part_regroup : (bigSep Finset.univ fun c : Dev nD => iprop((bigSep Finset.univ fun k : Cel => iprop(∃ κ : ℕ, cellInv ER (Rd A B) κ (cellAt c k)))
      ∗ Marks (F := F) c ∗ Own (F := F) c)) ⊢ bigSep Finset.univ (Part' A B) := by
  have hM : (bigSep Finset.univ fun c : Dev nD => Marks (F := F) c) = iprop((bigSep Finset.univ fun c : Dev nD => bigSep Finset.univ fun k : Cel => atPos ER (cellAt c k) 0 ∅ 0)
      ∗ bigSep Finset.univ fun ck : Dev nD × Cel => reached ER (cellAt ck.1 ck.2) 0) := by
    unfold Marks; rw [bigSep_univ_prod fun ck : Dev nD × Cel => (reached ER (cellAt ck.1 ck.2) 0 : sProp 𝕄)]; simp only [bigSep_sep']
  have hK : (bigSep Finset.univ fun c : Dev nD => Kept (F := F) c) = iprop((bigSep Finset.univ fun c : Dev nD => bigSep Finset.univ fun k : Cel => atPos ER (cellAt c k) 0 ∅ 0)
      ∗ bigSep Finset.univ fun c : Dev nD => Pay (F := F) c) := by
    unfold Kept; rw [bigSep_sep']
  have hP (K : Dev nD × Cel → ℕ) : iprop(records A B K ∗ bigSep Finset.univ fun c : Dev nD => Kept (F := F) c) ⊢ bigSep Finset.univ (Part' A B) := by
    refine (Laws.sep_mono_left (BI.bigSep_of_persistent (Finset.univ : Finset (Dev nD)) (records A B K))).trans ?_
    rw [← bigSep_sep']
    refine bigSep_mono fun c _ => ?_
    show iprop(records A B K ∗ Kept (F := F) c) ⊢ iprop(∃ K : Dev nD × Cel → ℕ, records A B K ∗ Kept (F := F) c)
    iintro H
    iexists K; iexact H
  rw [hK] at hP
  rw [bigSep_sep', bigSep_sep', hM, ← bigSep_univ_prod (fun ck : Dev nD × Cel => iprop(∃ κ : ℕ, cellInv ER (Rd A B) κ (cellAt ck.1 ck.2)))]
  iintro ⟨HI, ⟨Hat, #HR⟩, Htok⟩
  ihave HK := (BI.bigSep_exists_pi Finset.univ (fun (ck : Dev nD × Cel) (κ : ℕ) => (cellInv ER (Rd A B) κ (cellAt ck.1 ck.2) : sProp 𝕄))) $$ HI
  icases HK with ⟨%K, #HI⟩
  ihave Htk := (toks_deal (F := F)) $$ Htok
  iapply (hP K)
  isplitr
  · unfold records; isplitl; · iexact HI
    iexact HR
  · iframe

theorem part_glob : (bigSep Finset.univ fun c => iprop(Pipeline.ownSems0 (Ix := Unit) (Name := ℕ) (U := UU) (Lvl := ℕ) (Val := Elt F) (τ := τ) osem c ∗ unscopedSems0 c ∗ Part A B c) : sProp 𝕄)
    ⊢ |={Set.univ}=> bigSep Finset.univ (Part' A B) :=
  ((bigSep_mono fun c _ => part_alloc A B c).trans (bigSep_fupd _ _)).trans (BI.fupd_mono (part_regroup A B))

/-! ## What the devices owe one another -/

theorem cell_eq {a b : Dev nD} {k l : Cel} (h : cellAt a k = cellAt b l) : a = b ∧ k = l := by
  have := cellAt_inj (a₁ := (a, k)) (a₂ := (b, l)) h; exact Prod.mk.inj this

theorem Ow_at (d : Dev nD) (g : GSem nD τ sig) : Ow d 0 g () = ∑ p : Xfer, if rCell (peer d p.1 p.2) p = g then amtOf p else 0 := by
  unfold Ow
  rw [Finset.sum_apply, Finsupp.finset_sum_apply]
  refine Finset.sum_congr rfl fun p _ => ?_
  have h0 : kv 0 p.1 ≤ sendAt p.2 := by rw [kv_zero]; exact Nat.zero_le _
  rw [if_pos h0, tallyAt_apply]
  exact if_congr ⟨fun h => h.1.symm, fun h => ⟨h.symm, rfl⟩⟩ rfl rfl

theorem owed_bar (d c : Dev nD) : Ob d (barCell c) () = ∑ x : Fin 4, if d = pid c x then 1 else 0 := by
  have h0 : Ow d 0 (barCell c) () = 0 := by
    rw [Ow_at]; exact Finset.sum_eq_zero fun p _ => if_neg fun h => by cases (cell_eq h).2
  have hx (x : Fin 4) : (tallyAt (barCell (pid d x)) () 1 : CellTallies nD τ sig Unit) (barCell c) () = if d = pid c x then 1 else 0 := by
    rw [tallyAt_apply]
    refine if_congr ⟨fun h => ?_, fun h => ?_⟩ rfl rfl
    · rw [(cell_eq h.1).1, pid_pid]
    · rw [h, pid_pid]; exact ⟨rfl, rfl⟩
  unfold Ob
  simp only [Pi.add_apply, Finsupp.add_apply, h0, hx, Fin.sum_univ_four]
  omega

theorem owed_recv (d c : Dev nD) (p : Xfer) : Ob d (rCell c p) () = if d = peer c p.1 p.2 then amtOf p else 0 := by
  have h0 : Ow d 0 (rCell c p) () = if d = peer c p.1 p.2 then amtOf p else 0 := by
    rw [Ow_at, Finset.sum_eq_single p (fun q _ hq => if_neg fun h => hq (by have := (cell_eq h).2; cases this; rfl)) (fun h => absurd (Finset.mem_univ p) h)]
    refine if_congr ⟨fun h => ?_, fun h => ?_⟩ rfl rfl
    · rw [← (cell_eq h).1, peer_peer]
    · rw [h, peer_peer]
  have hx (x : Fin 4) : (tallyAt (barCell (pid d x)) () 1 : CellTallies nD τ sig Unit) (rCell c p) () = 0 := by
    rw [tallyAt_apply]; exact if_neg fun h => by cases (cell_eq h.1).2
  unfold Ob
  simp only [Pi.add_apply, Finsupp.add_apply, h0, hx, Nat.add_zero]

theorem launch_bar (c : Dev nD) :
    tallyOn (barCell c) (launchCredit (Pipeline.owing Ob) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  rw [Finset.sum_congr rfl fun x _ => (Finset.sum_ite_eq' Finset.univ (pid c x) fun _ => 1).trans (if_pos (Finset.mem_univ _))]
  rfl

theorem launch_recv (c : Dev nD) (p : Xfer) :
    tallyOn (rCell c p) (launchCredit (Pipeline.owing Ob) 0 (rCell c p)) = (tallyAt (rCell c p) () (amtOf p) : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_ite_eq' Finset.univ (peer c p.1 p.2) fun _ => amtOf p, if_pos (Finset.mem_univ _)]

/-- A device may count on four signals and on every transfer to it. -/
theorem creds (c : Dev nD) : (Pipeline.launchCred Ob c : sProp 𝕄)
    ⊢ iprop(cred (tallyAt (barCell c) () 4) ∗ bigSep Finset.univ fun p : Xfer => cred (tallyAt (rCell c p) () (amtOf p))) := by
  have h : (Pipeline.launchCred Ob c : sProp 𝕄)
      ⊢ bigSep Finset.univ fun k : Cel => cred (tallyOn (cellAt c k) (launchCredit (Pipeline.owing Ob) 0 (cellAt c k))) := by
    unfold Pipeline.launchCred
    have e := bigSep_map (s := (Finset.univ : Finset Cel)) ⟨csem, csem_inj⟩
      (Φ := fun sm : SemLoc sig => (cred (tallyOn ((c : Thread nD τ), sm) (launchCredit (Pipeline.owing Ob) 0 ((c : Thread nD τ), sm))) : sProp 𝕄))
    have hs : (bigSep Finset.univ fun sm : SemLoc sig => (cred (tallyOn ((c : Thread nD τ), sm) (launchCredit (Pipeline.owing Ob) 0 ((c : Thread nD τ), sm))) : sProp 𝕄))
        ⊢ bigSep (Finset.univ.map ⟨csem, csem_inj⟩) fun sm : SemLoc sig => cred (tallyOn ((c : Thread nD τ), sm) (launchCredit (Pipeline.owing Ob) 0 ((c : Thread nD τ), sm))) :=
      BI.bigSep_subset (Finset.subset_univ _)
    exact hs.trans (Entails.of_eq e)
  refine h.trans ?_
  rw [bigSep_cels fun k : Cel => (cred (tallyOn (cellAt c k) (launchCredit (Pipeline.owing Ob) 0 (cellAt c k))) : sProp 𝕄), launch_bar]
  refine Laws.sep_mono .rfl ?_
  rw [bigSep_congr (Φ := fun p : Xfer => (cred (tallyOn (rCell c p) (launchCredit (Pipeline.owing Ob) 0 (rCell c p))) : sProp 𝕄)) fun p _ => by rw [launch_recv c p]]
  iintro ⟨-, H⟩
  iexact H

end

end Cert.Exchange

end
-- ==== Proof.Run.lean ====
module

public import Idealize.ShloMosaic.Lib.Pipeline.CollectiveSegs
public import proofs.«01_k».proof.Proof.Gen.KernelIdeal.Frame
public import proofs.«01_k».proof.Proof.Body
public import proofs.«01_k».proof.Proof.Deal

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The run

The kernel's call stages both arguments, runs the body and copies the result out. The body starts from what the launch
dealt and ends with every cell at zero again. -/

open Idealize.ShloMosaic.Pipeline (Dat BodyObligation)

/-- A whole matrix is one box. -/
theorem pts_whole {a b : ℕ} (c : Dev nD) (r : Ref sig .tc) (hr : r.ty.shape = ⟨2, ![a, b]⟩) (q : PosShare TreeShare) (f : r.ty.Contents (Elt F))
    (off size : Fin r.ty.shape.rank → ℕ) (h0 : ∀ i, off i = 0) (h1 : ∀ i, size i = r.ty.shape.size i) :
    (pts c r off size q f : sProp 𝕄) = (((c : Thread nD τ).loc r) ↦{q} f) := by
  unfold pts
  have e : box off size = Finset.univ := Finset.eq_univ_of_forall fun i => mem_box.2 fun k => by
    rw [h0, h1, Nat.zero_add]; exact ⟨Nat.zero_le _, (i k).isLt⟩
  rw [e]

variable (m : (ℓ : Loc nD τ sig) → Buf (Elt F) ℓ) (ρ : Dev nD → PrngReg)

/-- Device `c`'s arguments. -/
def Am (c : Dev nD) : S1024x512.Idx → F .f32 := iblk m c 0 t0_0
def Bm (c : Dev nD) : S512x1024.Idx → F .f32 := iblk m c 1 t0_0

/-- Device `c`, before the body: its part of the launch, what it may count on, the heights. -/
def start (c : Dev nD) : sProp 𝕄 :=
  iprop(Part' (Am m) (Bm m) c ∗ (cred (tallyAt (barCell c) () 4) ∗ bigSep Finset.univ fun p : Xfer => cred (tallyAt (rCell c p) () (amtOf p))) ∗ levAts L lv)
/-- And the two working buffers. -/
def Φ₀ (c : Dev nD) : sProp 𝕄 := iprop(start m c ∗ Pipeline.scopedRest spec0 c)
/-- After it: the working buffers, every cell at zero. -/
def Φ₁ (c : Dev nD) : sProp 𝕄 := iprop(Pipeline.scopedRest spec0 c ∗ bigSep Finset.univ fun k : Cel => semVal (cellAt c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Am m c
    | ⟨1, _⟩ => Bm m c
    | ⟨2, _⟩ => gf (Am m) (Bm m)
  Φ t := match t with
    | ⟨0, _⟩ => Φ₀ m c
    | ⟨_ + 1, _⟩ => Φ₁ c
  q _ := fullShare
  owed t := match t with
    | ⟨0, _⟩ => Ob c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section
variable (A : Dev nD → S1024x512.Idx → F .f32) (B : Dev nD → S512x1024.Idx → F .f32) (K : Dev nD × Cel → ℕ)
variable (Z0 O0 : S1024x1024.Idx → F .f32)

/-- The tokens and positions, with the data, make the streams before the handshake. -/
theorem strs_zero (c : Dev nD) :
    iprop((bigSep Finset.univ fun s : Stream => Data A B Z0 O0 c s 0)
      ∗ ((bigSep Finset.univ fun p : Xfer => dutyTok ER (sCell c p) 0 0) ∗ (bigSep Finset.univ fun p : Xfer => dutyTok ER (rCell (peer c p.1 p.2) p) 0 0)
        ∗ bigSep Finset.univ fun p : Xfer => atPos ER (sCell c p) 0 ∅ 0)
      ∗ (bigSep Finset.univ fun p : Xfer => cred (tallyAt (rCell c p) () (amtOf p))) ∗ bigSep Finset.univ fun p : Xfer => atPos ER (rCell c p) 0 ∅ 0)
    ⊢ bigSep Finset.univ fun s : Stream => Str0 A B Z0 O0 c s := by
  have ht : (bigSep Finset.univ fun s : Stream => bigSep Finset.univ fun j : Slot => Toks (F := F) c (s, j))
      = iprop(((bigSep Finset.univ fun p : Xfer => dutyTok ER (sCell c p) 0 0) ∗ bigSep Finset.univ fun p : Xfer => dutyTok ER (rCell (peer c p.1 p.2) p) 0 0)
        ∗ bigSep Finset.univ fun p : Xfer => atPos ER (sCell c p) 0 ∅ 0) := by
    rw [← bigSep_univ_prod fun p : Xfer => Toks (F := F) c p]; unfold Toks; rw [bigSep_sep', bigSep_sep']
  have hr : (bigSep Finset.univ fun s : Stream => bigSep Finset.univ fun j : Slot => Rcv A B c (s, j) 0)
      = iprop((bigSep Finset.univ fun p : Xfer => cred (tallyAt (rCell c p) () (amtOf p))) ∗ bigSep Finset.univ fun p : Xfer => atPos ER (rCell c p) 0 ∅ 0) := by
    rw [← bigSep_univ_prod fun p : Xfer => Rcv A B c p 0, ← bigSep_sep']
    exact bigSep_congr fun p _ => if_pos (Nat.zero_le _)
  unfold Str0
  rw [bigSep_sep', bigSep_sep', ht, hr]
  iintro ⟨H, ⟨H1, H2, H3⟩, H4, H5⟩
  iframe

theorem held_zero (c : Dev nD) :
    iprop((bigSep Finset.univ fun x : Fin 4 => dutyTok ER (barCell (pid c x)) 0 x) ∗ bigSep Finset.univ fun x : Fin 4 => barPay (F := F) (pid c x) x) ⊢ Held (F := F) c 0 := by
  have h : (bigSep Finset.univ fun x : Fin 4 => Due (F := F) c x) = iprop(Due (F := F) c 0 ∗ Due (F := F) c 1 ∗ Due (F := F) c 2 ∗ Due (F := F) c 3) :=
    bigSep_univ_eq_bigSepL [0, 1, 2, 3] (by decide) (by decide) _
  rw [← bigSep_sep']
  show bigSep Finset.univ (fun x : Fin 4 => Due (F := F) c x) ⊢ iprop(Due (F := F) c 0 ∗ Due (F := F) c 1 ∗ Due (F := F) c 2 ∗ Due (F := F) c 3 ∗ emp)
  rw [h]
  iintro ⟨H0, H1, H2, H3⟩
  iframe

/-- All a device holds before its first signal. -/
theorem begin_zero (c : Dev nD) :
    iprop((records A B K ∗ Kept (F := F) c) ∗ (cred (tallyAt (barCell c) () 4) ∗ bigSep Finset.univ fun p : Xfer => cred (tallyAt (rCell c p) () (amtOf p)))
      ∗ levAts L lv ∗ (∃ W, owes (c : Thread nD τ) (Ob c) W) ∗ aPts A c ∗ bPts B c
      ∗ pts c oR ![0, 0] ![1024, 1024] fullShare O0 ∗ pts c zR ![0, 0] ![1024, 1024] fullShare Z0 ∗ ptsAny (F := F) c rR ![0, 0] ![960, 1024])
    ⊢ Begin A B K Z0 O0 c 0 := by
  have hk : Kept (F := F) c = iprop((atPos ER (barCell c) 0 ∅ 0 ∗ (bigSep Finset.univ fun p : Xfer => atPos ER (sCell c p) 0 ∅ 0) ∗ bigSep Finset.univ fun p : Xfer => atPos ER (rCell c p) 0 ∅ 0)
      ∗ Pay (F := F) c) := by
    unfold Kept; rw [bigSep_cels fun k : Cel => (atPos ER (cellAt c k) 0 ∅ 0 : sProp 𝕄)]
  rw [hk]
  unfold Pay Begin
  iintro ⟨⟨HR, ⟨HaB, HaS, HaR⟩, HtB, HtS, HtR⟩, ⟨HcB, HcR⟩, HL, HO, HA, HB, Ho, Hz, Hr⟩
  ihave HD := (opening A B Z0 O0 c) $$ [Ho Hz Hr]
  · iframe
  icases HD with ⟨HD, HP⟩
  ihave HH := (held_zero (F := F) c) $$ [HtB HP]
  · iframe
  ihave HS := (strs_zero A B Z0 O0 c) $$ [HD HtS HtR HaS HcR HaR]
  · iframe
  isplitl [HO]; · iexact HO
  iframe

end

section
variable (c : Dev nD)

/-- A staging buffer at known contents. -/
abbrev stg (b : Ref sig .tc) (X : b.ty.Contents (Elt F)) : sProp 𝕄 := iprop(∃ f : Buf (Elt F) ((c : Thread nD τ).loc b), ⌜f = X⌝ ∗ (((c : Thread nD τ).loc b) ↦{fullShare} f))

def pre : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def post : sProp 𝕄 :=
  iprop(Φ₁ (F := F) c ∗ (dats m ρ 0 c).owesAt () t0_0.succ ∗ stg c cc0_stg0_0 (Am m c) ∗ stg c cc0_stg1_0 (Bm m c) ∗ stg c cc0_stg2_0 (gf (Am m) (Bm m)))

theorem before_a (d) : (dats m ρ 0 c).before (0 : Fin 3) t0_0 d = Am m c := by unfold Dat.before; rw [if_pos (by rfl)]; rfl
theorem before_b (d) : (dats m ρ 0 c).before (1 : Fin 3) t0_0 d = Bm m c := by unfold Dat.before; rw [if_pos (by rfl)]; rfl

theorem final_post : Final (Am m) (Bm m) c ⊢ post m ρ c := by
  unfold Final post Φ₁ aPts bPts Dat.owesAt Pipeline.owesWithin ptsAny
  rw [show (dats m ρ 0 c).owed t0_0.succ = 0 from rfl, scopedRest0_eq]
  simp only [pts_whole (a := 1024) (b := 512) c aR rfl _ _ ![0, 0] ![1024, 512] (by decide) (by decide),
    pts_whole (a := 512) (b := 1024) c bR rfl _ _ ![0, 0] ![512, 1024] (by decide) (by decide),
    pts_whole (a := 1024) (b := 1024) c oR rfl _ _ ![0, 0] ![1024, 1024] (by decide) (by decide),
    pts_whole (a := 1024) (b := 1024) c zR rfl _ _ ![0, 0] ![1024, 1024] (by decide) (by decide),
    pts_whole (a := 960) (b := 1024) c rR rfl _ _ ![0, 0] ![960, 1024] (by decide) (by decide)]
  iintro ⟨⟨%W, HO⟩, HA, HB, Ho, Hz, Hr, HC⟩
  isplitl [Hz Hr HC]
  · iframe
  isplitl [HO]
  · iexists W
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact Ho

/-- The body, from the launch to the end. -/
theorem body_sound : pre m ρ c ⊢ wp frame (wpE (Cert.KernelIdeal.defs₀ (F := F)) 𝒱₀ (c : Thread nD τ) none) Set.univ
    (cc0_body (F := F) aM (Memref.isWhole_whole _) bM (Memref.isWhole_whole _) oM (Memref.isWhole_whole _) zM (Memref.isWhole_whole _) rM (Memref.isWhole_whole _)
      cc0_scratch2 cc0_scratch3 cc0_scratch4 cc0_scratch5) (fun _ => post m ρ c) := by
  unfold pre Φ₀ start Part' Dat.owesAt Pipeline.owesWithin
  rw [scopedRest0_eq]
  simp only [before_a, before_b]
  rw [show (dats m ρ 0 c).owed t0_0.castSucc = Ob c from rfl]
  iintro ⟨⟨⟨⟨%K, HP⟩, HC, HL⟩, ⟨%Z0, Hz⟩, ⟨%R0, Hr⟩⟩, ⟨%W, -, HO⟩, ⟨%d0, %f0, %h0, HA⟩, ⟨%d1, %f1, %h1, HB⟩, ⟨%d2, %O0, -, Ho⟩⟩
  subst h0; subst h1
  have hb := begin_zero (Am m) (Bm m) K Z0 O0 c
  unfold aPts bPts ptsAny at hb
  simp only [pts_whole (a := 1024) (b := 512) c aR rfl _ _ ![0, 0] ![1024, 512] (by decide) (by decide),
    pts_whole (a := 512) (b := 1024) c bR rfl _ _ ![0, 0] ![512, 1024] (by decide) (by decide),
    pts_whole (a := 1024) (b := 1024) c oR rfl _ _ ![0, 0] ![1024, 1024] (by decide) (by decide),
    pts_whole (a := 1024) (b := 1024) c zR rfl _ _ ![0, 0] ![1024, 1024] (by decide) (by decide),
    pts_whole (a := 960) (b := 1024) c rR rfl _ _ ![0, 0] ![960, 1024] (by decide) (by decide)] at hb
  ihave HB := hb $$ [HP HC HL HO HA HB Ho Hz Hr]
  · isplitl [HP]; · iexact HP
    isplitl [HC]; · iexact HC
    isplitl [HL]; · iexact HL
    isplitl [HO]; · iexists W; iexact HO
    isplitl [HA]; · iexact HA
    isplitl [HB]; · iexact HB
    isplitl [Ho]; · iexact Ho
    isplitl [Hz]; · iexact Hz
    iexists R0; iexact Hr
  iapply (wp_fupd _ _ _ _ _)
  iapply (body_run (A := Am m) (B := Bm m) (K := K) (Z0 := Z0) (O0 := O0) (c := c) fun _ => iprop(|={Set.univ}=> post m ρ c)) $$ HB
  iintro HI
  imod (closing (Am m) (Bm m) Z0 O0 K c) $$ HI with HF
  imodintro
  iapply (final_post m ρ c); iexact HF
set_option maxRecDepth 16384 in
theorem body_obligation : BodyObligation (dats m ρ 0 c) (Cert.KernelIdeal.defs₀ (F := F)) 𝒱₀ () Set.univ := fun t => by
  rw [fin_N0 t]
  rw [bigSep_W0, bigSep_W0]
  simp only [owns_whole_eq]
  have hpre : pre m ρ c = iprop((dats m ρ 0 c).Φ t0_0.castSucc ∗ (dats m ρ 0 c).owesAt () t0_0.castSucc
      ∗ (∃ d, stg c cc0_stg0_0 ((dats m ρ 0 c).before (0 : Fin 3) t0_0 d)) ∗ (∃ d, stg c cc0_stg1_0 ((dats m ρ 0 c).before (1 : Fin 3) t0_0 d))
      ∗ (∃ d, stg c cc0_stg2_0 ((dats m ρ 0 c).before (2 : Fin 3) t0_0 d))) := rfl
  have hpost : post m ρ c = iprop((dats m ρ 0 c).Φ t0_0.succ ∗ (dats m ρ 0 c).owesAt () t0_0.succ
      ∗ stg c cc0_stg0_0 ((dats m ρ 0 c).after (0 : Fin 3) t0_0) ∗ stg c cc0_stg1_0 ((dats m ρ 0 c).after (1 : Fin 3) t0_0)
      ∗ stg c cc0_stg2_0 ((dats m ρ 0 c).after (2 : Fin 3) t0_0)) := rfl
  have hd : Cert.KernelIdeal.defs₀ (F := F) Proc.tc 0 (t0_0, cfg0.slots t0_0) = cc0_body (F := F) aM (Memref.isWhole_whole _) bM (Memref.isWhole_whole _) oM (Memref.isWhole_whole _)
      zM (Memref.isWhole_whole _) rM (Memref.isWhole_whole _) cc0_scratch2 cc0_scratch3 cc0_scratch4 cc0_scratch5 := rfl
  have h := body_sound m ρ c
  rw [hpre, hpost, ← hd] at h
  refine Eq.mp ?_ h
  congr 1

/-! ## The launch's conditions -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred Ob c ∗ prngReg c (ρ c) ∗ Part' (Am m) (Bm m) c)
      ⊢ |={Set.univ}=> iprop(start m c ∗ emp) := by
  unfold start
  iintro ⟨-, HL, HC, -, HP⟩
  ihave HC := (creds (F := F) c) $$ HC
  imodintro
  iframe

theorem first_intro :
    iprop(start m c ∗ Pipeline.prefHeld Pipeline.Prefetch.none c (fun _ => fullShare.right) (fun k => k.elim0) ∗ Pipeline.scopedRest cfg0.spec c)
      ⊢ (dats m ρ 0 c).Φ 0 := by
  show iprop(start m c ∗ Pipeline.prefHeld Pipeline.Prefetch.none c (fun _ => fullShare.right) (fun k => k.elim0) ∗ Pipeline.scopedRest cfg0.spec c)
    ⊢ iprop(start m c ∗ Pipeline.scopedRest spec0 c)
  iintro ⟨Hs, -, Hr⟩
  isplitl [Hs]; · iexact Hs
  iexact Hr

theorem last_exit : (dats m ρ 0 c).Φ (Fin.last cfg0.N) ⊢ iprop(unscopedSems0 c ∗ Pipeline.ownSems0 osem c ∗ Pipeline.scopedRest cfg0.spec c) := by
  show iprop(Pipeline.scopedRest spec0 c ∗ bigSep Finset.univ fun k : Cel => semVal (cellAt c k) 0)
    ⊢ iprop(unscopedSems0 c ∗ Pipeline.ownSems0 osem c ∗ Pipeline.scopedRest spec0 c)
  rw [sems_all]
  iintro ⟨Hr, Hu, Ho⟩
  iframe

/-- Staging copies may be waited for whatever a device still owes: their cells are below all others. -/
theorem wait_stage (q : DmaSem sig) (hq : dec (.dma q) = none) (O : CellTallies nD τ sig Unit) (hO : O = Ob c ∨ O = 0) :
    (levAts L lv : sProp 𝕄) ⊢ MayWait (c : Thread nD τ) (.dma q) () O := by
  have hz : lvN (.dma q) = 0 := by unfold lvN; rw [hq]
  rcases hO with rfl | rfl
  · have hpos : ∀ (g : GSem nD τ sig) (u : Unit), 0 < Ob c g u → ∃ (d : Dev nD) (k : Cel), g = cellAt d k ∧ 0 < lvN (csem k) := fun g u hg => by
      have ht : ∀ x : Fin 4, 0 < (tallyAt (barCell (pid c x)) () 1 : CellTallies nD τ sig Unit) g u → g = barCell (pid c x) := fun x hx => by
        by_contra hn
        rw [tallyAt_apply, if_neg fun h => hn h.1] at hx; exact Nat.lt_irrefl 0 hx
      have hb : 0 < lvN (csem none) := by rw [lvN_csem]; exact Nat.one_pos
      unfold Ob at hg
      simp only [Pi.add_apply, Finsupp.add_apply] at hg
      rcases Nat.eq_zero_or_pos (Ow c 0 g u) with h | h
      · have hx : ∃ x : Fin 4, 0 < (tallyAt (barCell (pid c x)) () 1 : CellTallies nD τ sig Unit) g u := by
          by_contra hn
          have hn' := fun x => Nat.le_zero.mp (not_lt.mp fun h => hn ⟨x, h⟩)
          rw [h, hn' 0, hn' 1, hn' 2, hn' 3] at hg; exact Nat.lt_irrefl 0 hg
        obtain ⟨x, hx⟩ := hx
        exact ⟨pid c x, none, ht x hx, hb⟩
      · obtain ⟨p, -, hp⟩ := Ow_pos h
        refine ⟨_, _, hp, ?_⟩
        rw [lvN_csem]; exact Nat.lt_trans Nat.one_pos (lev_pos p.2)
    refine MayOwe.of_cut (L := L) (lev := lv) 0 (fun p hp => by rw [Finset.mem_singleton.mp hp, L_tc]; exact Finset.mem_singleton_self _)
      (fun g u hg => by obtain ⟨d, k, rfl, -⟩ := hpos g u hg; rw [L_tc]; exact Finset.mem_singleton_self _)
      (fun p hp => by rw [Finset.mem_singleton.mp hp]; exact hz.le)
      (fun g u hg => by obtain ⟨d, k, rfl, h⟩ := hpos g u hg; exact h)
  · rw [MayWait_zero]; iintro -; iempintro

theorem waits : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> rfl) _ (by
      rcases t with ⟨_ | _, ht⟩
      · exact Or.inl rfl
      · exact Or.inr rfl)

end

/-- What the arrays hold in the end. -/
def Ends (r : PUnit × MemSt nD τ sig (Elt F)) : Prop :=
  ∀ c : Dev nD, ∀ w : Fin cfg0.W, r.2.mem ((cfg0.win w).arr.view.loc (c : Thread nD τ)) = (dats m ρ 0 c).arrAt w cfg0.N

set_option maxRecDepth 16384 in
/-- From any memory with zero counters the sixteen devices finish, each with the computed result, the arguments as they
were and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := Ob) (howed₀ := fun _ => rfl) (howedN := fun _ => rfl)
    (L := L) (lv := lv) (hL := L_of_ne) (hwaits := waits m ρ)
    (G := Part (Am m) (Bm m)) (G' := Part' (Am m) (Bm m)) (u₀ := u₀)
    (hu₀ := by
      unfold u₀
      iintro Hu
      ihave H := (ownU_pair _ _) $$ Hu
      icases H with ⟨HP, HX⟩
      imod (part_fund (Am m) (Bm m)) $$ HX with HG
      imodintro
      isplitl [HP] <;> iassumption)
    (hglob := part_glob (Am m) (Bm m))
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Frames.lean ====
module

public import proofs.«01_k».proof.Proof.Run

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # What a run leaves

Every run ends with the arguments as they were, every counter at zero, and the result array of each device at the
activation of the whole sums. -/

open Idealize.ShloMosaic.Pipeline (Dat)

variable (m : (ℓ : Loc nD τ sig) → Buf (Elt F) ℓ) (ρ : Dev nD → PrngReg)

/-- The output window is the whole result array. -/
theorem cover2 (i : S1024x1024.Idx) : ∃ t : Fin cfg0.N, (cfg0.win 2).flush t = true ∧ i ∈ ((cfg0.win 2).blk t).view.set := by
  refine ⟨t0_0, by decide +kernel, ?_⟩
  show i ∈ ((View.whole main_v1).slice (win0_2.rect t0_0)).set
  rw [View.set_slice_whole, Rect.mem_set_unit]
  have e : ∀ a : Fin 2, win0_2.index t0_0 a * win0_2.size a = 0 ∧ win0_2.xsize (grid0.coords t0_0) a = 1024 := by decide +kernel
  have hi : ∀ a : Fin 2, (i a : ℕ) < 1024 := fun a => by fin_cases a <;> exact (i _).isLt
  intro a
  show win0_2.index t0_0 a * win0_2.size a ≤ (i a : ℕ) ∧ (i a : ℕ) < win0_2.index t0_0 a * win0_2.size a + win0_2.xsize (grid0.coords t0_0) a
  rw [(e a).1, (e a).2, Nat.zero_add]
  exact ⟨Nat.zero_le _, hi a⟩

/-- Cutting the window out of a result is reading the result there. -/
theorem window2 (f : S1024x1024.Idx → F .f32) :
    (cfg0.win 2).cut (cfg0.grid.coords t0_0) f = ((cfg0.win 2).blk t0_0).view.read (Elt F) f := by
  funext x
  refine congrArg f (funext fun a => Fin.ext ?_)
  fin_cases a
  · show _ = 0 * 1024 + 1 * _
    rw [Nat.zero_mul, Nat.zero_add, Nat.one_mul]
  · show _ = 0 * 1024 + 1 * _
    rw [Nat.zero_mul, Nat.zero_add, Nat.one_mul]

theorem flushed2 (c : Dev nD) (t : Fin cfg0.N) :
    (dats m ρ 0 c).flushed 2 t = ((cfg0.win 2).blk t).view.read (Elt F) (gf (Am m) (Bm m)) := by
  obtain rfl := fin_N0 t
  have ha : (dats m ρ 0 c).after 2 t0_0 = gf (Am m) (Bm m) := rfl
  unfold Dat.flushed
  rw [ha]
  exact window2 _

/-- The result array ends at the activation of the whole sums. -/
theorem result_eq (c : Dev nD) : (dats m ρ 0 c).arrAt 2 cfg0.N = gf (Am m) (Bm m) :=
  (dats m ρ 0 c).arrAt_eq_of_cover 2 (gf (Am m) (Bm m)) (fun t _ => flushed2 m ρ c t) cover2

/-- A device's blocks of the arguments are its whole argument arrays. -/
theorem Am_eq (c : Dev nD) : Am m c = m ((c : Thread nD τ).loc main_arg0) := by
  funext i
  show m ((c : Thread nD τ).loc main_arg0) (((cfg0.win 0).blk t0_0).view.emb i) = _
  refine congrArg _ (funext fun a => Fin.ext ?_)
  fin_cases a
  · exact (Nat.zero_add _).trans (by first | exact Nat.one_mul _ | exact Nat.mul_one _ | rfl)
  · exact (Nat.zero_add _).trans (by first | exact Nat.one_mul _ | exact Nat.mul_one _ | rfl)
theorem Bm_eq (c : Dev nD) : Bm m c = m ((c : Thread nD τ).loc main_arg1) := by
  funext i
  show m ((c : Thread nD τ).loc main_arg1) (((cfg0.win 1).blk t0_0).view.emb i) = _
  refine congrArg _ (funext fun a => Fin.ext ?_)
  fin_cases a
  · exact (Nat.zero_add _).trans (by first | exact Nat.one_mul _ | exact Nat.mul_one _ | rfl)
  · exact (Nat.zero_add _).trans (by first | exact Nat.one_mul _ | exact Nat.mul_one _ | rfl)

/-- The final state of every run. -/
theorem run_ends : θ_run defs (onTc (τ := τ) (main (F := F))) ⟨m, fun _ => 0, ρ⟩ fun r =>
    (∀ c : Dev nD, r.2.mem ((c : Thread nD τ).loc main_v1) = gf (Am m) (Bm m)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => ⟨(h.1 c 2).trans (result_eq m ρ c), (h.1 c 0).trans ((dats m ρ 0 c).arrAt_in 0 rfl _),
    (h.1 c 1).trans ((dats m ρ 0 c).arrAt_in 1 rfl _)⟩, h.2⟩) (run_main m ρ)

end Cert.Exchange

end
-- ==== Proof.Reference.lean ====
module

public import Idealize.ShloMosaic.Lib.StableHlo.Run
public import Idealize.ShloMosaic.Lib.Quiescent
public import proofs.«01_k».proof.ReferenceIdeal
public import proofs.«01_k».proof.Proof.Gen.ReferenceIdeal

@[expose] public section

noncomputable section

namespace Cert.Plain

open Cert.ReferenceIdeal Cert.ReferenceIdeal.Gen
open Idealize.ShloMosaic Idealize.ShloMosaic.TcCoe Idealize.ShloMosaic.StableHlo Idealize.SL.Sem

variable {F : FTy → Type} [FloatOps F]

/-! # The run of the reference

One device multiplies the whole matrices and applies the activation to every element. -/

/-- A number at every element. -/
abbrev spread (w : BitVec 32) : FVec F S1024x1024 .f32 := broadcastInDim S1024x1024 ![] bcast_S_S1024x1024 (constant S_ .f32 w)

/-- The product of the whole matrices. -/
abbrev prod (a : FVec F S1024x8192 .f32) (b : FVec F S8192x1024 .f32) : FVec F S1024x1024 .f32 :=
  Host.dotGeneral dot_S1024x8192_S8192x1024_S1024x1024_1_0_0_1_n_n none a b

/-- The activation of every element. -/
abbrev act (z : FVec F S1024x1024 .f32) : FVec F S1024x1024 .f32 :=
  mulf (mulf (spread 0x3F000000#32) z)
    (addf (spread 0x3F800000#32) (Host.tanh (mulf (spread 0x3F4C422A#32) (addf z (mulf (mulf (mulf (spread 0x3D372713#32) z) z) z)))))

/-- The program's operations in order. -/
abbrev steps : List (HloOp τ sig (Elt F)) :=
  [ binary main_arg0 main_arg1 main_v0 prod,
    nullary main_cst (constant S_ .f32 0x3F000000#32),
    unary main_cst main_v1 (broadcastInDim S1024x1024 ![] bcast_S_S1024x1024),
    binary main_v1 main_v0 main_v2 mulf,
    nullary main_cst_0 (constant S_ .f32 0x3D372713#32),
    unary main_cst_0 main_v3 (broadcastInDim S1024x1024 ![] bcast_S_S1024x1024),
    binary main_v3 main_v0 main_v4 mulf,
    binary main_v4 main_v0 main_v5 mulf,
    binary main_v5 main_v0 main_v6 mulf,
    binary main_v0 main_v6 main_v7 addf,
    nullary main_cst_1 (constant S_ .f32 0x3F4C422A#32),
    unary main_cst_1 main_v8 (broadcastInDim S1024x1024 ![] bcast_S_S1024x1024),
    binary main_v8 main_v7 main_v9 mulf,
    unary main_v9 main_v10 Host.tanh,
    nullary main_cst_2 (constant S_ .f32 0x3F800000#32),
    unary main_cst_2 main_v11 (broadcastInDim S1024x1024 ![] bcast_S_S1024x1024),
    binary main_v11 main_v10 main_v12 addf,
    binary main_v2 main_v12 main_v13 mulf ]

theorem main_steps (c : Dev nD) : main (F := F) c = seq steps := rfl

theorem after_out (V : Valuation τ sig (Elt F)) :
    after steps V (main_v13 : DevRef τ sig) = act (prod (V (main_arg0 : DevRef τ sig)) (V (main_arg1 : DevRef τ sig))) := by
  after_results
theorem after_left (V : Valuation τ sig (Elt F)) : after steps V (main_arg0 : DevRef τ sig) = V (main_arg0 : DevRef τ sig) := by
  after_results
theorem after_right (V : Valuation τ sig (Elt F)) : after steps V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem steps_sub : (steps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub .., unary_bufs_sub ..,
    nullary_bufs_sub .., unary_bufs_sub .., binary_bufs_sub .., binary_bufs_sub ..⟩

/-- The final state of every run. -/
theorem run_ends (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v13)
          = act (prod (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v13).trans (after_out _), (h c main_arg0).trans (after_left _),
      (h c main_arg1).trans (after_right _)⟩, sem_eq_zero_of_no_sems (by decide) r.2⟩)
    (run_seq no_scoped_refs no_scoped_sems defs main (fun _ => steps) main_steps (fun _ => steps_sub) m ρ)

end Cert.Plain

end
-- ==== Proof.Sums.lean ====
module

public import Idealize.ShloMosaic.Lib.Pointwise
public import proofs.«01_k».proof.Proof.Content
public import proofs.«01_k».proof.Proof.Reference

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! # The sums, over the extended reals

Before any round a device holds its own products; each round adds the partner's partial sums, so that after four rounds
every device's product is there once. The whole product over the long dimension is the sum of the sixteen. -/

/-- The value type of the exact reading. -/
local notation "𝕀" => Idealize.ShloMosaic.Ideal

theorem hh_zero : ∀ g : Fin 3, hh g 0 = if g = 2 then 128 else 192 := by decide

theorem dot0_sum (g : Fin 3) (a b : ℕ → ℕ → EReal) {i j : ℕ} (hi : i < hh g 0) (hj : j < 256) :
    dot0 (F := 𝕀) g a b i j = ∑ k : Fin 512, a i k * b k j := by
  rw [hh_zero] at hi
  unfold dot0
  split
  · rw [if_pos ‹_›] at hi
    pointwise [k0_pay4, k0_pay3]
    exact Finset.sum_congr rfl fun k _ =>
      congrArg₂ (fun p q => a p k * b k q) (ix_val0 (a := 128) (b := 256) hi) (ix_val1 (a := 128) (b := 256) hj)
  · rw [if_neg ‹_›] at hi
    pointwise [k0_pay1]
    exact Finset.sum_congr rfl fun k _ =>
      congrArg₂ (fun p q => a p k * b k q) (ix_val0 (a := 192) (b := 256) hi) (ix_val1 (a := 192) (b := 256) hj)

theorem keep0_sum (g : Fin 3) (a b : ℕ → ℕ → EReal) {i j : ℕ} (hi : i < hh g 0) (hj : j < 1024) :
    keep0 (F := 𝕀) g a b i j = ∑ k : Fin 512, a i k * b k j := by
  rw [hh_zero] at hi
  unfold keep0
  split
  · rw [if_pos ‹_›] at hi
    pointwise [k0_pay17, k0_pay16]
    exact Finset.sum_congr rfl fun k _ =>
      congrArg₂ (fun p q => a p k * b k q) (ix_val0 (a := 128) (b := 1024) hi) (ix_val1 (a := 128) (b := 1024) hj)
  · rw [if_neg ‹_›] at hi
    pointwise [k0_pay14]
    exact Finset.sum_congr rfl fun k _ =>
      congrArg₂ (fun p q => a p k * b k q) (ix_val0 (a := 192) (b := 1024) hi) (ix_val1 (a := 192) (b := 1024) hj)

/-- Every row lies on its rail. -/
theorem rail_holds {i : ℕ} (h : i < 1024) : base (rowRail i) ≤ i ∧ i < base (rowRail i) + rows (rowRail i) := by
  unfold rowRail
  split
  · exact ⟨Nat.zero_le _, by show i < 0 + 384; omega⟩
  · split
    · exact ⟨by show 384 ≤ i; omega, by show i < 384 + 384; omega⟩
    · exact ⟨by show 768 ≤ i; omega, by show i < 768 + 256; omega⟩

theorem cur_zero : ∀ (c : Dev nD) (g : Fin 3), cur c g 0 = base g ∧ rows g = 2 * hh g 0 := by decide +kernel

section
variable (A : Dev nD → S1024x512.Idx → EReal) (B : Dev nD → S512x1024.Idx → EReal)

/-- A device's own product. -/
theorem W_zero (c : Dev nD) {i j : ℕ} (hi : i < 1024) (hj : j < 1024) :
    W (F := 𝕀) A B 0 c i j = ∑ k : Fin 512, A c (ix 1024 512 i k) * B c (ix 512 1024 k j) := by
  have hr := rail_holds hi
  have hz := cur_zero c (rowRail i)
  have hv : (oth c (rowRail i) 0 = cur c (rowRail i) 0 ∧ cur c (rowRail i) 1 = cur c (rowRail i) 0 + hh (rowRail i) 0)
      ∨ (cur c (rowRail i) 1 = cur c (rowRail i) 0 ∧ oth c (rowRail i) 0 = cur c (rowRail i) 0 + hh (rowRail i) 0) := halves c (rowRail i) 0
  rw [W]
  split
  · rw [dot0_sum _ _ _ (by omega) (Nat.mod_lt _ (by omega))]
    refine Finset.sum_congr rfl fun k _ => ?_
    rw [Nat.add_sub_cancel' (by omega), Nat.div_add_mod]
  · rw [keep0_sum _ _ _ (by omega) hj]
    refine Finset.sum_congr rfl fun k _ => ?_
    rw [Nat.add_sub_cancel' (by omega)]

/-- The devices whose products a device holds, on a rail, before a round. -/
def held : ℕ → Dev nD → Fin 3 → List (Dev nD)
  | 0, c, _ => [c]
  | r + 1, c, g => held r c g ++ held r (par c g r) g

/-- After the last round these are all devices, each once. -/
theorem held_all : ∀ (c : Dev nD) (g : Fin 3), (held 4 c g).Perm (List.finRange 16) := by decide +kernel

theorem W_held (i j : ℕ) : ∀ (r : ℕ) (c : Dev nD), W (F := 𝕀) A B r c i j = ((held r c (rowRail i)).map fun d => W (F := 𝕀) A B 0 d i j).sum
  | 0, c => by simp [held]
  | r + 1, c => by
    rw [held, List.map_append, List.sum_append, ← W_held i j r c, ← W_held i j r (par c (rowRail i) r)]
    rfl

/-- After the last round a device holds the sum of all products. -/
theorem W_four (c : Dev nD) {i j : ℕ} (hi : i < 1024) (hj : j < 1024) :
    W (F := 𝕀) A B 4 c i j = ∑ d : Fin 16, ∑ k : Fin 512, A d (ix 1024 512 i k) * B d (ix 512 1024 k j) := by
  rw [W_held, ((held_all c (rowRail i)).map _).sum_eq, ← Fin.sum_univ_def]
  exact Finset.sum_congr rfl fun d _ => W_zero A B d hi hj

end

/-- A sum over the long dimension, device by device. -/
theorem sum_split (f : ℕ → EReal) : ∑ k : Fin 8192, f k = ∑ d : Fin 16, ∑ k : Fin 512, f (d * 512 + k) := by
  rw [← Fintype.sum_prod_type' (fun (d : Fin 16) (k : Fin 512) => f (d * 512 + k))]
  refine (Fintype.sum_equiv (finProdFinEquiv (m := 16) (n := 512)) _ _ fun x => congrArg f ?_).symm
  show (x.1 : ℕ) * 512 + x.2 = x.2 + 512 * x.1
  omega

/-- The activation is the same function of one element. -/
theorem act_one (z : FVec 𝕀 S1024x1024 .f32) (x : S1024x1024.Idx) : Cert.Plain.act (F := 𝕀) z x = gelu1 (F := 𝕀) (z x) := rfl

/-- The kernel's result is the reference's. -/
theorem gf_whole (X : FVec 𝕀 Cert.ReferenceIdeal.S1024x8192 .f32) (Y : FVec 𝕀 Cert.ReferenceIdeal.S8192x1024 .f32)
    (A : Dev nD → S1024x512.Idx → EReal) (B : Dev nD → S512x1024.Idx → EReal)
    (hA : ∀ c, A c = Layout.block ⟨2, ![1024, 512]⟩ ⟨2, ![1024, 8192]⟩ 1 16 c X)
    (hB : ∀ c, B c = Layout.block ⟨2, ![512, 1024]⟩ ⟨2, ![8192, 1024]⟩ 0 16 c Y) :
    gf (F := 𝕀) A B = Cert.Plain.act (F := 𝕀) (Cert.Plain.prod X Y) := by
  funext x
  rw [act_one]
  unfold gf
  refine congrArg _ ?_
  have h0 : (x 0 : ℕ) < 1024 := (x 0).isLt
  have h1 : (x 1 : ℕ) < 1024 := (x 1).isLt
  rw [W_four A B _ h0 h1]
  have hp : Cert.Plain.prod X Y x = ∑ k : Fin 8192, X (ix 1024 8192 (x 0) k) * Y (ix 8192 1024 k (x 1)) := by
    pointwise [Cert.Plain.prod]
    refine Finset.sum_congr rfl fun k _ => congrArg₂ _ (congrArg X ?_) (congrArg Y ?_)
    · exact (ix_eq rfl rfl).symm
    · exact (ix_eq rfl rfl).symm
  rw [hp, sum_split fun k => X (ix 1024 8192 (x 0) k) * Y (ix 8192 1024 k (x 1))]
  refine Finset.sum_congr rfl fun d _ => Finset.sum_congr rfl fun k _ => ?_
  rw [hA, hB, Layout.block_apply, Layout.block_apply]
  refine congrArg₂ _ (congrArg X (ix_eq (a := 1024) (b := 8192) ?_ ?_).symm) (congrArg Y (ix_eq (a := 8192) (b := 1024) ?_ ?_).symm)
  · exact ix_val0 (a := 1024) (b := 512) (j := k) h0
  · exact congrArg (d.val * 512 + ·) (ix_val1 (a := 1024) (b := 512) (i := x 0) k.isLt)
  · exact congrArg (d.val * 512 + ·) (ix_val0 (a := 512) (b := 1024) (j := x 1) k.isLt)
  · exact ix_val1 (a := 512) (b := 1024) (i := k) h1

end Cert.Exchange

end
-- ==== Proof.lean ====
/- The claims about the kernel and its reference: each leaves its arguments as they were and every counter at zero, and
   over the extended reals every device of the kernel ends with the reference's whole result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Reference
public import proofs.«01_k».proof.Proof.Sums

@[expose] public section

noncomputable section

namespace Cert.Proof

open Idealize.ShloMosaic Idealize.SL.Sem

/-- The kernel, for any float values: its arguments end as they were and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => (h.1 c).2, h.2⟩) (Cert.Exchange.run_ends m ρ)

/-- The kernel over the extended reals. -/
theorem frame_ideal : Cert.quiescent_KernelIdeal := fun m ρ _ => frame_any (F := Ideal) m ρ

/-- The two printings of the kernel's body are one text, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun ℓ => funext fun x => ?_)
  match ℓ, x with
  | 0, (t, s) => rfl
  | ⟨_ + 1, h⟩, _ => exact absurd h (Nat.not_lt.2 (Nat.le_add_left _ _))
/-- and so are the whole programs. -/
theorem tables_eq {F : FTy → Type} [FloatOps F] : Cert.Kernel.defs (F := F) = Cert.KernelIdeal.defs (F := F) :=
  congrArg (Pipeline.defs Cert.KernelIdeal.pcfgs) bodies_eq

/-- The kernel as it runs. -/
theorem frame_kernel : Cert.quiescent_Kernel := by
  intro m ρ _
  rw [tables_eq]
  exact frame_any (F := Bits) m ρ

/-- The reference over the extended reals. -/
theorem frame_reference : Cert.quiescent_ReferenceIdeal := fun m ρ _ =>
  (θ_run Cert.ReferenceIdeal.defs _ _).mono (fun _ h => ⟨fun c => (h.1 c).2, h.2⟩) (Cert.Plain.run_ends (F := Ideal) m ρ)

/-- Every device of the kernel ends with the reference's result. -/
theorem same_result : Cert.algebraic_KernelIdeal_ReferenceIdeal := by
  intro m ρ m' ρ' _ hm
  refine ⟨_, ?_, (θ_run Cert.ReferenceIdeal.defs _ _).mono (fun _ h => h.1 0) (Cert.Plain.run_ends (F := Ideal) m' ρ')⟩
  refine (θ_run Cert.KernelIdeal.defs _ _).mono (fun r h c => ⟨(h.1 c).1.trans ?_, (h.1 c).2⟩) (Cert.Exchange.run_ends (F := Ideal) m ρ)
  exact Cert.Exchange.gf_whole _ _ _ _ (fun d => (Cert.Exchange.Am_eq m d).trans (hm d).1) fun d => (Cert.Exchange.Bm_eq m d).trans (hm d).2

theorem claim : Cert.Claim :=
  ⟨Cert.Kernel.Gen.facts, Cert.KernelIdeal.Gen.facts, Cert.ReferenceIdeal.Gen.facts,
    frame_kernel, frame_ideal, frame_reference, trivial, same_result⟩

end Cert.Proof

end
